-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_RefGateUpIdeal (m : (ℓ : Loc Cert.RefGateUpIdeal.nD Cert.RefGateUpIdeal.τ Cert.RefGateUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_RefEvenInIdeal (m : (ℓ : Loc Cert.RefEvenInIdeal.nD Cert.RefEvenInIdeal.τ Cert.RefEvenInIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_RefOddInIdeal (m : (ℓ : Loc Cert.RefOddInIdeal.nD Cert.RefOddInIdeal.τ Cert.RefOddInIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_LoraIn (m : (ℓ : Loc Cert.LoraIn.nD Cert.LoraIn.τ Cert.LoraIn.sig) → Buf (Elt Bits) ℓ) : Prop :=
  True

def Pre_LoraInIdeal (m : (ℓ : Loc Cert.LoraInIdeal.nD Cert.LoraInIdeal.τ Cert.LoraInIdeal.sig) → Buf (Elt Ideal) ℓ) : Prop :=
  True

def Pre_RefLoraInIdeal (m : (ℓ : Loc Cert.RefLoraInIdeal.nD Cert.RefLoraInIdeal.τ Cert.RefLoraInIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_RefTailIdeal (m : (ℓ : Loc Cert.RefTailIdeal.nD Cert.RefTailIdeal.τ Cert.RefTailIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_RefMidIdeal (m : (ℓ : Loc Cert.RefMidIdeal.nD Cert.RefMidIdeal.τ Cert.RefMidIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_RefPrepIdeal (m : (ℓ : Loc Cert.RefPrepIdeal.nD Cert.RefPrepIdeal.τ Cert.RefPrepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_RefGateUpIdeal [hRefGateUpIdeal : Cert.RefGateUpIdeal.Facts] : Prop :=
  ∀ (m : (ℓ : Loc Cert.RefGateUpIdeal.nD Cert.RefGateUpIdeal.τ Cert.RefGateUpIdeal.sig) → Buf (Elt Ideal) ℓ) (g : Dev Cert.RefGateUpIdeal.nD → PrngReg), Pre_RefGateUpIdeal m →
    θ_run (Cert.RefGateUpIdeal.defs (F := Ideal)) (onTc (τ := Cert.RefGateUpIdeal.τ) (Cert.RefGateUpIdeal.main (F := Ideal))) ⟨m, fun _ => 0, g⟩ (fun r => (∀ c : Dev Cert.RefGateUpIdeal.nD,
      r.2.mem ((c.tc : Thread Cert.RefGateUpIdeal.nD Cert.RefGateUpIdeal.τ).loc Cert.RefGateUpIdeal.main_arg0) = m ((c.tc : Thread Cert.RefGateUpIdeal.nD Cert.RefGateUpIdeal.τ).loc Cert.RefGateUpIdeal.main_arg0)
      ∧ r.2.mem ((c.tc : Thread Cert.RefGateUpIdeal.nD Cert.RefGateUpIdeal.τ).loc Cert.RefGateUpIdeal.main_arg1) = m ((c.tc : Thread Cert.RefGateUpIdeal.nD Cert.RefGateUpIdeal.τ).loc Cert.RefGateUpIdeal.main_arg1)
      ∧ r.2.mem ((c.tc : Thread Cert.RefGateUpIdeal.nD Cert.RefGateUpIdeal.τ).loc Cert.RefGateUpIdeal.main_arg2) = m ((c.tc : Thread Cert.RefGateUpIdeal.nD Cert.RefGateUpIdeal.τ).loc Cert.RefGateUpIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_RefEvenInIdeal [hRefEvenInIdeal : Cert.RefEvenInIdeal.Facts] : Prop :=
  ∀ (m : (ℓ : Loc Cert.RefEvenInIdeal.nD Cert.RefEvenInIdeal.τ Cert.RefEvenInIdeal.sig) → Buf (Elt Ideal) ℓ) (g : Dev Cert.RefEvenInIdeal.nD → PrngReg), Pre_RefEvenInIdeal m →
    θ_run (Cert.RefEvenInIdeal.defs (F := Ideal)) (onTc (τ := Cert.RefEvenInIdeal.τ) (Cert.RefEvenInIdeal.main (F := Ideal))) ⟨m, fun _ => 0, g⟩ (fun r => (∀ c : Dev Cert.RefEvenInIdeal.nD,
      r.2.mem ((c.tc : Thread Cert.RefEvenInIdeal.nD Cert.RefEvenInIdeal.τ).loc Cert.RefEvenInIdeal.main_arg0) = m ((c.tc : Thread Cert.RefEvenInIdeal.nD Cert.RefEvenInIdeal.τ).loc Cert.RefEvenInIdeal.main_arg0)
      ∧ r.2.mem ((c.tc : Thread Cert.RefEvenInIdeal.nD Cert.RefEvenInIdeal.τ).loc Cert.RefEvenInIdeal.main_arg1) = m ((c.tc : Thread Cert.RefEvenInIdeal.nD Cert.RefEvenInIdeal.τ).loc Cert.RefEvenInIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_RefOddInIdeal [hRefOddInIdeal : Cert.RefOddInIdeal.Facts] : Prop :=
  ∀ (m : (ℓ : Loc Cert.RefOddInIdeal.nD Cert.RefOddInIdeal.τ Cert.RefOddInIdeal.sig) → Buf (Elt Ideal) ℓ) (g : Dev Cert.RefOddInIdeal.nD → PrngReg), Pre_RefOddInIdeal m →
    θ_run (Cert.RefOddInIdeal.defs (F := Ideal)) (onTc (τ := Cert.RefOddInIdeal.τ) (Cert.RefOddInIdeal.main (F := Ideal))) ⟨m, fun _ => 0, g⟩ (fun r => (∀ c : Dev Cert.RefOddInIdeal.nD,
      r.2.mem ((c.tc : Thread Cert.RefOddInIdeal.nD Cert.RefOddInIdeal.τ).loc Cert.RefOddInIdeal.main_arg0) = m ((c.tc : Thread Cert.RefOddInIdeal.nD Cert.RefOddInIdeal.τ).loc Cert.RefOddInIdeal.main_arg0)
      ∧ r.2.mem ((c.tc : Thread Cert.RefOddInIdeal.nD Cert.RefOddInIdeal.τ).loc Cert.RefOddInIdeal.main_arg1) = m ((c.tc : Thread Cert.RefOddInIdeal.nD Cert.RefOddInIdeal.τ).loc Cert.RefOddInIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1)
      ∧ r.2.mem ((c.tc : Thread Cert.RefGluIdeal.nD Cert.RefGluIdeal.τ).loc Cert.RefGluIdeal.main_arg2) = m ((c.tc : Thread Cert.RefGluIdeal.nD Cert.RefGluIdeal.τ).loc Cert.RefGluIdeal.main_arg2)
      ∧ r.2.mem ((c.tc : Thread Cert.RefGluIdeal.nD Cert.RefGluIdeal.τ).loc Cert.RefGluIdeal.main_arg3) = m ((c.tc : Thread Cert.RefGluIdeal.nD Cert.RefGluIdeal.τ).loc Cert.RefGluIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1))
      ∧ r.2.sem = fun _ => 0)

def quiescent_LoraIn [hLoraIn : Cert.LoraIn.Facts] : Prop :=
  ∀ (m : (ℓ : Loc Cert.LoraIn.nD Cert.LoraIn.τ Cert.LoraIn.sig) → Buf (Elt Bits) ℓ) (g : Dev Cert.LoraIn.nD → PrngReg), Pre_LoraIn m →
    θ_run (Cert.LoraIn.defs (F := Bits)) (onTc (τ := Cert.LoraIn.τ) (Cert.LoraIn.main (F := Bits))) ⟨m, fun _ => 0, g⟩ (fun r => (∀ c : Dev Cert.LoraIn.nD,
      r.2.mem ((c.tc : Thread Cert.LoraIn.nD Cert.LoraIn.τ).loc Cert.LoraIn.main_arg0) = m ((c.tc : Thread Cert.LoraIn.nD Cert.LoraIn.τ).loc Cert.LoraIn.main_arg0)
      ∧ r.2.mem ((c.tc : Thread Cert.LoraIn.nD Cert.LoraIn.τ).loc Cert.LoraIn.main_arg1) = m ((c.tc : Thread Cert.LoraIn.nD Cert.LoraIn.τ).loc Cert.LoraIn.main_arg1))
      ∧ r.2.sem = fun _ => 0)

def quiescent_LoraInIdeal [hLoraInIdeal : Cert.LoraInIdeal.Facts] : Prop :=
  ∀ (m : (ℓ : Loc Cert.LoraInIdeal.nD Cert.LoraInIdeal.τ Cert.LoraInIdeal.sig) → Buf (Elt Ideal) ℓ) (g : Dev Cert.LoraInIdeal.nD → PrngReg), Pre_LoraInIdeal m →
    θ_run (Cert.LoraInIdeal.defs (F := Ideal)) (onTc (τ := Cert.LoraInIdeal.τ) (Cert.LoraInIdeal.main (F := Ideal))) ⟨m, fun _ => 0, g⟩ (fun r => (∀ c : Dev Cert.LoraInIdeal.nD,
      r.2.mem ((c.tc : Thread Cert.LoraInIdeal.nD Cert.LoraInIdeal.τ).loc Cert.LoraInIdeal.main_arg0) = m ((c.tc : Thread Cert.LoraInIdeal.nD Cert.LoraInIdeal.τ).loc Cert.LoraInIdeal.main_arg0)
      ∧ r.2.mem ((c.tc : Thread Cert.LoraInIdeal.nD Cert.LoraInIdeal.τ).loc Cert.LoraInIdeal.main_arg1) = m ((c.tc : Thread Cert.LoraInIdeal.nD Cert.LoraInIdeal.τ).loc Cert.LoraInIdeal.main_arg1))
      ∧ r.2.sem = fun _ => 0)

def quiescent_RefLoraInIdeal [hRefLoraInIdeal : Cert.RefLoraInIdeal.Facts] : Prop :=
  ∀ (m : (ℓ : Loc Cert.RefLoraInIdeal.nD Cert.RefLoraInIdeal.τ Cert.RefLoraInIdeal.sig) → Buf (Elt Ideal) ℓ) (g : Dev Cert.RefLoraInIdeal.nD → PrngReg), Pre_RefLoraInIdeal m →
    θ_run (Cert.RefLoraInIdeal.defs (F := Ideal)) (onTc (τ := Cert.RefLoraInIdeal.τ) (Cert.RefLoraInIdeal.main (F := Ideal))) ⟨m, fun _ => 0, g⟩ (fun r => (∀ c : Dev Cert.RefLoraInIdeal.nD,
      r.2.mem ((c.tc : Thread Cert.RefLoraInIdeal.nD Cert.RefLoraInIdeal.τ).loc Cert.RefLoraInIdeal.main_arg0) = m ((c.tc : Thread Cert.RefLoraInIdeal.nD Cert.RefLoraInIdeal.τ).loc Cert.RefLoraInIdeal.main_arg0)
      ∧ r.2.mem ((c.tc : Thread Cert.RefLoraInIdeal.nD Cert.RefLoraInIdeal.τ).loc Cert.RefLoraInIdeal.main_arg1) = m ((c.tc : Thread Cert.RefLoraInIdeal.nD Cert.RefLoraInIdeal.τ).loc Cert.RefLoraInIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_RefTailIdeal [hRefTailIdeal : Cert.RefTailIdeal.Facts] : Prop :=
  ∀ (m : (ℓ : Loc Cert.RefTailIdeal.nD Cert.RefTailIdeal.τ Cert.RefTailIdeal.sig) → Buf (Elt Ideal) ℓ) (g : Dev Cert.RefTailIdeal.nD → PrngReg), Pre_RefTailIdeal m →
    θ_run (Cert.RefTailIdeal.defs (F := Ideal)) (onTc (τ := Cert.RefTailIdeal.τ) (Cert.RefTailIdeal.main (F := Ideal))) ⟨m, fun _ => 0, g⟩ (fun r => (∀ c : Dev Cert.RefTailIdeal.nD,
      r.2.mem ((c.tc : Thread Cert.RefTailIdeal.nD Cert.RefTailIdeal.τ).loc Cert.RefTailIdeal.main_arg0) = m ((c.tc : Thread Cert.RefTailIdeal.nD Cert.RefTailIdeal.τ).loc Cert.RefTailIdeal.main_arg0)
      ∧ r.2.mem ((c.tc : Thread Cert.RefTailIdeal.nD Cert.RefTailIdeal.τ).loc Cert.RefTailIdeal.main_arg1) = m ((c.tc : Thread Cert.RefTailIdeal.nD Cert.RefTailIdeal.τ).loc Cert.RefTailIdeal.main_arg1)
      ∧ r.2.mem ((c.tc : Thread Cert.RefTailIdeal.nD Cert.RefTailIdeal.τ).loc Cert.RefTailIdeal.main_arg2) = m ((c.tc : Thread Cert.RefTailIdeal.nD Cert.RefTailIdeal.τ).loc Cert.RefTailIdeal.main_arg2)
      ∧ r.2.mem ((c.tc : Thread Cert.RefTailIdeal.nD Cert.RefTailIdeal.τ).loc Cert.RefTailIdeal.main_arg3) = m ((c.tc : Thread Cert.RefTailIdeal.nD Cert.RefTailIdeal.τ).loc Cert.RefTailIdeal.main_arg3)
      ∧ r.2.mem ((c.tc : Thread Cert.RefTailIdeal.nD Cert.RefTailIdeal.τ).loc Cert.RefTailIdeal.main_arg4) = m ((c.tc : Thread Cert.RefTailIdeal.nD Cert.RefTailIdeal.τ).loc Cert.RefTailIdeal.main_arg4)
      ∧ r.2.mem ((c.tc : Thread Cert.RefTailIdeal.nD Cert.RefTailIdeal.τ).loc Cert.RefTailIdeal.main_arg5) = m ((c.tc : Thread Cert.RefTailIdeal.nD Cert.RefTailIdeal.τ).loc Cert.RefTailIdeal.main_arg5)
      ∧ r.2.mem ((c.tc : Thread Cert.RefTailIdeal.nD Cert.RefTailIdeal.τ).loc Cert.RefTailIdeal.main_arg6) = m ((c.tc : Thread Cert.RefTailIdeal.nD Cert.RefTailIdeal.τ).loc Cert.RefTailIdeal.main_arg6)
      ∧ r.2.mem ((c.tc : Thread Cert.RefTailIdeal.nD Cert.RefTailIdeal.τ).loc Cert.RefTailIdeal.main_arg7) = m ((c.tc : Thread Cert.RefTailIdeal.nD Cert.RefTailIdeal.τ).loc Cert.RefTailIdeal.main_arg7)
      ∧ r.2.mem ((c.tc : Thread Cert.RefTailIdeal.nD Cert.RefTailIdeal.τ).loc Cert.RefTailIdeal.main_arg8) = m ((c.tc : Thread Cert.RefTailIdeal.nD Cert.RefTailIdeal.τ).loc Cert.RefTailIdeal.main_arg8))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ r.2.sem = fun _ => 0)

def quiescent_RefMidIdeal [hRefMidIdeal : Cert.RefMidIdeal.Facts] : Prop :=
  ∀ (m : (ℓ : Loc Cert.RefMidIdeal.nD Cert.RefMidIdeal.τ Cert.RefMidIdeal.sig) → Buf (Elt Ideal) ℓ) (g : Dev Cert.RefMidIdeal.nD → PrngReg), Pre_RefMidIdeal m →
    θ_run (Cert.RefMidIdeal.defs (F := Ideal)) (onTc (τ := Cert.RefMidIdeal.τ) (Cert.RefMidIdeal.main (F := Ideal))) ⟨m, fun _ => 0, g⟩ (fun r => (∀ c : Dev Cert.RefMidIdeal.nD,
      r.2.mem ((c.tc : Thread Cert.RefMidIdeal.nD Cert.RefMidIdeal.τ).loc Cert.RefMidIdeal.main_arg0) = m ((c.tc : Thread Cert.RefMidIdeal.nD Cert.RefMidIdeal.τ).loc Cert.RefMidIdeal.main_arg0)
      ∧ r.2.mem ((c.tc : Thread Cert.RefMidIdeal.nD Cert.RefMidIdeal.τ).loc Cert.RefMidIdeal.main_arg1) = m ((c.tc : Thread Cert.RefMidIdeal.nD Cert.RefMidIdeal.τ).loc Cert.RefMidIdeal.main_arg1)
      ∧ r.2.mem ((c.tc : Thread Cert.RefMidIdeal.nD Cert.RefMidIdeal.τ).loc Cert.RefMidIdeal.main_arg2) = m ((c.tc : Thread Cert.RefMidIdeal.nD Cert.RefMidIdeal.τ).loc Cert.RefMidIdeal.main_arg2)
      ∧ r.2.mem ((c.tc : Thread Cert.RefMidIdeal.nD Cert.RefMidIdeal.τ).loc Cert.RefMidIdeal.main_arg3) = m ((c.tc : Thread Cert.RefMidIdeal.nD Cert.RefMidIdeal.τ).loc Cert.RefMidIdeal.main_arg3)
      ∧ r.2.mem ((c.tc : Thread Cert.RefMidIdeal.nD Cert.RefMidIdeal.τ).loc Cert.RefMidIdeal.main_arg4) = m ((c.tc : Thread Cert.RefMidIdeal.nD Cert.RefMidIdeal.τ).loc Cert.RefMidIdeal.main_arg4)
      ∧ r.2.mem ((c.tc : Thread Cert.RefMidIdeal.nD Cert.RefMidIdeal.τ).loc Cert.RefMidIdeal.main_arg5) = m ((c.tc : Thread Cert.RefMidIdeal.nD Cert.RefMidIdeal.τ).loc Cert.RefMidIdeal.main_arg5)
      ∧ r.2.mem ((c.tc : Thread Cert.RefMidIdeal.nD Cert.RefMidIdeal.τ).loc Cert.RefMidIdeal.main_arg6) = m ((c.tc : Thread Cert.RefMidIdeal.nD Cert.RefMidIdeal.τ).loc Cert.RefMidIdeal.main_arg6)
      ∧ r.2.mem ((c.tc : Thread Cert.RefMidIdeal.nD Cert.RefMidIdeal.τ).loc Cert.RefMidIdeal.main_arg7) = m ((c.tc : Thread Cert.RefMidIdeal.nD Cert.RefMidIdeal.τ).loc Cert.RefMidIdeal.main_arg7)
      ∧ r.2.mem ((c.tc : Thread Cert.RefMidIdeal.nD Cert.RefMidIdeal.τ).loc Cert.RefMidIdeal.main_arg8) = m ((c.tc : Thread Cert.RefMidIdeal.nD Cert.RefMidIdeal.τ).loc Cert.RefMidIdeal.main_arg8)
      ∧ r.2.mem ((c.tc : Thread Cert.RefMidIdeal.nD Cert.RefMidIdeal.τ).loc Cert.RefMidIdeal.main_arg9) = m ((c.tc : Thread Cert.RefMidIdeal.nD Cert.RefMidIdeal.τ).loc Cert.RefMidIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_RefPrepIdeal [hRefPrepIdeal : Cert.RefPrepIdeal.Facts] : Prop :=
  ∀ (m : (ℓ : Loc Cert.RefPrepIdeal.nD Cert.RefPrepIdeal.τ Cert.RefPrepIdeal.sig) → Buf (Elt Ideal) ℓ) (g : Dev Cert.RefPrepIdeal.nD → PrngReg), Pre_RefPrepIdeal m →
    θ_run (Cert.RefPrepIdeal.defs (F := Ideal)) (onTc (τ := Cert.RefPrepIdeal.τ) (Cert.RefPrepIdeal.main (F := Ideal))) ⟨m, fun _ => 0, g⟩ (fun r => (∀ c : Dev Cert.RefPrepIdeal.nD,
      r.2.mem ((c.tc : Thread Cert.RefPrepIdeal.nD Cert.RefPrepIdeal.τ).loc Cert.RefPrepIdeal.main_arg0) = m ((c.tc : Thread Cert.RefPrepIdeal.nD Cert.RefPrepIdeal.τ).loc Cert.RefPrepIdeal.main_arg0))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_GateUp_GateUpIdeal : Prop :=
  True

def algebraic_GateUpIdeal_RefGateUpIdeal [hGateUpIdeal : Cert.GateUpIdeal.Facts] [hRefGateUpIdeal : Cert.RefGateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.RefGateUpIdeal.nD Cert.RefGateUpIdeal.τ Cert.RefGateUpIdeal.sig) → Buf (Elt Ideal) ℓ) (g' : Dev Cert.RefGateUpIdeal.nD → PrngReg), Pre_GateUpIdeal m →
    (∀ c : Dev Cert.GateUpIdeal.nD,
      m' ((c.tc : Thread Cert.RefGateUpIdeal.nD Cert.RefGateUpIdeal.τ).loc Cert.RefGateUpIdeal.main_arg0) = m ((c.tc : Thread Cert.GateUpIdeal.nD Cert.GateUpIdeal.τ).loc Cert.GateUpIdeal.main_arg0)
      ∧ m' ((c.tc : Thread Cert.RefGateUpIdeal.nD Cert.RefGateUpIdeal.τ).loc Cert.RefGateUpIdeal.main_arg1) = m ((c.tc : Thread Cert.GateUpIdeal.nD Cert.GateUpIdeal.τ).loc Cert.GateUpIdeal.main_arg1)
      ∧ m' ((c.tc : Thread Cert.RefGateUpIdeal.nD Cert.RefGateUpIdeal.τ).loc Cert.RefGateUpIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.RefGateUpIdeal.defs (F := Ideal)) (onTc (τ := Cert.RefGateUpIdeal.τ) (Cert.RefGateUpIdeal.main (F := Ideal))) ⟨m', fun _ => 0, g'⟩ (fun r => ∀ c : Dev Cert.RefGateUpIdeal.nD,
          r.2.mem ((c.tc : Thread Cert.RefGateUpIdeal.nD Cert.RefGateUpIdeal.τ).loc Cert.RefGateUpIdeal.main_v9) = v0 c
          ∧ r.2.mem ((c.tc : Thread Cert.RefGateUpIdeal.nD Cert.RefGateUpIdeal.τ).loc Cert.RefGateUpIdeal.main_arg0) = m' ((c.tc : Thread Cert.RefGateUpIdeal.nD Cert.RefGateUpIdeal.τ).loc Cert.RefGateUpIdeal.main_arg0)
          ∧ r.2.mem ((c.tc : Thread Cert.RefGateUpIdeal.nD Cert.RefGateUpIdeal.τ).loc Cert.RefGateUpIdeal.main_arg1) = m' ((c.tc : Thread Cert.RefGateUpIdeal.nD Cert.RefGateUpIdeal.τ).loc Cert.RefGateUpIdeal.main_arg1)
          ∧ r.2.mem ((c.tc : Thread Cert.RefGateUpIdeal.nD Cert.RefGateUpIdeal.τ).loc Cert.RefGateUpIdeal.main_arg2) = m' ((c.tc : Thread Cert.RefGateUpIdeal.nD Cert.RefGateUpIdeal.τ).loc Cert.RefGateUpIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v4) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v5) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3))

def preserves_EvenIn_EvenInIdeal : Prop :=
  True

def algebraic_EvenInIdeal_RefEvenInIdeal [hEvenInIdeal : Cert.EvenInIdeal.Facts] [hRefEvenInIdeal : Cert.RefEvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.RefEvenInIdeal.nD Cert.RefEvenInIdeal.τ Cert.RefEvenInIdeal.sig) → Buf (Elt Ideal) ℓ) (g' : Dev Cert.RefEvenInIdeal.nD → PrngReg), Pre_EvenInIdeal m →
    (∀ c : Dev Cert.EvenInIdeal.nD,
      m' ((c.tc : Thread Cert.RefEvenInIdeal.nD Cert.RefEvenInIdeal.τ).loc Cert.RefEvenInIdeal.main_arg0) = m ((c.tc : Thread Cert.EvenInIdeal.nD Cert.EvenInIdeal.τ).loc Cert.EvenInIdeal.main_arg0)
      ∧ m' ((c.tc : Thread Cert.RefEvenInIdeal.nD Cert.RefEvenInIdeal.τ).loc Cert.RefEvenInIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.RefEvenInIdeal.defs (F := Ideal)) (onTc (τ := Cert.RefEvenInIdeal.τ) (Cert.RefEvenInIdeal.main (F := Ideal))) ⟨m', fun _ => 0, g'⟩ (fun r => ∀ c : Dev Cert.RefEvenInIdeal.nD,
          r.2.mem ((c.tc : Thread Cert.RefEvenInIdeal.nD Cert.RefEvenInIdeal.τ).loc Cert.RefEvenInIdeal.main_v3) = v0 c
          ∧ r.2.mem ((c.tc : Thread Cert.RefEvenInIdeal.nD Cert.RefEvenInIdeal.τ).loc Cert.RefEvenInIdeal.main_arg0) = m' ((c.tc : Thread Cert.RefEvenInIdeal.nD Cert.RefEvenInIdeal.τ).loc Cert.RefEvenInIdeal.main_arg0)
          ∧ r.2.mem ((c.tc : Thread Cert.RefEvenInIdeal.nD Cert.RefEvenInIdeal.τ).loc Cert.RefEvenInIdeal.main_arg1) = m' ((c.tc : Thread Cert.RefEvenInIdeal.nD Cert.RefEvenInIdeal.τ).loc Cert.RefEvenInIdeal.main_arg1))

def preserves_OddIn_OddInIdeal : Prop :=
  True

def algebraic_OddInIdeal_RefOddInIdeal [hOddInIdeal : Cert.OddInIdeal.Facts] [hRefOddInIdeal : Cert.RefOddInIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.RefOddInIdeal.nD Cert.RefOddInIdeal.τ Cert.RefOddInIdeal.sig) → Buf (Elt Ideal) ℓ) (g' : Dev Cert.RefOddInIdeal.nD → PrngReg), Pre_OddInIdeal m →
    (∀ c : Dev Cert.OddInIdeal.nD,
      m' ((c.tc : Thread Cert.RefOddInIdeal.nD Cert.RefOddInIdeal.τ).loc Cert.RefOddInIdeal.main_arg0) = m ((c.tc : Thread Cert.OddInIdeal.nD Cert.OddInIdeal.τ).loc Cert.OddInIdeal.main_arg0)
      ∧ m' ((c.tc : Thread Cert.RefOddInIdeal.nD Cert.RefOddInIdeal.τ).loc Cert.RefOddInIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.RefOddInIdeal.defs (F := Ideal)) (onTc (τ := Cert.RefOddInIdeal.τ) (Cert.RefOddInIdeal.main (F := Ideal))) ⟨m', fun _ => 0, g'⟩ (fun r => ∀ c : Dev Cert.RefOddInIdeal.nD,
          r.2.mem ((c.tc : Thread Cert.RefOddInIdeal.nD Cert.RefOddInIdeal.τ).loc Cert.RefOddInIdeal.main_v2) = v0 c
          ∧ r.2.mem ((c.tc : Thread Cert.RefOddInIdeal.nD Cert.RefOddInIdeal.τ).loc Cert.RefOddInIdeal.main_arg0) = m' ((c.tc : Thread Cert.RefOddInIdeal.nD Cert.RefOddInIdeal.τ).loc Cert.RefOddInIdeal.main_arg0)
          ∧ r.2.mem ((c.tc : Thread Cert.RefOddInIdeal.nD Cert.RefOddInIdeal.τ).loc Cert.RefOddInIdeal.main_arg1) = m' ((c.tc : Thread Cert.RefOddInIdeal.nD Cert.RefOddInIdeal.τ).loc Cert.RefOddInIdeal.main_arg1))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)
      ∧ m' ((c.tc : Thread Cert.RefGluIdeal.nD Cert.RefGluIdeal.τ).loc Cert.RefGluIdeal.main_arg2) = m ((c.tc : Thread Cert.GluIdeal.nD Cert.GluIdeal.τ).loc Cert.GluIdeal.main_arg2)
      ∧ m' ((c.tc : Thread Cert.RefGluIdeal.nD Cert.RefGluIdeal.τ).loc Cert.RefGluIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v14) = v0 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1)
          ∧ r.2.mem ((c.tc : Thread Cert.RefGluIdeal.nD Cert.RefGluIdeal.τ).loc Cert.RefGluIdeal.main_arg2) = m' ((c.tc : Thread Cert.RefGluIdeal.nD Cert.RefGluIdeal.τ).loc Cert.RefGluIdeal.main_arg2)
          ∧ r.2.mem ((c.tc : Thread Cert.RefGluIdeal.nD Cert.RefGluIdeal.τ).loc Cert.RefGluIdeal.main_arg3) = m' ((c.tc : Thread Cert.RefGluIdeal.nD Cert.RefGluIdeal.τ).loc Cert.RefGluIdeal.main_arg3))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v12) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1))

def preserves_LoraIn_LoraInIdeal : Prop :=
  True

def algebraic_LoraInIdeal_RefLoraInIdeal [hLoraInIdeal : Cert.LoraInIdeal.Facts] [hRefLoraInIdeal : Cert.RefLoraInIdeal.Facts] : Prop :=
  ∀ (m : (ℓ : Loc Cert.LoraInIdeal.nD Cert.LoraInIdeal.τ Cert.LoraInIdeal.sig) → Buf (Elt Ideal) ℓ) (g : Dev Cert.LoraInIdeal.nD → PrngReg)
    (m' : (ℓ : Loc Cert.RefLoraInIdeal.nD Cert.RefLoraInIdeal.τ Cert.RefLoraInIdeal.sig) → Buf (Elt Ideal) ℓ) (g' : Dev Cert.RefLoraInIdeal.nD → PrngReg), Pre_LoraInIdeal m →
    (∀ c : Dev Cert.LoraInIdeal.nD,
      m' ((c.tc : Thread Cert.RefLoraInIdeal.nD Cert.RefLoraInIdeal.τ).loc Cert.RefLoraInIdeal.main_arg0) = m ((c.tc : Thread Cert.LoraInIdeal.nD Cert.LoraInIdeal.τ).loc Cert.LoraInIdeal.main_arg0)
      ∧ m' ((c.tc : Thread Cert.RefLoraInIdeal.nD Cert.RefLoraInIdeal.τ).loc Cert.RefLoraInIdeal.main_arg1) = m ((c.tc : Thread Cert.LoraInIdeal.nD Cert.LoraInIdeal.τ).loc Cert.LoraInIdeal.main_arg1)) →
    ∃ (v0 : (c : Dev Cert.LoraInIdeal.nD) → Buf (Elt Ideal) ((c.tc : Thread Cert.LoraInIdeal.nD Cert.LoraInIdeal.τ).loc Cert.LoraInIdeal.main_v7)),
      θ_run (Cert.LoraInIdeal.defs (F := Ideal)) (onTc (τ := Cert.LoraInIdeal.τ) (Cert.LoraInIdeal.main (F := Ideal))) ⟨m, fun _ => 0, g⟩ (fun r => ∀ c : Dev Cert.LoraInIdeal.nD,
          r.2.mem ((c.tc : Thread Cert.LoraInIdeal.nD Cert.LoraInIdeal.τ).loc Cert.LoraInIdeal.main_v7) = v0 c
          ∧ r.2.mem ((c.tc : Thread Cert.LoraInIdeal.nD Cert.LoraInIdeal.τ).loc Cert.LoraInIdeal.main_arg0) = m ((c.tc : Thread Cert.LoraInIdeal.nD Cert.LoraInIdeal.τ).loc Cert.LoraInIdeal.main_arg0)
          ∧ r.2.mem ((c.tc : Thread Cert.LoraInIdeal.nD Cert.LoraInIdeal.τ).loc Cert.LoraInIdeal.main_arg1) = m ((c.tc : Thread Cert.LoraInIdeal.nD Cert.LoraInIdeal.τ).loc Cert.LoraInIdeal.main_arg1))
      ∧ θ_run (Cert.RefLoraInIdeal.defs (F := Ideal)) (onTc (τ := Cert.RefLoraInIdeal.τ) (Cert.RefLoraInIdeal.main (F := Ideal))) ⟨m', fun _ => 0, g'⟩ (fun r => ∀ c : Dev Cert.RefLoraInIdeal.nD,
          r.2.mem ((c.tc : Thread Cert.RefLoraInIdeal.nD Cert.RefLoraInIdeal.τ).loc Cert.RefLoraInIdeal.main_v7) = v0 c
          ∧ r.2.mem ((c.tc : Thread Cert.RefLoraInIdeal.nD Cert.RefLoraInIdeal.τ).loc Cert.RefLoraInIdeal.main_arg0) = m' ((c.tc : Thread Cert.RefLoraInIdeal.nD Cert.RefLoraInIdeal.τ).loc Cert.RefLoraInIdeal.main_arg0)
          ∧ r.2.mem ((c.tc : Thread Cert.RefLoraInIdeal.nD Cert.RefLoraInIdeal.τ).loc Cert.RefLoraInIdeal.main_arg1) = m' ((c.tc : Thread Cert.RefLoraInIdeal.nD Cert.RefLoraInIdeal.τ).loc Cert.RefLoraInIdeal.main_arg1))

def preserves_Tail_TailIdeal : Prop :=
  True

def algebraic_TailIdeal_RefTailIdeal [hTailIdeal : Cert.TailIdeal.Facts] [hRefTailIdeal : Cert.RefTailIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.RefTailIdeal.nD Cert.RefTailIdeal.τ Cert.RefTailIdeal.sig) → Buf (Elt Ideal) ℓ) (g' : Dev Cert.RefTailIdeal.nD → PrngReg), Pre_TailIdeal m →
    (∀ c : Dev Cert.TailIdeal.nD,
      m' ((c.tc : Thread Cert.RefTailIdeal.nD Cert.RefTailIdeal.τ).loc Cert.RefTailIdeal.main_arg0) = m ((c.tc : Thread Cert.TailIdeal.nD Cert.TailIdeal.τ).loc Cert.TailIdeal.main_arg0)
      ∧ m' ((c.tc : Thread Cert.RefTailIdeal.nD Cert.RefTailIdeal.τ).loc Cert.RefTailIdeal.main_arg1) = m ((c.tc : Thread Cert.TailIdeal.nD Cert.TailIdeal.τ).loc Cert.TailIdeal.main_arg1)
      ∧ m' ((c.tc : Thread Cert.RefTailIdeal.nD Cert.RefTailIdeal.τ).loc Cert.RefTailIdeal.main_arg2) = m ((c.tc : Thread Cert.TailIdeal.nD Cert.TailIdeal.τ).loc Cert.TailIdeal.main_arg2)
      ∧ m' ((c.tc : Thread Cert.RefTailIdeal.nD Cert.RefTailIdeal.τ).loc Cert.RefTailIdeal.main_arg3) = m ((c.tc : Thread Cert.TailIdeal.nD Cert.TailIdeal.τ).loc Cert.TailIdeal.main_arg3)
      ∧ m' ((c.tc : Thread Cert.RefTailIdeal.nD Cert.RefTailIdeal.τ).loc Cert.RefTailIdeal.main_arg4) = m ((c.tc : Thread Cert.TailIdeal.nD Cert.TailIdeal.τ).loc Cert.TailIdeal.main_arg4)
      ∧ m' ((c.tc : Thread Cert.RefTailIdeal.nD Cert.RefTailIdeal.τ).loc Cert.RefTailIdeal.main_arg5) = m ((c.tc : Thread Cert.TailIdeal.nD Cert.TailIdeal.τ).loc Cert.TailIdeal.main_arg5)
      ∧ m' ((c.tc : Thread Cert.RefTailIdeal.nD Cert.RefTailIdeal.τ).loc Cert.RefTailIdeal.main_arg6) = m ((c.tc : Thread Cert.TailIdeal.nD Cert.TailIdeal.τ).loc Cert.TailIdeal.main_arg6)
      ∧ m' ((c.tc : Thread Cert.RefTailIdeal.nD Cert.RefTailIdeal.τ).loc Cert.RefTailIdeal.main_arg7) = m ((c.tc : Thread Cert.TailIdeal.nD Cert.TailIdeal.τ).loc Cert.TailIdeal.main_arg7)
      ∧ m' ((c.tc : Thread Cert.RefTailIdeal.nD Cert.RefTailIdeal.τ).loc Cert.RefTailIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v9)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v9) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.RefTailIdeal.defs (F := Ideal)) (onTc (τ := Cert.RefTailIdeal.τ) (Cert.RefTailIdeal.main (F := Ideal))) ⟨m', fun _ => 0, g'⟩ (fun r => ∀ c : Dev Cert.RefTailIdeal.nD,
          r.2.mem ((c.tc : Thread Cert.RefTailIdeal.nD Cert.RefTailIdeal.τ).loc Cert.RefTailIdeal.main_v45) = v0 c
          ∧ r.2.mem ((c.tc : Thread Cert.RefTailIdeal.nD Cert.RefTailIdeal.τ).loc Cert.RefTailIdeal.main_arg0) = m' ((c.tc : Thread Cert.RefTailIdeal.nD Cert.RefTailIdeal.τ).loc Cert.RefTailIdeal.main_arg0)
          ∧ r.2.mem ((c.tc : Thread Cert.RefTailIdeal.nD Cert.RefTailIdeal.τ).loc Cert.RefTailIdeal.main_arg1) = m' ((c.tc : Thread Cert.RefTailIdeal.nD Cert.RefTailIdeal.τ).loc Cert.RefTailIdeal.main_arg1)
          ∧ r.2.mem ((c.tc : Thread Cert.RefTailIdeal.nD Cert.RefTailIdeal.τ).loc Cert.RefTailIdeal.main_arg2) = m' ((c.tc : Thread Cert.RefTailIdeal.nD Cert.RefTailIdeal.τ).loc Cert.RefTailIdeal.main_arg2)
          ∧ r.2.mem ((c.tc : Thread Cert.RefTailIdeal.nD Cert.RefTailIdeal.τ).loc Cert.RefTailIdeal.main_arg3) = m' ((c.tc : Thread Cert.RefTailIdeal.nD Cert.RefTailIdeal.τ).loc Cert.RefTailIdeal.main_arg3)
          ∧ r.2.mem ((c.tc : Thread Cert.RefTailIdeal.nD Cert.RefTailIdeal.τ).loc Cert.RefTailIdeal.main_arg4) = m' ((c.tc : Thread Cert.RefTailIdeal.nD Cert.RefTailIdeal.τ).loc Cert.RefTailIdeal.main_arg4)
          ∧ r.2.mem ((c.tc : Thread Cert.RefTailIdeal.nD Cert.RefTailIdeal.τ).loc Cert.RefTailIdeal.main_arg5) = m' ((c.tc : Thread Cert.RefTailIdeal.nD Cert.RefTailIdeal.τ).loc Cert.RefTailIdeal.main_arg5)
          ∧ r.2.mem ((c.tc : Thread Cert.RefTailIdeal.nD Cert.RefTailIdeal.τ).loc Cert.RefTailIdeal.main_arg6) = m' ((c.tc : Thread Cert.RefTailIdeal.nD Cert.RefTailIdeal.τ).loc Cert.RefTailIdeal.main_arg6)
          ∧ r.2.mem ((c.tc : Thread Cert.RefTailIdeal.nD Cert.RefTailIdeal.τ).loc Cert.RefTailIdeal.main_arg7) = m' ((c.tc : Thread Cert.RefTailIdeal.nD Cert.RefTailIdeal.τ).loc Cert.RefTailIdeal.main_arg7)
          ∧ r.2.mem ((c.tc : Thread Cert.RefTailIdeal.nD Cert.RefTailIdeal.τ).loc Cert.RefTailIdeal.main_arg8) = m' ((c.tc : Thread Cert.RefTailIdeal.nD Cert.RefTailIdeal.τ).loc Cert.RefTailIdeal.main_arg8))

def preserves_Mid_MidIdeal : Prop :=
  True

def algebraic_MidIdeal_RefMidIdeal [hMidIdeal : Cert.MidIdeal.Facts] [hRefMidIdeal : Cert.RefMidIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.RefMidIdeal.nD Cert.RefMidIdeal.τ Cert.RefMidIdeal.sig) → Buf (Elt Ideal) ℓ) (g' : Dev Cert.RefMidIdeal.nD → PrngReg), Pre_MidIdeal m →
    (∀ c : Dev Cert.MidIdeal.nD,
      m' ((c.tc : Thread Cert.RefMidIdeal.nD Cert.RefMidIdeal.τ).loc Cert.RefMidIdeal.main_arg0) = m ((c.tc : Thread Cert.MidIdeal.nD Cert.MidIdeal.τ).loc Cert.MidIdeal.main_arg0)
      ∧ m' ((c.tc : Thread Cert.RefMidIdeal.nD Cert.RefMidIdeal.τ).loc Cert.RefMidIdeal.main_arg1) = m ((c.tc : Thread Cert.MidIdeal.nD Cert.MidIdeal.τ).loc Cert.MidIdeal.main_arg1)
      ∧ m' ((c.tc : Thread Cert.RefMidIdeal.nD Cert.RefMidIdeal.τ).loc Cert.RefMidIdeal.main_arg2) = m ((c.tc : Thread Cert.MidIdeal.nD Cert.MidIdeal.τ).loc Cert.MidIdeal.main_arg2)
      ∧ m' ((c.tc : Thread Cert.RefMidIdeal.nD Cert.RefMidIdeal.τ).loc Cert.RefMidIdeal.main_arg3) = m ((c.tc : Thread Cert.MidIdeal.nD Cert.MidIdeal.τ).loc Cert.MidIdeal.main_arg3)
      ∧ m' ((c.tc : Thread Cert.RefMidIdeal.nD Cert.RefMidIdeal.τ).loc Cert.RefMidIdeal.main_arg4) = m ((c.tc : Thread Cert.MidIdeal.nD Cert.MidIdeal.τ).loc Cert.MidIdeal.main_arg4)
      ∧ m' ((c.tc : Thread Cert.RefMidIdeal.nD Cert.RefMidIdeal.τ).loc Cert.RefMidIdeal.main_arg5) = m ((c.tc : Thread Cert.MidIdeal.nD Cert.MidIdeal.τ).loc Cert.MidIdeal.main_arg5)
      ∧ m' ((c.tc : Thread Cert.RefMidIdeal.nD Cert.RefMidIdeal.τ).loc Cert.RefMidIdeal.main_arg6) = m ((c.tc : Thread Cert.MidIdeal.nD Cert.MidIdeal.τ).loc Cert.MidIdeal.main_arg6)
      ∧ m' ((c.tc : Thread Cert.RefMidIdeal.nD Cert.RefMidIdeal.τ).loc Cert.RefMidIdeal.main_arg7) = m ((c.tc : Thread Cert.MidIdeal.nD Cert.MidIdeal.τ).loc Cert.MidIdeal.main_arg7)
      ∧ m' ((c.tc : Thread Cert.RefMidIdeal.nD Cert.RefMidIdeal.τ).loc Cert.RefMidIdeal.main_arg8) = m ((c.tc : Thread Cert.MidIdeal.nD Cert.MidIdeal.τ).loc Cert.MidIdeal.main_arg8)
      ∧ m' ((c.tc : Thread Cert.RefMidIdeal.nD Cert.RefMidIdeal.τ).loc Cert.RefMidIdeal.main_arg9) = m ((c.tc : Thread Cert.MidIdeal.nD Cert.MidIdeal.τ).loc Cert.MidIdeal.main_arg9)) →
    ∃ (v0 : (c : Dev Cert.MidIdeal.nD) → Buf (Elt Ideal) ((c.tc : Thread Cert.MidIdeal.nD Cert.MidIdeal.τ).loc Cert.MidIdeal.main_v7)) (v1 : (c : Dev Cert.MidIdeal.nD) → Buf (Elt Ideal) ((c.tc : Thread Cert.MidIdeal.nD Cert.MidIdeal.τ).loc Cert.MidIdeal.main_v12)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v7) = v0 c
          ∧ r.2.mem ((c.tc : Thread Cert.MidIdeal.nD Cert.MidIdeal.τ).loc Cert.MidIdeal.main_v12) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9))
      ∧ θ_run (Cert.RefMidIdeal.defs (F := Ideal)) (onTc (τ := Cert.RefMidIdeal.τ) (Cert.RefMidIdeal.main (F := Ideal))) ⟨m', fun _ => 0, g'⟩ (fun r => ∀ c : Dev Cert.RefMidIdeal.nD,
          r.2.mem ((c.tc : Thread Cert.RefMidIdeal.nD Cert.RefMidIdeal.τ).loc Cert.RefMidIdeal.main_v32) = v0 c
          ∧ r.2.mem ((c.tc : Thread Cert.RefMidIdeal.nD Cert.RefMidIdeal.τ).loc Cert.RefMidIdeal.main_v49) = v1 c
          ∧ r.2.mem ((c.tc : Thread Cert.RefMidIdeal.nD Cert.RefMidIdeal.τ).loc Cert.RefMidIdeal.main_arg0) = m' ((c.tc : Thread Cert.RefMidIdeal.nD Cert.RefMidIdeal.τ).loc Cert.RefMidIdeal.main_arg0)
          ∧ r.2.mem ((c.tc : Thread Cert.RefMidIdeal.nD Cert.RefMidIdeal.τ).loc Cert.RefMidIdeal.main_arg1) = m' ((c.tc : Thread Cert.RefMidIdeal.nD Cert.RefMidIdeal.τ).loc Cert.RefMidIdeal.main_arg1)
          ∧ r.2.mem ((c.tc : Thread Cert.RefMidIdeal.nD Cert.RefMidIdeal.τ).loc Cert.RefMidIdeal.main_arg2) = m' ((c.tc : Thread Cert.RefMidIdeal.nD Cert.RefMidIdeal.τ).loc Cert.RefMidIdeal.main_arg2)
          ∧ r.2.mem ((c.tc : Thread Cert.RefMidIdeal.nD Cert.RefMidIdeal.τ).loc Cert.RefMidIdeal.main_arg3) = m' ((c.tc : Thread Cert.RefMidIdeal.nD Cert.RefMidIdeal.τ).loc Cert.RefMidIdeal.main_arg3)
          ∧ r.2.mem ((c.tc : Thread Cert.RefMidIdeal.nD Cert.RefMidIdeal.τ).loc Cert.RefMidIdeal.main_arg4) = m' ((c.tc : Thread Cert.RefMidIdeal.nD Cert.RefMidIdeal.τ).loc Cert.RefMidIdeal.main_arg4)
          ∧ r.2.mem ((c.tc : Thread Cert.RefMidIdeal.nD Cert.RefMidIdeal.τ).loc Cert.RefMidIdeal.main_arg5) = m' ((c.tc : Thread Cert.RefMidIdeal.nD Cert.RefMidIdeal.τ).loc Cert.RefMidIdeal.main_arg5)
          ∧ r.2.mem ((c.tc : Thread Cert.RefMidIdeal.nD Cert.RefMidIdeal.τ).loc Cert.RefMidIdeal.main_arg6) = m' ((c.tc : Thread Cert.RefMidIdeal.nD Cert.RefMidIdeal.τ).loc Cert.RefMidIdeal.main_arg6)
          ∧ r.2.mem ((c.tc : Thread Cert.RefMidIdeal.nD Cert.RefMidIdeal.τ).loc Cert.RefMidIdeal.main_arg7) = m' ((c.tc : Thread Cert.RefMidIdeal.nD Cert.RefMidIdeal.τ).loc Cert.RefMidIdeal.main_arg7)
          ∧ r.2.mem ((c.tc : Thread Cert.RefMidIdeal.nD Cert.RefMidIdeal.τ).loc Cert.RefMidIdeal.main_arg8) = m' ((c.tc : Thread Cert.RefMidIdeal.nD Cert.RefMidIdeal.τ).loc Cert.RefMidIdeal.main_arg8)
          ∧ r.2.mem ((c.tc : Thread Cert.RefMidIdeal.nD Cert.RefMidIdeal.τ).loc Cert.RefMidIdeal.main_arg9) = m' ((c.tc : Thread Cert.RefMidIdeal.nD Cert.RefMidIdeal.τ).loc Cert.RefMidIdeal.main_arg9))

def preserves_Prep_PrepIdeal : Prop :=
  True

def algebraic_PrepIdeal_RefPrepIdeal [hPrepIdeal : Cert.PrepIdeal.Facts] [hRefPrepIdeal : Cert.RefPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.RefPrepIdeal.nD Cert.RefPrepIdeal.τ Cert.RefPrepIdeal.sig) → Buf (Elt Ideal) ℓ) (g' : Dev Cert.RefPrepIdeal.nD → PrngReg), Pre_PrepIdeal m →
    (∀ c : Dev Cert.PrepIdeal.nD,
      m' ((c.tc : Thread Cert.RefPrepIdeal.nD Cert.RefPrepIdeal.τ).loc Cert.RefPrepIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v78_0)) (v1 : (c : Dev Cert.PrepIdeal.nD) → Buf (Elt Ideal) ((c.tc : Thread Cert.PrepIdeal.nD Cert.PrepIdeal.τ).loc Cert.PrepIdeal.main_v78_1)) (v2 : (c : Dev Cert.PrepIdeal.nD) → Buf (Elt Ideal) ((c.tc : Thread Cert.PrepIdeal.nD Cert.PrepIdeal.τ).loc Cert.PrepIdeal.main_v78_2)) (v3 : (c : Dev Cert.PrepIdeal.nD) → Buf (Elt Ideal) ((c.tc : Thread Cert.PrepIdeal.nD Cert.PrepIdeal.τ).loc Cert.PrepIdeal.main_v78_3)) (v4 : (c : Dev Cert.PrepIdeal.nD) → Buf (Elt Ideal) ((c.tc : Thread Cert.PrepIdeal.nD Cert.PrepIdeal.τ).loc Cert.PrepIdeal.main_v78_4)) (v5 : (c : Dev Cert.PrepIdeal.nD) → Buf (Elt Ideal) ((c.tc : Thread Cert.PrepIdeal.nD Cert.PrepIdeal.τ).loc Cert.PrepIdeal.main_v78_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v78_0) = v0 c
          ∧ r.2.mem ((c.tc : Thread Cert.PrepIdeal.nD Cert.PrepIdeal.τ).loc Cert.PrepIdeal.main_v78_1) = v1 c
          ∧ r.2.mem ((c.tc : Thread Cert.PrepIdeal.nD Cert.PrepIdeal.τ).loc Cert.PrepIdeal.main_v78_2) = v2 c
          ∧ r.2.mem ((c.tc : Thread Cert.PrepIdeal.nD Cert.PrepIdeal.τ).loc Cert.PrepIdeal.main_v78_3) = v3 c
          ∧ r.2.mem ((c.tc : Thread Cert.PrepIdeal.nD Cert.PrepIdeal.τ).loc Cert.PrepIdeal.main_v78_4) = v4 c
          ∧ r.2.mem ((c.tc : Thread Cert.PrepIdeal.nD Cert.PrepIdeal.τ).loc Cert.PrepIdeal.main_v78_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.RefPrepIdeal.defs (F := Ideal)) (onTc (τ := Cert.RefPrepIdeal.τ) (Cert.RefPrepIdeal.main (F := Ideal))) ⟨m', fun _ => 0, g'⟩ (fun r => ∀ c : Dev Cert.RefPrepIdeal.nD,
          r.2.mem ((c.tc : Thread Cert.RefPrepIdeal.nD Cert.RefPrepIdeal.τ).loc Cert.RefPrepIdeal.main_v144) = v0 c
          ∧ r.2.mem ((c.tc : Thread Cert.RefPrepIdeal.nD Cert.RefPrepIdeal.τ).loc Cert.RefPrepIdeal.main_v137) = v1 c
          ∧ r.2.mem ((c.tc : Thread Cert.RefPrepIdeal.nD Cert.RefPrepIdeal.τ).loc Cert.RefPrepIdeal.main_v145) = v2 c
          ∧ r.2.mem ((c.tc : Thread Cert.RefPrepIdeal.nD Cert.RefPrepIdeal.τ).loc Cert.RefPrepIdeal.main_v146) = v3 c
          ∧ r.2.mem ((c.tc : Thread Cert.RefPrepIdeal.nD Cert.RefPrepIdeal.τ).loc Cert.RefPrepIdeal.main_v143) = v4 c
          ∧ r.2.mem ((c.tc : Thread Cert.RefPrepIdeal.nD Cert.RefPrepIdeal.τ).loc Cert.RefPrepIdeal.main_v148) = v5 c
          ∧ r.2.mem ((c.tc : Thread Cert.RefPrepIdeal.nD Cert.RefPrepIdeal.τ).loc Cert.RefPrepIdeal.main_arg0) = m' ((c.tc : Thread Cert.RefPrepIdeal.nD Cert.RefPrepIdeal.τ).loc Cert.RefPrepIdeal.main_arg0))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hRefGateUpIdeal : Cert.RefGateUpIdeal.Facts) (hDown : Cert.Down.Facts) (hDownIdeal : Cert.DownIdeal.Facts) (hRefDownIdeal : Cert.RefDownIdeal.Facts) (hOutProj : Cert.OutProj.Facts) (hOutProjIdeal : Cert.OutProjIdeal.Facts) (hRefOutProjIdeal : Cert.RefOutProjIdeal.Facts) (hEvenIn : Cert.EvenIn.Facts) (hEvenInIdeal : Cert.EvenInIdeal.Facts) (hRefEvenInIdeal : Cert.RefEvenInIdeal.Facts) (hOddIn : Cert.OddIn.Facts) (hOddInIdeal : Cert.OddInIdeal.Facts) (hRefOddInIdeal : Cert.RefOddInIdeal.Facts) (hGlu : Cert.Glu.Facts) (hGluIdeal : Cert.GluIdeal.Facts) (hRefGluIdeal : Cert.RefGluIdeal.Facts) (hNorm : Cert.Norm.Facts) (hNormIdeal : Cert.NormIdeal.Facts) (hRefNormIdeal : Cert.RefNormIdeal.Facts) (hLoraIn : Cert.LoraIn.Facts) (hLoraInIdeal : Cert.LoraInIdeal.Facts) (hRefLoraInIdeal : Cert.RefLoraInIdeal.Facts) (hTail : Cert.Tail.Facts) (hTailIdeal : Cert.TailIdeal.Facts) (hRefTailIdeal : Cert.RefTailIdeal.Facts) (hMid : Cert.Mid.Facts) (hMidIdeal : Cert.MidIdeal.Facts) (hRefMidIdeal : Cert.RefMidIdeal.Facts) (hPrep : Cert.Prep.Facts) (hPrepIdeal : Cert.PrepIdeal.Facts) (hRefPrepIdeal : Cert.RefPrepIdeal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_GateUp (hGateUp := hGateUp)
    ∧ quiescent_GateUpIdeal (hGateUpIdeal := hGateUpIdeal)
    ∧ quiescent_RefGateUpIdeal (hRefGateUpIdeal := hRefGateUpIdeal)
    ∧ quiescent_Down (hDown := hDown)
    ∧ quiescent_DownIdeal (hDownIdeal := hDownIdeal)
    ∧ quiescent_RefDownIdeal (hRefDownIdeal := hRefDownIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_EvenIn (hEvenIn := hEvenIn)
    ∧ quiescent_EvenInIdeal (hEvenInIdeal := hEvenInIdeal)
    ∧ quiescent_RefEvenInIdeal (hRefEvenInIdeal := hRefEvenInIdeal)
    ∧ quiescent_OddIn (hOddIn := hOddIn)
    ∧ quiescent_OddInIdeal (hOddInIdeal := hOddInIdeal)
    ∧ quiescent_RefOddInIdeal (hRefOddInIdeal := hRefOddInIdeal)
    ∧ quiescent_Glu (hGlu := hGlu)
    ∧ quiescent_GluIdeal (hGluIdeal := hGluIdeal)
    ∧ quiescent_RefGluIdeal (hRefGluIdeal := hRefGluIdeal)
    ∧ quiescent_Norm (hNorm := hNorm)
    ∧ quiescent_NormIdeal (hNormIdeal := hNormIdeal)
    ∧ quiescent_RefNormIdeal (hRefNormIdeal := hRefNormIdeal)
    ∧ quiescent_LoraIn (hLoraIn := hLoraIn)
    ∧ quiescent_LoraInIdeal (hLoraInIdeal := hLoraInIdeal)
    ∧ quiescent_RefLoraInIdeal (hRefLoraInIdeal := hRefLoraInIdeal)
    ∧ quiescent_Tail (hTail := hTail)
    ∧ quiescent_TailIdeal (hTailIdeal := hTailIdeal)
    ∧ quiescent_RefTailIdeal (hRefTailIdeal := hRefTailIdeal)
    ∧ quiescent_Mid (hMid := hMid)
    ∧ quiescent_MidIdeal (hMidIdeal := hMidIdeal)
    ∧ quiescent_RefMidIdeal (hRefMidIdeal := hRefMidIdeal)
    ∧ quiescent_Prep (hPrep := hPrep)
    ∧ quiescent_PrepIdeal (hPrepIdeal := hPrepIdeal)
    ∧ quiescent_RefPrepIdeal (hRefPrepIdeal := hRefPrepIdeal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_GateUp_GateUpIdeal
    ∧ algebraic_GateUpIdeal_RefGateUpIdeal (hGateUpIdeal := hGateUpIdeal) (hRefGateUpIdeal := hRefGateUpIdeal)
    ∧ preserves_Down_DownIdeal
    ∧ algebraic_DownIdeal_RefDownIdeal (hDownIdeal := hDownIdeal) (hRefDownIdeal := hRefDownIdeal)
    ∧ preserves_OutProj_OutProjIdeal
    ∧ algebraic_OutProjIdeal_RefOutProjIdeal (hOutProjIdeal := hOutProjIdeal) (hRefOutProjIdeal := hRefOutProjIdeal)
    ∧ preserves_EvenIn_EvenInIdeal
    ∧ algebraic_EvenInIdeal_RefEvenInIdeal (hEvenInIdeal := hEvenInIdeal) (hRefEvenInIdeal := hRefEvenInIdeal)
    ∧ preserves_OddIn_OddInIdeal
    ∧ algebraic_OddInIdeal_RefOddInIdeal (hOddInIdeal := hOddInIdeal) (hRefOddInIdeal := hRefOddInIdeal)
    ∧ preserves_Glu_GluIdeal
    ∧ algebraic_GluIdeal_RefGluIdeal (hGluIdeal := hGluIdeal) (hRefGluIdeal := hRefGluIdeal)
    ∧ preserves_Norm_NormIdeal
    ∧ algebraic_NormIdeal_RefNormIdeal (hNormIdeal := hNormIdeal) (hRefNormIdeal := hRefNormIdeal)
    ∧ preserves_LoraIn_LoraInIdeal
    ∧ algebraic_LoraInIdeal_RefLoraInIdeal (hLoraInIdeal := hLoraInIdeal) (hRefLoraInIdeal := hRefLoraInIdeal)
    ∧ preserves_Tail_TailIdeal
    ∧ algebraic_TailIdeal_RefTailIdeal (hTailIdeal := hTailIdeal) (hRefTailIdeal := hRefTailIdeal)
    ∧ preserves_Mid_MidIdeal
    ∧ algebraic_MidIdeal_RefMidIdeal (hMidIdeal := hMidIdeal) (hRefMidIdeal := hRefMidIdeal)
    ∧ preserves_Prep_PrepIdeal
    ∧ algebraic_PrepIdeal_RefPrepIdeal (hPrepIdeal := hPrepIdeal) (hRefPrepIdeal := hRefPrepIdeal)
-- ==== Pre_finite_qkv.lean ====
abbrev S8192x10240 : Shape := ⟨2, ![8192, 10240]⟩
abbrev S8192x6144 : Shape := ⟨2, ![8192, 6144]⟩
abbrev S_ : Shape := ⟨0, ![]⟩

class Facts : Prop where
  slices_S8192x10240_S8192x6144_0_2048 : S8192x10240.Slices ![0, 2048] S8192x6144
  bcast_S_S8192x6144 : S_.BroadcastsInDim S8192x6144 (![] : Fin 0 → Fin S8192x6144.rank)
  reducesTo_S8192x6144_S_d0_1 : S8192x6144.ReducesTo [0, 1] S_
  h_S_ : 0 < S_.numel

variable [Facts]

def fn {F : FTy → Type} [FloatOps F] (main_arg0 : FVec F S8192x10240 .f32) : IVec S_ 1 :=
  let main_v0 : FVec F S8192x6144 .f32 := (extractStridedSlice S8192x6144 ![0, 2048] · slices_S8192x10240_S8192x6144_0_2048) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  main_v4
-- ==== Kernel.lean ====
abbrev S8192x10240 : Shape := ⟨2, ![8192, 10240]⟩
abbrev S_ : Shape := ⟨0, ![]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S8 : Shape := ⟨1, ![8]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S8x1x1 : Shape := ⟨3, ![8, 1, 1]⟩
abbrev S8x512x512 : Shape := ⟨3, ![8, 512, 512]⟩
abbrev S8x1 : Shape := ⟨2, ![8, 1]⟩
abbrev S8x512 : Shape := ⟨2, ![8, 512]⟩
abbrev S8x512x1 : Shape := ⟨3, ![8, 512, 1]⟩
abbrev S8x512x128 : Shape := ⟨3, ![8, 512, 128]⟩
abbrev S8x512x384 : Shape := ⟨3, ![8, 512, 384]⟩
abbrev S8192x2048 : Shape := ⟨2, ![8192, 2048]⟩
abbrev S512x256 : Shape := ⟨2, ![512, 256]⟩
abbrev S512x128 : Shape := ⟨2, ![512, 128]⟩
abbrev S1x512x384 : Shape := ⟨3, ![1, 512, 384]⟩
abbrev S256x256 : Shape := ⟨2, ![256, 256]⟩
abbrev S512x384 : Shape := ⟨2, ![512, 384]⟩
abbrev S1x256 : Shape := ⟨2, ![1, 256]⟩
abbrev S256x512 : Shape := ⟨2, ![256, 512]⟩

abbrev nBuf : Space → Nat
  | .hbm => 104
  | .vmem => 19
  | .smem => 0
  | _ => 0

abbrev bufTy : (tb : Table) → Fin (tcTables nBuf tb) → BufTy
  | .hbm, ⟨0, _⟩ => ⟨S8192x10240, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S127, .f32⟩
  | .hbm, ⟨9, _⟩ => ⟨S_, .f32⟩
  | .hbm, ⟨10, _⟩ => ⟨S127, .f32⟩
  | .hbm, ⟨11, _⟩ => ⟨S127, .f32⟩
  | .hbm, ⟨12, _⟩ => ⟨S1, .f32⟩
  | .hbm, ⟨13, _⟩ => ⟨S_, .f32⟩
  | .hbm, ⟨14, _⟩ => ⟨S127, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S1, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S8192, .f32⟩
  | .hbm, ⟨31, _⟩ => ⟨S8192x1, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S512, .f32⟩
  | .hbm, ⟨48, _⟩ => ⟨S512x1, .f32⟩
  | .hbm, ⟨49, _⟩ => ⟨S1x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x512, .f32⟩
  | .hbm, ⟨55, _⟩ => ⟨S512x512, .i1⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S1x512x512, .f32⟩
  | .hbm, ⟨60, _⟩ => ⟨S8x1x1, .f32⟩
  | .hbm, ⟨61, _⟩ => ⟨S8x512x512, .f32⟩
  | .hbm, ⟨62, _⟩ => ⟨S8x512x512, .f32⟩
  | .hbm, ⟨63, _⟩ => ⟨S8x512x512, .f32⟩
  | .hbm, ⟨64, _⟩ => ⟨S8x512x512, .f32⟩
  | .hbm, ⟨65, _⟩ => ⟨S_, .f32⟩
  | .hbm, ⟨66, _⟩ => ⟨S_, .f32⟩
  | .hbm, ⟨67, _⟩ => ⟨S8x512x512, .i1⟩
  | .hbm, ⟨68, _⟩ => ⟨S8x512x512, .f32⟩
  | .hbm, ⟨69, _⟩ => ⟨S8x512x512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S8x1, .f32⟩
  | .hbm, ⟨75, _⟩ => ⟨S8x512, .f32⟩
  | .hbm, ⟨76, _⟩ => ⟨S8x512, .f32⟩
  | .hbm, ⟨77, _⟩ => ⟨S8x512, .f32⟩
  | .hbm, ⟨78, _⟩ => ⟨S8x512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S1x512, .f32⟩
  | .hbm, ⟨83, _⟩ => ⟨S8x1, .f32⟩
  | .hbm, ⟨84, _⟩ => ⟨S8x512, .f32⟩
  | .hbm, ⟨85, _⟩ => ⟨S8x512, .f32⟩
  | .hbm, ⟨86, _⟩ => ⟨S8x512, .f32⟩
  | .hbm, ⟨87, _⟩ => ⟨S8x512, .f32⟩
  | .hbm, ⟨88, _⟩ => ⟨S_, .f32⟩
  | .hbm, ⟨89, _⟩ => ⟨S8, .f32⟩
  | .hbm, ⟨90, _⟩ => ⟨S8, .f32⟩
  | .hbm, ⟨91, _⟩ => ⟨S8, .f32⟩
  | .hbm, ⟨92, _⟩ => ⟨S8x1, .f32⟩
  | .hbm, ⟨93, _⟩ => ⟨S8x512, .f32⟩
  | .hbm, ⟨94, _⟩ => ⟨S8x512x1, .f32⟩
  | .hbm, ⟨95, _⟩ => ⟨S8x512x128, .f32⟩
  | .hbm, ⟨96, _⟩ => ⟨S8x512x1, .f32⟩
  | .hbm, ⟨97, _⟩ => ⟨S8x512x128, .f32⟩
  | .hbm, ⟨98, _⟩ => ⟨S8x512x1, .f32⟩
  | .hbm, ⟨99, _⟩ => ⟨S8x512x128, .f32⟩
  | .hbm, ⟨100, _⟩ => ⟨S8x512x384, .f32⟩
  | .hbm, ⟨101, _⟩ => ⟨S8192x128, .f32⟩
  | .hbm, ⟨102, _⟩ => ⟨S8192x128, .f32⟩
  | .hbm, ⟨103, _⟩ => ⟨S8192x2048, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .f32⟩
  | .local _ .vmem, ⟨13, _⟩ => ⟨S1x512x512, .f32⟩
  | .local _ .vmem, ⟨14, _⟩ => ⟨S1x512x384, .f32⟩
  | .local _ .vmem, ⟨15, _⟩ => ⟨S1x512x384, .f32⟩
  | .local _ .vmem, ⟨16, _⟩ => ⟨S512x256, .bf16⟩
  | .local _ .vmem, ⟨17, _⟩ => ⟨S512x256, .bf16⟩
  | .local _ .vmem, ⟨18, _⟩ => ⟨S256x256, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_v1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_3 : Ref sig .tc := ⟨.hbm, 37, rfl⟩
abbrev main_v12 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_cst_5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_cst_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v35 : Ref sig .tc := ⟨.hbm, 69, rfl⟩
abbrev main_cst_9 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_10 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x10240 : Shape := ⟨2, ![8192, 10240]⟩
abbrev S1x8192x10240 : Shape := ⟨3, ![1, 8192, 10240]⟩
abbrev S1x8192x2048 : Shape := ⟨3, ![1, 8192, 2048]⟩
abbrev S_ : Shape := ⟨0, ![]⟩
abbrev S127 : Shape := ⟨1, ![127]⟩
abbrev S1 : Shape := ⟨1, ![1]⟩
abbrev S128 : Shape := ⟨1, ![128]⟩
abbrev S1x8192x8x256 : Shape := ⟨4, ![1, 8192, 8, 256]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S1x8192x8x128 : Shape := ⟨4, ![1, 8192, 8, 128]⟩
abbrev S1x8192x8x0 : Shape := ⟨4, ![1, 8192, 8, 0]⟩
abbrev S8 : Shape := ⟨1, ![8]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S1x8x256x256 : Shape := ⟨4, ![1, 8, 256, 256]⟩
abbrev S1x64x128x8x256 : Shape := ⟨5, ![1, 64, 128, 8, 256]⟩
abbrev S64x1x8x128x256 : Shape := ⟨5, ![64, 1, 8, 128, 256]⟩
abbrev S1x1x8x128x256 : Shape := ⟨5, ![1, 1, 8, 128, 256]⟩
abbrev S1x8x128x256 : Shape := ⟨4, ![1, 8, 128, 256]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S1x8192x8 : Shape := ⟨3, ![1, 8192, 8]⟩
abbrev S1x8192x8x1 : Shape := ⟨4, ![1, 8192, 8, 1]⟩
abbrev S8192x2048 : Shape := ⟨2, ![8192, 2048]⟩

abbrev nBuf : Space → Nat
  | .hbm => 249
  | .vmem => 0
  | .smem => 0
  | _ => 0

abbrev hbmTy0_0 (i : Nat) : BufTy := match i % 128 with
  | 0 => ⟨S8192x10240, .f32⟩
  | 1 => ⟨S1x8192x10240, .f32⟩
  | 2 => ⟨S1x8192x2048, .f32⟩
  | 3 => ⟨S1x8192x2048, .f32⟩
  | 4 => ⟨S1x8192x2048, .f32⟩
  | 5 => ⟨S1x8192x2048, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S127, .f32⟩
  | 14 => ⟨S_, .f32⟩
  | 15 => ⟨S127, .f32⟩
  | 16 => ⟨S127, .f32⟩
  | 17 => ⟨S1, .f32⟩
  | 18 => ⟨S_, .f32⟩
  | 19 => ⟨S127, .f32⟩
  | 20 => ⟨S127, .f32⟩
  | 21 => ⟨S127, .f32⟩
  | 22 => ⟨S127, .f32⟩
  | 23 => ⟨S1, .f32⟩
  | 24 => ⟨S127, .f32⟩
  | 25 => ⟨S127, .f32⟩
  | 26 => ⟨S127, .f32⟩
  | 27 => ⟨S1, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S1x8192x8x256, .f32⟩
  | 36 => ⟨S8192, .f32⟩
  | 37 => ⟨S8192x1, .f32⟩
  | 38 => ⟨S1x128, .f32⟩
  | 39 => ⟨S8192x128, .f32⟩
  | 40 => ⟨S8192x128, .f32⟩
  | 41 => ⟨S8192x128, .f32⟩
  | 42 => ⟨S8192x128, .f32⟩
  | 43 => ⟨S1x8192x1x128, .f32⟩
  | 44 => ⟨S8192x128, .f32⟩
  | 45 => ⟨S1x8192x1x128, .f32⟩
  | 46 => ⟨S1x8192x8x128, .f32⟩
  | 47 => ⟨S1x8192x8x128, .f32⟩
  | 48 => ⟨S1x8192x8x128, .f32⟩
  | 49 => ⟨S1x8192x8x128, .f32⟩
  | 50 => ⟨S1x8192x8x128, .f32⟩
  | 51 => ⟨S1x8192x8x128, .f32⟩
  | 52 => ⟨S1x8192x8x128, .f32⟩
  | 53 => ⟨S1x8192x8x128, .f32⟩
  | 54 => ⟨S1x8192x8x128, .f32⟩
  | 55 => ⟨S1x8192x8x128, .f32⟩
  | 56 => ⟨S1x8192x8x128, .f32⟩
  | 57 => ⟨S1x8192x8x128, .f32⟩
  | 58 => ⟨S1x8192x8x0, .f32⟩
  | 59 => ⟨S1x8192x8x256, .f32⟩
  | 60 => ⟨S1x8192x8x256, .f32⟩
  | 61 => ⟨S8192, .f32⟩
  | 62 => ⟨S8192x1, .f32⟩
  | 63 => ⟨S1x128, .f32⟩
  | 64 => ⟨S8192x128, .f32⟩
  | 65 => ⟨S8192x128, .f32⟩
  | 66 => ⟨S8192x128, .f32⟩
  | 67 => ⟨S8192x128, .f32⟩
  | 68 => ⟨S1x8192x1x128, .f32⟩
  | 69 => ⟨S8192x128, .f32⟩
  | 70 => ⟨S1x8192x1x128, .f32⟩
  | 71 => ⟨S1x8192x8x128, .f32⟩
  | 72 => ⟨S1x8192x8x128, .f32⟩
  | 73 => ⟨S1x8192x8x128, .f32⟩
  | 74 => ⟨S1x8192x8x128, .f32⟩
  | 75 => ⟨S1x8192x8x128, .f32⟩
  | 76 => ⟨S1x8192x8x128, .f32⟩
  | 77 => ⟨S1x8192x8x128, .f32⟩
  | 78 => ⟨S1x8192x8x128, .f32⟩
  | 79 => ⟨S1x8192x8x128, .f32⟩
  | 80 => ⟨S1x8192x8x128, .f32⟩
  | 81 => ⟨S1x8192x8x128, .f32⟩
  | 82 => ⟨S1x8192x8x128, .f32⟩
  | 83 => ⟨S1x8192x8x0, .f32⟩
  | 84 => ⟨S1x8192x8x256, .f32⟩
  | 85 => ⟨S_, .f32⟩
  | 86 => ⟨S1x8192x8x256, .f32⟩
  | 87 => ⟨S1x8192x8x256, .f32⟩
  | 88 => ⟨S1x8192x8x256, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S8, .f32⟩
  | 100 => ⟨S128, .f32⟩
  | 101 => ⟨S128x1, .f32⟩
  | 102 => ⟨S1x128, .f32⟩
  | 103 => ⟨S128x128, .f32⟩
  | 104 => ⟨S128x128, .f32⟩
  | 105 => ⟨S128x128, .f32⟩
  | 106 => ⟨S_, .f32⟩
  | 107 => ⟨S128x128, .f32⟩
  | 108 => ⟨S128x128, .i1⟩
  | 109 => ⟨S_, .f32⟩
  | 110 => ⟨S128x128, .f32⟩
  | 111 => ⟨S128x128, .f32⟩
  | 112 => ⟨S1x128x128, .f32⟩
  | 113 => ⟨S8x1x1, .f32⟩
  | 114 => ⟨S8x128x128, .f32⟩
  | 115 => ⟨S8x128x128, .f32⟩
  | 116 => ⟨S8x128x128, .f32⟩
  | 117 => ⟨S8x128x128, .f32⟩
  | 118 => ⟨S_, .f32⟩
  | 119 => ⟨S_, .f32⟩
  | 120 => ⟨S8x128x128, .i1⟩
  | 121 => ⟨S8x128x128, .f32⟩
  | 122 => ⟨S8x128x128, .f32⟩
  | 123 => ⟨S_, .f32⟩
  | 124 => ⟨S128, .f32⟩
  | 125 => ⟨S128, .f32⟩
  | 126 => ⟨S1x128, .f32⟩
  | 127 => ⟨S8x1, .f32⟩
  | _ => ⟨S8192x10240, .f32⟩

abbrev hbmTy0_1 (i : Nat) : BufTy := match i % 128 with
  | 0 => ⟨S8x128, .f32⟩
  | 1 => ⟨S8x128, .f32⟩
  | 2 => ⟨S8x128, .f32⟩
  | 3 => ⟨S8x128, .f32⟩
  | 4 => ⟨S_, .f32⟩
  | 5 => ⟨S128, .f32⟩
  | 6 => ⟨S128, .f32⟩
  | 7 => ⟨S1x128, .f32⟩
  | 8 => ⟨S8x1, .f32⟩
  | 9 => ⟨S8x128, .f32⟩
  | 10 => ⟨S8x128, .f32⟩
  | 11 => ⟨S8x128, .f32⟩
  | 12 => ⟨S8x128, .f32⟩
  | 13 => ⟨S_, .f32⟩
  | 14 => ⟨S8, .f32⟩
  | 15 => ⟨S8, .f32⟩
  | 16 => ⟨S8, .f32⟩
  | 17 => ⟨S_, .f32⟩
  | 18 => ⟨S1x8x256x256, .f32⟩
  | 19 => ⟨S1x64x128x8x256, .f32⟩
  | 20 => ⟨S64x1x8x128x256, .f32⟩
  | 21 => ⟨S1x64x128x8x256, .f32⟩
  | 22 => ⟨S64x1x8x128x256, .f32⟩
  | 23 => ⟨S1x64x128x8x256, .f32⟩
  | 24 => ⟨S64x1x8x128x256, .f32⟩
  | 25 => ⟨S_, .f32⟩
  | 26 => ⟨S64x1x8x128x256, .f32⟩
  | 27 => ⟨S_, .i32⟩
  | 28 => ⟨S64x1x8x128x256, .f32⟩
  | 29 => ⟨S64x1x8x128x256, .f32⟩
  | 30 => ⟨S64x1x8x128x256, .f32⟩
  | 31 => ⟨S8x128x128, .f32⟩
  | 32 => ⟨S8x128, .f32⟩
  | 33 => ⟨S8, .f32⟩
  | 34 => ⟨S8x128, .f32⟩
  | 35 => ⟨S_, .i32⟩
  | 36 => ⟨S1x8x256x256, .f32⟩
  | 37 => ⟨S64x1x8x128x256, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x1x8x128x256, .f32⟩
  | 45 => ⟨S1x8x128x256, .f32⟩
  | 46 => ⟨S_, .i32⟩
  | 47 => ⟨S_, .i32⟩
  | 48 => ⟨S_, .i32⟩
  | 49 => ⟨S_, .i32⟩
  | 50 => ⟨S1x1x8x128x256, .f32⟩
  | 51 => ⟨S1x8x128x256, .f32⟩
  | 52 => ⟨S_, .i32⟩
  | 53 => ⟨S_, .i32⟩
  | 54 => ⟨S_, .i32⟩
  | 55 => ⟨S_, .i32⟩
  | 56 => ⟨S1x1x8x128x256, .f32⟩
  | 57 => ⟨S1x8x128x256, .f32⟩
  | 58 => ⟨S1x8x128x128, .f32⟩
  | 59 => ⟨S1x8x128x128, .f32⟩
  | 60 => ⟨S1x8x128x128, .f32⟩
  | 61 => ⟨S1x8x128x256, .f32⟩
  | 62 => ⟨S1x8x128x256, .f32⟩
  | 63 => ⟨S1x8x128x1, .f32⟩
  | 64 => ⟨S1x8x128x256, .f32⟩
  | 65 => ⟨S1x8x128x256, .f32⟩
  | 66 => ⟨S1x8x128x256, .f32⟩
  | 67 => ⟨S1x8x1x1, .f32⟩
  | 68 => ⟨S1x8x256x256, .f32⟩
  | 69 => ⟨S1x8x256x256, .f32⟩
  | 70 => ⟨S1x8x128x1, .f32⟩
  | 71 => ⟨S1x8x128x256, .f32⟩
  | 72 => ⟨S1x8x128x256, .f32⟩
  | 73 => ⟨S1x8x256x256, .f32⟩
  | 74 => ⟨S1x8x256x256, .f32⟩
  | 75 => ⟨S1x1x8x128x256, .f32⟩
  | 76 => ⟨S_, .i32⟩
  | 77 => ⟨S_, .i32⟩
  | 78 => ⟨S_, .i32⟩
  | 79 => ⟨S_, .i32⟩
  | 80 => ⟨S64x1x8x128x256, .f32⟩
  | 81 => ⟨S_, .i32⟩
  | 82 => ⟨S_, .i32⟩
  | 83 => ⟨S1x64x128x8x256, .f32⟩
  | 84 => ⟨S1x8192x8x256, .f32⟩
  | 85 => ⟨S_, .f32⟩
  | 86 => ⟨S1x8192x8, .f32⟩
  | 87 => ⟨S1x8192x8x1, .f32⟩
  | 88 => ⟨S_, .f32⟩
  | 89 => ⟨S1x8192x8x1, .f32⟩
  | 90 => ⟨S1x8192x8x1, .f32⟩
  | 91 => ⟨S1x8192x8x256, .f32⟩
  | 92 => ⟨S1x8192x8x256, .f32⟩
  | 93 => ⟨S1x8192x8x256, .f32⟩
  | 94 => ⟨S_, .f32⟩
  | 95 => ⟨S1x8192x8, .f32⟩
  | 96 => ⟨S1x8192x8x1, .f32⟩
  | 97 => ⟨S_, .f32⟩
  | 98 => ⟨S1x8192x8x1, .f32⟩
  | 99 => ⟨S1x8192x8x1, .f32⟩
  | 100 => ⟨S1x8192x8x256, .f32⟩
  | 101 => ⟨S1x8192x8x256, .f32⟩
  | 102 => ⟨S_, .f32⟩
  | 103 => ⟨S1x8192x8x1, .f32⟩
  | 104 => ⟨S1x8192x8x1, .f32⟩
  | 105 => ⟨S1x8192x8x1, .f32⟩
  | 106 => ⟨S1x8192x8x256, .f32⟩
  | 107 => ⟨S1x8192x8x256, .f32⟩
  | 108 => ⟨S1x8192x2048, .f32⟩
  | 109 => ⟨S1x8192x2048, .f32⟩
  | 110 => ⟨S1x8192x2048, .f32⟩
  | 111 => ⟨S_, .f32⟩
  | 112 => ⟨S1x8192x2048, .f32⟩
  | 113 => ⟨S1x8192x2048, .f32⟩
  | 114 => ⟨S_, .f32⟩
  | 115 => ⟨S1x8192x2048, .f32⟩
  | 116 => ⟨S1x8192x2048, .f32⟩
  | 117 => ⟨S1x8192x2048, .f32⟩
  | 118 => ⟨S1x8192x2048, .f32⟩
  | 119 => ⟨S8192x2048, .f32⟩
  | 120 => ⟨S8192x2048, .bf16⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_cst_2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_3 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_4 : Ref sig .tc := ⟨.hbm, 90, rfl⟩
abbrev main_v64 : Ref sig .tc := ⟨.hbm, 91, rfl⟩
abbrev main_v65 : Ref sig .tc := ⟨.hbm, 92, rfl⟩
abbrev main_cst_5 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_7 : Ref sig .tc := ⟨.hbm, 106, rfl⟩
abbrev main_v77 : Ref sig .tc := ⟨.hbm, 107, rfl⟩
abbrev main_v78 : Ref sig .tc := ⟨.hbm, 108, rfl⟩
abbrev main_cst_8 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_9 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v87 : Ref sig .tc := ⟨.hbm, 122, rfl⟩
abbrev main_cst_10 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_11 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_12 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_13 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_14 : Ref sig .tc := ⟨.hbm, 153, rfl⟩
abbrev main_v114 : Ref sig .tc := ⟨.hbm, 154, rfl⟩
abbrev main_c : Ref sig .tc := ⟨.hbm, 155, rfl⟩
abbrev main_v115_0 : Ref sig .tc := ⟨.hbm, 156, rfl⟩
abbrev main_v115_1 : Ref sig .tc := ⟨.hbm, 157, rfl⟩
abbrev main_v115_2 : Ref sig .tc := ⟨.hbm, 158, rfl⟩
abbrev main_v115_3 : Ref sig .tc := ⟨.hbm, 159, rfl⟩
abbrev main_v115_4 : Ref sig .tc := ⟨.hbm, 160, rfl⟩
abbrev main_v115_5 : Ref sig .tc := ⟨.hbm, 161, rfl⟩
abbrev main_v115_6 : Ref sig .tc := ⟨.hbm, 162, rfl⟩
abbrev main_v115_7 : Ref sig .tc := ⟨.hbm, 163, rfl⟩
abbrev main_v115_8 : Ref sig .tc := ⟨.hbm, 164, rfl⟩
abbrev main_v115_9 : Ref sig .tc := ⟨.hbm, 165, rfl⟩
abbrev main_while0c_c_29 : Ref sig .tc := ⟨.hbm, 166, rfl⟩
abbrev main_while0c_v141 : Ref sig .tc := ⟨.hbm, 167, rfl⟩
abbrev main_while0b_call2_c : Ref sig .tc := ⟨.hbm, 168, rfl⟩
abbrev main_while0b_call2_c_0 : Ref sig .tc := ⟨.hbm, 169, rfl⟩
abbrev main_while0b_call2_c_1 : Ref sig .tc := ⟨.hbm, 170, rfl⟩
abbrev main_while0b_call2_c_2 : Ref sig .tc := ⟨.hbm, 171, rfl⟩
abbrev main_while0b_call2_v0 : Ref sig .tc := ⟨.hbm, 172, rfl⟩
abbrev main_while0b_v141 : Ref sig .tc := ⟨.hbm, 173, rfl⟩
abbrev main_while0b_call3_c : Ref sig .tc := ⟨.hbm, 174, rfl⟩
abbrev main_while0b_call3_c_0 : Ref sig .tc := ⟨.hbm, 175, rfl⟩
abbrev main_while0b_call3_c_1 : Ref sig .tc := ⟨.hbm, 176, rfl⟩
abbrev main_while0b_call3_c_2 : Ref sig .tc := ⟨.hbm, 177, rfl⟩
abbrev main_while0b_call3_v0 : Ref sig .tc := ⟨.hbm, 178, rfl⟩
abbrev main_while0b_v142 : Ref sig .tc := ⟨.hbm, 179, rfl⟩
abbrev main_while0b_call4_c : Ref sig .tc := ⟨.hbm, 180, rfl⟩
abbrev main_while0b_call4_c_0 : Ref sig .tc := ⟨.hbm, 181, rfl⟩
abbrev main_while0b_call4_c_1 : Ref sig .tc := ⟨.hbm, 182, rfl⟩
abbrev main_while0b_call4_c_2 : Ref sig .tc := ⟨.hbm, 183, rfl⟩
abbrev main_while0b_call4_v0 : Ref sig .tc := ⟨.hbm, 184, rfl⟩
abbrev main_while0b_v143 : Ref sig .tc := ⟨.hbm, 185, rfl⟩
abbrev main_while0b_v144 : Ref sig .tc := ⟨.hbm, 186, rfl⟩
abbrev main_while0b_v145 : Ref sig .tc := ⟨.hbm, 187, rfl⟩
abbrev main_while0b_v146 : Ref sig .tc := ⟨.hbm, 188, rfl⟩
abbrev main_while0b_v147 : Ref sig .tc := ⟨.hbm, 189, rfl⟩
abbrev main_while0b_v148 : Ref sig .tc := ⟨.hbm, 190, rfl⟩
abbrev main_while0b_v149 : Ref sig .tc := ⟨.hbm, 191, rfl⟩
abbrev main_while0b_v150 : Ref sig .tc := ⟨.hbm, 192, rfl⟩
abbrev main_while0b_v151 : Ref sig .tc := ⟨.hbm, 193, rfl⟩
abbrev main_while0b_v152 : Ref sig .tc := ⟨.hbm, 194, rfl⟩
abbrev main_while0b_v153 : Ref sig .tc := ⟨.hbm, 195, rfl⟩
abbrev main_while0b_v154 : Ref sig .tc := ⟨.hbm, 196, rfl⟩
abbrev main_while0b_v155 : Ref sig .tc := ⟨.hbm, 197, rfl⟩
abbrev main_while0b_v156 : Ref sig .tc := ⟨.hbm, 198, rfl⟩
abbrev main_while0b_v157 : Ref sig .tc := ⟨.hbm, 199, rfl⟩
abbrev main_while0b_v158 : Ref sig .tc := ⟨.hbm, 200, rfl⟩
abbrev main_while0b_v159 : Ref sig .tc := ⟨.hbm, 201, rfl⟩
abbrev main_while0b_v160 : Ref sig .tc := ⟨.hbm, 202, rfl⟩
abbrev main_while0b_call5_v0 : Ref sig .tc := ⟨.hbm, 203, rfl⟩
abbrev main_while0b_call5_c : Ref sig .tc := ⟨.hbm, 204, rfl⟩
abbrev main_while0b_call5_c_0 : Ref sig .tc := ⟨.hbm, 205, rfl⟩
abbrev main_while0b_call5_c_1 : Ref sig .tc := ⟨.hbm, 206, rfl⟩
abbrev main_while0b_call5_c_2 : Ref sig .tc := ⟨.hbm, 207, rfl⟩
abbrev main_while0b_v161 : Ref sig .tc := ⟨.hbm, 208, rfl⟩
abbrev main_while0b_c_29 : Ref sig .tc := ⟨.hbm, 209, rfl⟩
abbrev main_while0b_v162 : Ref sig .tc := ⟨.hbm, 210, rfl⟩
abbrev main_v116 : Ref sig .tc := ⟨.hbm, 211, rfl⟩
abbrev main_v117 : Ref sig .tc := ⟨.hbm, 212, rfl⟩
abbrev main_cst_15 : Ref sig .tc := ⟨.hbm, 213, rfl⟩
abbrev main_v118 : Ref sig .tc := ⟨.hbm, 214, rfl⟩
abbrev main_v119 : Ref sig .tc := ⟨.hbm, 215, rfl⟩
abbrev main_cst_16 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_cst_17 : Ref sig .tc := ⟨.hbm, 222, rfl⟩
abbrev main_v125 : Ref sig .tc := ⟨.hbm, 223, rfl⟩
abbrev main_v126 : Ref sig .tc := ⟨.hbm, 224, rfl⟩
abbrev main_cst_18 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_cst_19 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_call6_v0 : Ref sig .tc := ⟨.hbm, 237, rfl⟩
abbrev main_call6_v1 : Ref sig .tc := ⟨.hbm, 238, rfl⟩
abbrev main_call6_cst : Ref sig .tc := ⟨.hbm, 239, rfl⟩
abbrev main_call6_v2 : Ref sig .tc := ⟨.hbm, 240, rfl⟩
abbrev main_call6_v3 : Ref sig .tc := ⟨.hbm, 241, rfl⟩
abbrev main_call6_cst_0 : Ref sig .tc := ⟨.hbm, 242, rfl⟩
abbrev main_call6_v4 : Ref sig .tc := ⟨.hbm, 243, rfl⟩
abbrev main_call6_v5 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩

abbrev nD : Nat := 1
abbrev τ : Topo := Topo.v7x

variable {F : FTy → Type} [FloatOps F]

abbrev main_while0_count : Scf.Loop 32 := ⟨0#32, 64#32, 1#32⟩
-- ==== GateUp.lean ====
abbrev S8192x4096 : Shape := ⟨2, ![8192, 4096]⟩
abbrev S2x4096x11008 : Shape := ⟨3, ![2, 4096, 11008]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefGateUpIdeal.lean ====
abbrev S8192x4096 : Shape := ⟨2, ![8192, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S1x4096x11008, .f32⟩
  | .hbm, ⟨5, _⟩ => ⟨S4096x11008, .f32⟩
  | .hbm, ⟨6, _⟩ => ⟨S1x4096x11008, .f32⟩
  | .hbm, ⟨7, _⟩ => ⟨S4096x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S8192x11008 : Shape := ⟨2, ![8192, 11008]⟩
abbrev S2x11008x4096 : Shape := ⟨3, ![2, 11008, 4096]⟩
abbrev S8192x4096 : Shape := ⟨2, ![8192, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S2x11008x4096, .bf16⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDownIdeal.lean ====
abbrev S8192x11008 : Shape := ⟨2, ![8192, 11008]⟩
abbrev S2x11008x4096 : Shape := ⟨3, ![2, 11008, 4096]⟩
abbrev S8192x4096 : Shape := ⟨2, ![8192, 4096]⟩
abbrev S1x11008x4096 : Shape := ⟨3, ![1, 11008, 4096]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x11008, .f32⟩
  | .hbm, ⟨4, _⟩ => ⟨S1x11008x4096, .f32⟩
  | .hbm, ⟨5, _⟩ => ⟨S11008x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S8192x4096 : Shape := ⟨2, ![8192, 4096]⟩
abbrev S8192x2048 : Shape := ⟨2, ![8192, 2048]⟩
abbrev S1x4096x4096 : Shape := ⟨3, ![1, 4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x4096x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![c0_i32.toNat, v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefOutProjIdeal.lean ====
abbrev S8192x4096 : Shape := ⟨2, ![8192, 4096]⟩
abbrev S8192x2048 : Shape := ⟨2, ![8192, 2048]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x4096x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== EvenIn.lean ====
abbrev S8192x4096 : Shape := ⟨2, ![8192, 4096]⟩
abbrev S1x4096x11808 : Shape := ⟨3, ![1, 4096, 11808]⟩
abbrev S8192x11776 : Shape := ⟨2, ![8192, 11776]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x11808, .f32⟩
  | .hbm, ⟨2, _⟩ => ⟨S8192x11776, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefEvenInIdeal.lean ====
abbrev S8192x4096 : Shape := ⟨2, ![8192, 4096]⟩
abbrev S1x4096x11808 : Shape := ⟨3, ![1, 4096, 11808]⟩
abbrev S4096x11808 : Shape := ⟨2, ![4096, 11808]⟩
abbrev S8192x11808 : Shape := ⟨2, ![8192, 11808]⟩
abbrev S8192x11776 : Shape := ⟨2, ![8192, 11776]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11808, .f32⟩
  | .hbm, ⟨2, _⟩ => ⟨S8192x4096, .f32⟩
  | .hbm, ⟨3, _⟩ => ⟨S4096x11808, .f32⟩
  | .hbm, ⟨4, _⟩ => ⟨S8192x11808, .f32⟩
  | .hbm, ⟨5, _⟩ => ⟨S8192x11776, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddIn.lean ====
abbrev S8192x4096 : Shape := ⟨2, ![8192, 4096]⟩
abbrev S1x4096x10240 : Shape := ⟨3, ![1, 4096, 10240]⟩
abbrev S8192x10240 : Shape := ⟨2, ![8192, 10240]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S8192x10240, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOddInIdeal.lean ====
abbrev S8192x4096 : Shape := ⟨2, ![8192, 4096]⟩
abbrev S1x4096x10240 : Shape := ⟨3, ![1, 4096, 10240]⟩
abbrev S4096x10240 : Shape := ⟨2, ![4096, 10240]⟩
abbrev S8192x10240 : Shape := ⟨2, ![8192, 10240]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S8192x4096, .f32⟩
  | .hbm, ⟨3, _⟩ => ⟨S4096x10240, .f32⟩
  | .hbm, ⟨4, _⟩ => ⟨S8192x10240, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Glu.lean ====
abbrev S8192x2048 : Shape := ⟨2, ![8192, 2048]⟩
abbrev S1x2048x2048 : Shape := ⟨3, ![1, 2048, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefGluIdeal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LoraIn.lean ====
abbrev S8192x4096 : Shape := ⟨2, ![8192, 4096]⟩
abbrev S1x4096x11808 : Shape := ⟨3, ![1, 4096, 11808]⟩
abbrev S4096x11808 : Shape := ⟨2, ![4096, 11808]⟩
abbrev S4096x96 : Shape := ⟨2, ![4096, 96]⟩
abbrev S_ : Shape := ⟨0, ![]⟩
abbrev S4096x32 : Shape := ⟨2, ![4096, 32]⟩
abbrev S4096x256 : Shape := ⟨2, ![4096, 256]⟩
abbrev S4096x512 : Shape := ⟨2, ![4096, 512]⟩
abbrev S8192x512 : Shape := ⟨2, ![8192, 512]⟩
abbrev S1024x4096 : Shape := ⟨2, ![1024, 4096]⟩
abbrev S1024x512 : Shape := ⟨2, ![1024, 512]⟩

abbrev nBuf : Space → Nat
  | .hbm => 12
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x4096x11808, .f32⟩
  | .hbm, ⟨2, _⟩ => ⟨S4096x11808, .f32⟩
  | .hbm, ⟨3, _⟩ => ⟨S4096x96, .f32⟩
  | .hbm, ⟨4, _⟩ => ⟨S_, .f32⟩
  | .hbm, ⟨5, _⟩ => ⟨S4096x32, .f32⟩
  | .hbm, ⟨6, _⟩ => ⟨S4096x96, .f32⟩
  | .hbm, ⟨7, _⟩ => ⟨S_, .f32⟩
  | .hbm, ⟨8, _⟩ => ⟨S4096x32, .f32⟩
  | .hbm, ⟨9, _⟩ => ⟨S4096x256, .f32⟩
  | .hbm, ⟨10, _⟩ => ⟨S4096x512, .f32⟩
  | .hbm, ⟨11, _⟩ => ⟨S8192x512, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefLoraInIdeal.lean ====
abbrev S8192x4096 : Shape := ⟨2, ![8192, 4096]⟩
abbrev S1x4096x11808 : Shape := ⟨3, ![1, 4096, 11808]⟩
abbrev S4096x11808 : Shape := ⟨2, ![4096, 11808]⟩
abbrev S8192x11808 : Shape := ⟨2, ![8192, 11808]⟩
abbrev S_ : Shape := ⟨0, ![]⟩
abbrev S8192x32 : Shape := ⟨2, ![8192, 32]⟩
abbrev S8192x96 : Shape := ⟨2, ![8192, 96]⟩
abbrev S8192x256 : Shape := ⟨2, ![8192, 256]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11808, .f32⟩
  | .hbm, ⟨2, _⟩ => ⟨S8192x4096, .f32⟩
  | .hbm, ⟨3, _⟩ => ⟨S4096x11808, .f32⟩
  | .hbm, ⟨4, _⟩ => ⟨S8192x11808, .f32⟩
  | .hbm, ⟨5, _⟩ => ⟨S_, .f32⟩
  | .hbm, ⟨6, _⟩ => ⟨S8192x32, .f32⟩
  | .hbm, ⟨7, _⟩ => ⟨S8192x96, .f32⟩
  | .hbm, ⟨8, _⟩ => ⟨S8192x96, .f32⟩
  | .hbm, ⟨9, _⟩ => ⟨S8192x256, .f32⟩
  | .hbm, ⟨10, _⟩ => ⟨S8192x512, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Tail.lean ====
abbrev S8192x4096 : Shape := ⟨2, ![8192, 4096]⟩
abbrev S8192x2048 : Shape := ⟨2, ![8192, 2048]⟩
abbrev S1x4096x4096 : Shape := ⟨3, ![1, 4096, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S4096 : Shape := ⟨1, ![4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 19
  | .vmem => 38
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x4096x4096, .f32⟩
  | .hbm, ⟨4, _⟩ => ⟨S2x4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S4096, .f32⟩
  | .hbm, ⟨12, _⟩ => ⟨S2x11008x4096, .bf16⟩
  | .hbm, ⟨13, _⟩ => ⟨S1x4096, .f32⟩
  | .hbm, ⟨14, _⟩ => ⟨S8192x4096, .bf16⟩
  | .hbm, ⟨15, _⟩ => ⟨S8192x11008, .bf16⟩
  | .hbm, ⟨16, _⟩ => ⟨S8192x4096, .f32⟩
  | .hbm, ⟨17, _⟩ => ⟨S1x4096, .f32⟩
  | .hbm, ⟨18, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S2048x4096, .bf16⟩
  | .local _ .vmem, ⟨18, _⟩ => ⟨S2048x4096, .bf16⟩
  | .local _ .vmem, ⟨19, _⟩ => ⟨S1x4096x256, .f32⟩
  | .local _ .vmem, ⟨20, _⟩ => ⟨S1x4096x256, .f32⟩
  | .local _ .vmem, ⟨21, _⟩ => ⟨S1x4096x256, .f32⟩
  | .local _ .vmem, ⟨22, _⟩ => ⟨S1x4096x256, .f32⟩
  | .local _ .vmem, ⟨23, _⟩ => ⟨S2048x256, .bf16⟩
  | .local _ .vmem, ⟨24, _⟩ => ⟨S2048x256, .bf16⟩
  | .local _ .vmem, ⟨25, _⟩ => ⟨S512x11008, .bf16⟩
  | .local _ .vmem, ⟨26, _⟩ => ⟨S512x11008, .bf16⟩
  | .local _ .vmem, ⟨27, _⟩ => ⟨S1x11008x512, .bf16⟩
  | .local _ .vmem, ⟨28, _⟩ => ⟨S1x11008x512, .bf16⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x4096, .f32⟩
  | .local _ .vmem, ⟨34, _⟩ => ⟨S512x4096, .f32⟩
  | .local _ .vmem, ⟨35, _⟩ => ⟨S1x4096, .f32⟩
  | .local _ .vmem, ⟨36, _⟩ => ⟨S512x4096, .f32⟩
  | .local _ .vmem, ⟨37, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![c0_i32.toNat, v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 43, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x11008 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x11008x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== RefTailIdeal.lean ====
abbrev S8192x4096 : Shape := ⟨2, ![8192, 4096]⟩
abbrev S8192x2048 : Shape := ⟨2, ![8192, 2048]⟩
abbrev S1x4096x4096 : Shape := ⟨3, ![1, 4096, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S1x4096x11008 : Shape := ⟨3, ![1, 4096, 11008]⟩
abbrev S4096x11008 : Shape := ⟨2, ![4096, 11008]⟩
abbrev S8192x11008 : Shape := ⟨2, ![8192, 11008]⟩
abbrev S1x11008x4096 : Shape := ⟨3, ![1, 11008, 4096]⟩
abbrev S11008x4096 : Shape := ⟨2, ![11008, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x4096x4096, .f32⟩
  | .hbm, ⟨4, _⟩ => ⟨S2x4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S4096, .f32⟩
  | .hbm, ⟨9, _⟩ => ⟨S8192x2048, .f32⟩
  | .hbm, ⟨10, _⟩ => ⟨S8192x2048, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S4096, .f32⟩
  | .hbm, ⟨17, _⟩ => ⟨S8192x4096, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S1x4096x11008, .f32⟩
  | .hbm, ⟨34, _⟩ => ⟨S4096x11008, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S_, .f32⟩
  | .hbm, ⟨39, _⟩ => ⟨S8192x11008, .f32⟩
  | .hbm, ⟨40, _⟩ => ⟨S8192x11008, .f32⟩
  | .hbm, ⟨41, _⟩ => ⟨S_, .f32⟩
  | .hbm, ⟨42, _⟩ => ⟨S8192x11008, .f32⟩
  | .hbm, ⟨43, _⟩ => ⟨S8192x11008, .f32⟩
  | .hbm, ⟨44, _⟩ => ⟨S8192x11008, .f32⟩
  | .hbm, ⟨45, _⟩ => ⟨S1x4096x11008, .f32⟩
  | .hbm, ⟨46, _⟩ => ⟨S4096x11008, .f32⟩
  | .hbm, ⟨47, _⟩ => ⟨S8192x11008, .f32⟩
  | .hbm, ⟨48, _⟩ => ⟨S8192x11008, .f32⟩
  | .hbm, ⟨49, _⟩ => ⟨S1x11008x4096, .f32⟩
  | .hbm, ⟨50, _⟩ => ⟨S11008x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x4096, .f32⟩
  | .hbm, ⟨65, _⟩ => ⟨S8192x4096, .f32⟩
  | .hbm, ⟨66, _⟩ => ⟨S1x4096, .f32⟩
  | .hbm, ⟨67, _⟩ => ⟨S8192x4096, .f32⟩
  | .hbm, ⟨68, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Mid.lean ====
abbrev S8192x4096 : Shape := ⟨2, ![8192, 4096]⟩
abbrev S8192x2048 : Shape := ⟨2, ![8192, 2048]⟩
abbrev S1x4096x4096 : Shape := ⟨3, ![1, 4096, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S1x4096x10240 : Shape := ⟨3, ![1, 4096, 10240]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩
abbrev S8192x10240 : Shape := ⟨2, ![8192, 10240]⟩
abbrev S1024x4096 : Shape := ⟨2, ![1024, 4096]⟩
abbrev S1x4096x512 : Shape := ⟨3, ![1, 4096, 512]⟩
abbrev S4096x512 : Shape := ⟨2, ![4096, 512]⟩

abbrev nBuf : Space → Nat
  | .hbm => 23
  | .vmem => 44
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x4096x4096, .f32⟩
  | .hbm, ⟨4, _⟩ => ⟨S2x4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S2x4096, .f32⟩
  | .hbm, ⟨9, _⟩ => ⟨S1x4096x10240, .f32⟩
  | .hbm, ⟨10, _⟩ => ⟨S8192x4096, .f32⟩
  | .hbm, ⟨11, _⟩ => ⟨S1x4096, .f32⟩
  | .hbm, ⟨12, _⟩ => ⟨S4096, .f32⟩
  | .hbm, ⟨13, _⟩ => ⟨S2x11008x4096, .bf16⟩
  | .hbm, ⟨14, _⟩ => ⟨S1x4096, .f32⟩
  | .hbm, ⟨15, _⟩ => ⟨S8192x4096, .bf16⟩
  | .hbm, ⟨16, _⟩ => ⟨S8192x11008, .bf16⟩
  | .hbm, ⟨17, _⟩ => ⟨S8192x4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S8192x4096, .bf16⟩
  | .hbm, ⟨22, _⟩ => ⟨S8192x10240, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S2048x4096, .bf16⟩
  | .local _ .vmem, ⟨18, _⟩ => ⟨S2048x4096, .bf16⟩
  | .local _ .vmem, ⟨19, _⟩ => ⟨S1x4096x256, .f32⟩
  | .local _ .vmem, ⟨20, _⟩ => ⟨S1x4096x256, .f32⟩
  | .local _ .vmem, ⟨21, _⟩ => ⟨S1x4096x256, .f32⟩
  | .local _ .vmem, ⟨22, _⟩ => ⟨S1x4096x256, .f32⟩
  | .local _ .vmem, ⟨23, _⟩ => ⟨S2048x256, .bf16⟩
  | .local _ .vmem, ⟨24, _⟩ => ⟨S2048x256, .bf16⟩
  | .local _ .vmem, ⟨25, _⟩ => ⟨S512x11008, .bf16⟩
  | .local _ .vmem, ⟨26, _⟩ => ⟨S512x11008, .bf16⟩
  | .local _ .vmem, ⟨27, _⟩ => ⟨S1x11008x512, .bf16⟩
  | .local _ .vmem, ⟨28, _⟩ => ⟨S1x11008x512, .bf16⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x4096, .f32⟩
  | .local _ .vmem, ⟨34, _⟩ => ⟨S512x4096, .f32⟩
  | .local _ .vmem, ⟨35, _⟩ => ⟨S1x4096, .f32⟩
  | .local _ .vmem, ⟨36, _⟩ => ⟨S512x4096, .bf16⟩
  | .local _ .vmem, ⟨37, _⟩ => ⟨S512x4096, .bf16⟩
  | .local _ .vmem, ⟨38, _⟩ => ⟨S1024x4096, .bf16⟩
  | .local _ .vmem, ⟨39, _⟩ => ⟨S1024x4096, .bf16⟩
  | .local _ .vmem, ⟨40, _⟩ => ⟨S1x4096x512, .f32⟩
  | .local _ .vmem, ⟨41, _⟩ => ⟨S1x4096x512, .f32⟩
  | .local _ .vmem, ⟨42, _⟩ => ⟨S1024x512, .f32⟩
  | .local _ .vmem, ⟨43, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![c0_i32.toNat, v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 43, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x11008 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x11008x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨3, ![8, 20, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x4096x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== RefMidIdeal.lean ====
abbrev S8192x4096 : Shape := ⟨2, ![8192, 4096]⟩
abbrev S8192x2048 : Shape := ⟨2, ![8192, 2048]⟩
abbrev S1x4096x4096 : Shape := ⟨3, ![1, 4096, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S1x4096x10240 : Shape := ⟨3, ![1, 4096, 10240]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096x11008 : Shape := ⟨3, ![1, 4096, 11008]⟩
abbrev S4096x11008 : Shape := ⟨2, ![4096, 11008]⟩
abbrev S8192x11008 : Shape := ⟨2, ![8192, 11008]⟩
abbrev S1x11008x4096 : Shape := ⟨3, ![1, 11008, 4096]⟩
abbrev S11008x4096 : Shape := ⟨2, ![11008, 4096]⟩
abbrev S4096x10240 : Shape := ⟨2, ![4096, 10240]⟩
abbrev S8192x10240 : Shape := ⟨2, ![8192, 10240]⟩

abbrev nBuf : Space → Nat
  | .hbm => 74
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S1x4096x4096, .f32⟩
  | .hbm, ⟨4, _⟩ => ⟨S2x4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S2x4096, .f32⟩
  | .hbm, ⟨9, _⟩ => ⟨S1x4096x10240, .f32⟩
  | .hbm, ⟨10, _⟩ => ⟨S8192x2048, .f32⟩
  | .hbm, ⟨11, _⟩ => ⟨S8192x2048, .f32⟩
  | .hbm, ⟨12, _⟩ => ⟨S8192x4096, .f32⟩
  | .hbm, ⟨13, _⟩ => ⟨S4096x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S1x4096x11008, .f32⟩
  | .hbm, ⟨35, _⟩ => ⟨S4096x11008, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S_, .f32⟩
  | .hbm, ⟨40, _⟩ => ⟨S8192x11008, .f32⟩
  | .hbm, ⟨41, _⟩ => ⟨S8192x11008, .f32⟩
  | .hbm, ⟨42, _⟩ => ⟨S_, .f32⟩
  | .hbm, ⟨43, _⟩ => ⟨S8192x11008, .f32⟩
  | .hbm, ⟨44, _⟩ => ⟨S8192x11008, .f32⟩
  | .hbm, ⟨45, _⟩ => ⟨S8192x11008, .f32⟩
  | .hbm, ⟨46, _⟩ => ⟨S1x4096x11008, .f32⟩
  | .hbm, ⟨47, _⟩ => ⟨S4096x11008, .f32⟩
  | .hbm, ⟨48, _⟩ => ⟨S8192x11008, .f32⟩
  | .hbm, ⟨49, _⟩ => ⟨S8192x11008, .f32⟩
  | .hbm, ⟨50, _⟩ => ⟨S1x11008x4096, .f32⟩
  | .hbm, ⟨51, _⟩ => ⟨S11008x4096, .f32⟩
  | .hbm, ⟨52, _⟩ => ⟨S8192x4096, .f32⟩
  | .hbm, ⟨53, _⟩ => ⟨S8192x4096, .f32⟩
  | .hbm, ⟨54, _⟩ => ⟨S1x4096, .f32⟩
  | .hbm, ⟨55, _⟩ => ⟨S4096, .f32⟩
  | .hbm, ⟨56, _⟩ => ⟨S8192x4096, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x4096, .f32⟩
  | .hbm, ⟨68, _⟩ => ⟨S8192x4096, .f32⟩
  | .hbm, ⟨69, _⟩ => ⟨S1x4096, .f32⟩
  | .hbm, ⟨70, _⟩ => ⟨S8192x4096, .f32⟩
  | .hbm, ⟨71, _⟩ => ⟨S8192x4096, .f32⟩
  | .hbm, ⟨72, _⟩ => ⟨S4096x10240, .f32⟩
  | .hbm, ⟨73, _⟩ => ⟨S8192x10240, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Prep.lean ====
abbrev S8192x11776 : Shape := ⟨2, ![8192, 11776]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x8192x1x128 : Shape := ⟨4, ![1, 8192, 1, 128]⟩
abbrev S1x8192x128 : Shape := ⟨3, ![1, 8192, 128]⟩
abbrev S3x8192x128 : Shape := ⟨3, ![3, 8192, 128]⟩
abbrev S8 : Shape := ⟨1, ![8]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S2048x8192 : Shape := ⟨2, ![2048, 8192]⟩
abbrev S8192x512 : Shape := ⟨2, ![8192, 512]⟩
abbrev S576x8192 : Shape := ⟨2, ![576, 8192]⟩
abbrev S128x8192 : Shape := ⟨2, ![128, 8192]⟩
abbrev S512x5120 : Shape := ⟨2, ![512, 5120]⟩
abbrev S512x128 : Shape := ⟨2, ![512, 128]⟩
abbrev S3x512x128 : Shape := ⟨3, ![3, 512, 128]⟩
abbrev S2048x512 : Shape := ⟨2, ![2048, 512]⟩
abbrev S512x512 : Shape := ⟨2, ![512, 512]⟩
abbrev S576x512 : Shape := ⟨2, ![576, 512]⟩
abbrev S128x512 : Shape := ⟨2, ![128, 512]⟩
abbrev S1x512x128 : Shape := ⟨3, ![1, 512, 128]⟩
abbrev S16x512 : Shape := ⟨2, ![16, 512]⟩

abbrev nBuf : Space → Nat
  | .hbm => 101
  | .vmem => 20
  | .smem => 0
  | _ => 0

abbrev bufTy : (tb : Table) → Fin (tcTables nBuf tb) → BufTy
  | .hbm, ⟨0, _⟩ => ⟨S8192x11776, .f32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8192, .f32⟩
  | .hbm, ⟨16, _⟩ => ⟨S8192x1, .f32⟩
  | .hbm, ⟨17, _⟩ => ⟨S1x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192x96, .f32⟩
  | .hbm, ⟨25, _⟩ => ⟨S8192x128, .f32⟩
  | .hbm, ⟨26, _⟩ => ⟨S8192x16, .f32⟩
  | .hbm, ⟨27, _⟩ => ⟨S_, .f32⟩
  | .hbm, ⟨28, _⟩ => ⟨S8192x112, .f32⟩
  | .hbm, ⟨29, _⟩ => ⟨S8192x128, .f32⟩
  | .hbm, ⟨30, _⟩ => ⟨S_, .f32⟩
  | .hbm, ⟨31, _⟩ => ⟨S8192x16, .f32⟩
  | .hbm, ⟨32, _⟩ => ⟨S_, .f32⟩
  | .hbm, ⟨33, _⟩ => ⟨S8192x96, .f32⟩
  | .hbm, ⟨34, _⟩ => ⟨S8192x128, .f32⟩
  | .hbm, ⟨35, _⟩ => ⟨S1x8192x1x128, .f32⟩
  | .hbm, ⟨36, _⟩ => ⟨S1x8192x1x128, .f32⟩
  | .hbm, ⟨37, _⟩ => ⟨S8192x128, .f32⟩
  | .hbm, ⟨38, _⟩ => ⟨S1x8192x1x128, .f32⟩
  | .hbm, ⟨39, _⟩ => ⟨S1x8192x1x128, .f32⟩
  | .hbm, ⟨40, _⟩ => ⟨S8192x128, .f32⟩
  | .hbm, ⟨41, _⟩ => ⟨S1x8192x1x128, .f32⟩
  | .hbm, ⟨42, _⟩ => ⟨S1x8192x1x128, .f32⟩
  | .hbm, ⟨43, _⟩ => ⟨S8192x128, .f32⟩
  | .hbm, ⟨44, _⟩ => ⟨S1x8192x128, .f32⟩
  | .hbm, ⟨45, _⟩ => ⟨S1x8192x128, .f32⟩
  | .hbm, ⟨46, _⟩ => ⟨S1x8192x128, .f32⟩
  | .hbm, ⟨47, _⟩ => ⟨S3x8192x128, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8192, .f32⟩
  | .hbm, ⟨63, _⟩ => ⟨S8192x1, .f32⟩
  | .hbm, ⟨64, _⟩ => ⟨S1x8, .f32⟩
  | .hbm, ⟨65, _⟩ => ⟨S8192x8, .f32⟩
  | .hbm, ⟨66, _⟩ => ⟨S8192x8, .f32⟩
  | .hbm, ⟨67, _⟩ => ⟨S8192x8, .f32⟩
  | .hbm, ⟨68, _⟩ => ⟨S8192x8, .f32⟩
  | .hbm, ⟨69, _⟩ => ⟨S8192x8, .f32⟩
  | .hbm, ⟨70, _⟩ => ⟨S_, .f32⟩
  | .hbm, ⟨71, _⟩ => ⟨S8192x48, .f32⟩
  | .hbm, ⟨72, _⟩ => ⟨S8192x64, .f32⟩
  | .hbm, ⟨73, _⟩ => ⟨S8192x8, .f32⟩
  | .hbm, ⟨74, _⟩ => ⟨S_, .f32⟩
  | .hbm, ⟨75, _⟩ => ⟨S8192x56, .f32⟩
  | .hbm, ⟨76, _⟩ => ⟨S8192x64, .f32⟩
  | .hbm, ⟨77, _⟩ => ⟨S_, .f32⟩
  | .hbm, ⟨78, _⟩ => ⟨S8192x8, .f32⟩
  | .hbm, ⟨79, _⟩ => ⟨S_, .f32⟩
  | .hbm, ⟨80, _⟩ => ⟨S8192x48, .f32⟩
  | .hbm, ⟨81, _⟩ => ⟨S8192x64, .f32⟩
  | .hbm, ⟨82, _⟩ => ⟨S1x8192x1x64, .f32⟩
  | .hbm, ⟨83, _⟩ => ⟨S1x8192x2x64, .f32⟩
  | .hbm, ⟨84, _⟩ => ⟨S8192x128, .f32⟩
  | .hbm, ⟨85, _⟩ => ⟨S1x8192x1x64, .f32⟩
  | .hbm, ⟨86, _⟩ => ⟨S1x8192x2x64, .f32⟩
  | .hbm, ⟨87, _⟩ => ⟨S8192x128, .f32⟩
  | .hbm, ⟨88, _⟩ => ⟨S1x8192x1x64, .f32⟩
  | .hbm, ⟨89, _⟩ => ⟨S1x8192x2x64, .f32⟩
  | .hbm, ⟨90, _⟩ => ⟨S8192x128, .f32⟩
  | .hbm, ⟨91, _⟩ => ⟨S1x8192x128, .f32⟩
  | .hbm, ⟨92, _⟩ => ⟨S1x8192x128, .f32⟩
  | .hbm, ⟨93, _⟩ => ⟨S1x8192x128, .f32⟩
  | .hbm, ⟨94, _⟩ => ⟨S3x8192x128, .f32⟩
  | .hbm, ⟨95, _⟩ => ⟨S2048x8192, .bf16⟩
  | .hbm, ⟨96, _⟩ => ⟨S8192x512, .bf16⟩
  | .hbm, ⟨97, _⟩ => ⟨S576x8192, .bf16⟩
  | .hbm, ⟨98, _⟩ => ⟨S2048x8192, .bf16⟩
  | .hbm, ⟨99, _⟩ => ⟨S8192x128, .bf16⟩
  | .hbm, ⟨100, _⟩ => ⟨S128x8192, .f32⟩
  | .local _ .vmem, ⟨0, _⟩ => ⟨S512x5120, .f32⟩
  | .local _ .vmem, ⟨1, _⟩ => ⟨S512x5120, .f32⟩
  | .local _ .vmem, ⟨2, _⟩ => ⟨S512x128, .f32⟩
  | .local _ .vmem, ⟨3, _⟩ => ⟨S512x128, .f32⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S3x512x128, .f32⟩
  | .local _ .vmem, ⟨8, _⟩ => ⟨S2048x512, .bf16⟩
  | .local _ .vmem, ⟨9, _⟩ => ⟨S2048x512, .bf16⟩
  | .local _ .vmem, ⟨10, _⟩ => ⟨S512x512, .bf16⟩
  | .local _ .vmem, ⟨11, _⟩ => ⟨S512x512, .bf16⟩
  | .local _ .vmem, ⟨12, _⟩ => ⟨S576x512, .bf16⟩
  | .local _ .vmem, ⟨13, _⟩ => ⟨S576x512, .bf16⟩
  | .local _ .vmem, ⟨14, _⟩ => ⟨S2048x512, .bf16⟩
  | .local _ .vmem, ⟨15, _⟩ => ⟨S2048x512, .bf16⟩
  | .local _ .vmem, ⟨16, _⟩ => ⟨S512x128, .bf16⟩
  | .local _ .vmem, ⟨17, _⟩ => ⟨S512x128, .bf16⟩
  | .local _ .vmem, ⟨18, _⟩ => ⟨S128x512, .f32⟩
  | .local _ .vmem, ⟨19, _⟩ => ⟨S128x512, .f32⟩
  | _, _ => ⟨S8192x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_7 : Ref sig .tc := ⟨.hbm, 49, rfl⟩
abbrev main_v40 : Ref sig .tc := ⟨.hbm, 50, rfl⟩
abbrev main_v41 : Ref sig .tc := ⟨.hbm, 51, rfl⟩
abbrev main_cst_8 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_9 : Ref sig .tc := ⟨.hbm, 56, rfl⟩
abbrev main_v45 : Ref sig .tc := ⟨.hbm, 57, rfl⟩
abbrev main_v46 : Ref sig .tc := ⟨.hbm, 58, rfl⟩
abbrev main_cst_10 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_11 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_12 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_cst_14 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78_0 : Ref sig .tc := ⟨.hbm, 95, rfl⟩
abbrev main_v78_1 : Ref sig .tc := ⟨.hbm, 96, rfl⟩
abbrev main_v78_2 : Ref sig .tc := ⟨.hbm, 97, rfl⟩
abbrev main_v78_3 : Ref sig .tc := ⟨.hbm, 98, rfl⟩
abbrev main_v78_4 : Ref sig .tc := ⟨.hbm, 99, rfl⟩
abbrev main_v78_5 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S576x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefPrepIdeal.lean ====
abbrev S8192x11776 : Shape := ⟨2, ![8192, 11776]⟩
abbrev S1x8192x11776 : Shape := ⟨3, ![1, 8192, 11776]⟩
abbrev S16 : Shape := ⟨1, ![16]⟩
abbrev S_ : Shape := ⟨0, ![]⟩
abbrev S8 : Shape := ⟨1, ![8]⟩
abbrev S1x8192x2048 : Shape := ⟨3, ![1, 8192, 2048]⟩
abbrev S1x8192x16x128 : Shape := ⟨4, ![1, 8192, 16, 128]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S1x8192x16x16 : Shape := ⟨4, ![1, 8192, 16, 16]⟩
abbrev S1x8192x16x96 : Shape := ⟨4, ![1, 8192, 16, 96]⟩
abbrev S1x8192x512 : Shape := ⟨3, ![1, 8192, 512]⟩
abbrev S1x8192x4x128 : Shape := ⟨4, ![1, 8192, 4, 128]⟩
abbrev S1x8192x4x16 : Shape := ⟨4, ![1, 8192, 4, 16]⟩
abbrev S1x8192x4x96 : Shape := ⟨4, ![1, 8192, 4, 96]⟩
abbrev S1x8192x4x144 : Shape := ⟨4, ![1, 8192, 4, 144]⟩
abbrev S1x8192x32x64 : Shape := ⟨4, ![1, 8192, 32, 64]⟩
abbrev S1x8 : Shape := ⟨2, ![1, 8]⟩
abbrev S8192x8 : Shape := ⟨2, ![8192, 8]⟩
abbrev S1x8192x1x8 : Shape := ⟨4, ![1, 8192, 1, 8]⟩
abbrev S1x8192x32x8 : Shape := ⟨4, ![1, 8192, 32, 8]⟩
abbrev S1x8192x32x48 : Shape := ⟨4, ![1, 8192, 32, 48]⟩
abbrev S1x8192x128 : Shape := ⟨3, ![1, 8192, 128]⟩
abbrev S1x8192x2x64 : Shape := ⟨4, ![1, 8192, 2, 64]⟩
abbrev S1x8192x2x8 : Shape := ⟨4, ![1, 8192, 2, 8]⟩
abbrev S1x8192x2x48 : Shape := ⟨4, ![1, 8192, 2, 48]⟩
abbrev S8192x2048 : Shape := ⟨2, ![8192, 2048]⟩
abbrev S8192x512 : Shape := ⟨2, ![8192, 512]⟩
abbrev S8192x576 : Shape := ⟨2, ![8192, 576]⟩
abbrev S8192x128 : Shape := ⟨2, ![8192, 128]⟩
abbrev S2048x8192 : Shape := ⟨2, ![2048, 8192]⟩
abbrev S576x8192 : Shape := ⟨2, ![576, 8192]⟩
abbrev S128x8192 : Shape := ⟨2, ![128, 8192]⟩

abbrev nBuf : Space → Nat
  | .hbm => 161
  | .vmem => 0
  | .smem => 0
  | _ => 0

abbrev hbmTy0_0 (i : Nat) : BufTy := match i % 128 with
  | 0 => ⟨S8192x11776, .f32⟩
  | 1 => ⟨S1x8192x11776, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S1x8192x2048, .f32⟩
  | 31 => ⟨S1x8192x16x128, .f32⟩
  | 32 => ⟨S8192, .f32⟩
  | 33 => ⟨S8192x1, .f32⟩
  | 34 => ⟨S1x16, .f32⟩
  | 35 => ⟨S8192x16, .f32⟩
  | 36 => ⟨S8192x16, .f32⟩
  | 37 => ⟨S8192x16, .f32⟩
  | 38 => ⟨S8192x16, .f32⟩
  | 39 => ⟨S1x8192x1x16, .f32⟩
  | 40 => ⟨S8192x16, .f32⟩
  | 41 => ⟨S1x8192x1x16, .f32⟩
  | 42 => ⟨S1x8192x16x16, .f32⟩
  | 43 => ⟨S1x8192x16x16, .f32⟩
  | 44 => ⟨S1x8192x16x16, .f32⟩
  | 45 => ⟨S1x8192x16x16, .f32⟩
  | 46 => ⟨S1x8192x16x16, .f32⟩
  | 47 => ⟨S1x8192x16x16, .f32⟩
  | 48 => ⟨S1x8192x16x16, .f32⟩
  | 49 => ⟨S1x8192x16x16, .f32⟩
  | 50 => ⟨S1x8192x16x16, .f32⟩
  | 51 => ⟨S1x8192x16x16, .f32⟩
  | 52 => ⟨S1x8192x16x16, .f32⟩
  | 53 => ⟨S1x8192x16x16, .f32⟩
  | 54 => ⟨S1x8192x16x96, .f32⟩
  | 55 => ⟨S1x8192x16x128, .f32⟩
  | 56 => ⟨S_, .f32⟩
  | 57 => ⟨S1x8192x16x128, .f32⟩
  | 58 => ⟨S1x8192x16x128, .f32⟩
  | 59 => ⟨S1x8192x512, .f32⟩
  | 60 => ⟨S1x8192x4x128, .f32⟩
  | 61 => ⟨S8192, .f32⟩
  | 62 => ⟨S8192x1, .f32⟩
  | 63 => ⟨S1x16, .f32⟩
  | 64 => ⟨S8192x16, .f32⟩
  | 65 => ⟨S8192x16, .f32⟩
  | 66 => ⟨S8192x16, .f32⟩
  | 67 => ⟨S8192x16, .f32⟩
  | 68 => ⟨S1x8192x1x16, .f32⟩
  | 69 => ⟨S8192x16, .f32⟩
  | 70 => ⟨S1x8192x1x16, .f32⟩
  | 71 => ⟨S1x8192x4x16, .f32⟩
  | 72 => ⟨S1x8192x4x16, .f32⟩
  | 73 => ⟨S1x8192x4x16, .f32⟩
  | 74 => ⟨S1x8192x4x16, .f32⟩
  | 75 => ⟨S1x8192x4x16, .f32⟩
  | 76 => ⟨S1x8192x4x16, .f32⟩
  | 77 => ⟨S1x8192x4x16, .f32⟩
  | 78 => ⟨S1x8192x4x16, .f32⟩
  | 79 => ⟨S1x8192x4x16, .f32⟩
  | 80 => ⟨S1x8192x4x16, .f32⟩
  | 81 => ⟨S1x8192x4x16, .f32⟩
  | 82 => ⟨S1x8192x4x16, .f32⟩
  | 83 => ⟨S1x8192x4x96, .f32⟩
  | 84 => ⟨S1x8192x4x128, .f32⟩
  | 85 => ⟨S1x8192x512, .f32⟩
  | 86 => ⟨S1x8192x4x128, .f32⟩
  | 87 => ⟨S_, .f32⟩
  | 88 => ⟨S1x8192x4x16, .f32⟩
  | 89 => ⟨S1x8192x4x144, .f32⟩
  | 90 => ⟨S1x8192x2048, .f32⟩
  | 91 => ⟨S1x8192x32x64, .f32⟩
  | 92 => ⟨S8192, .f32⟩
  | 93 => ⟨S8192x1, .f32⟩
  | 94 => ⟨S1x8, .f32⟩
  | 95 => ⟨S8192x8, .f32⟩
  | 96 => ⟨S8192x8, .f32⟩
  | 97 => ⟨S8192x8, .f32⟩
  | 98 => ⟨S8192x8, .f32⟩
  | 99 => ⟨S1x8192x1x8, .f32⟩
  | 100 => ⟨S8192x8, .f32⟩
  | 101 => ⟨S1x8192x1x8, .f32⟩
  | 102 => ⟨S1x8192x32x8, .f32⟩
  | 103 => ⟨S1x8192x32x8, .f32⟩
  | 104 => ⟨S1x8192x32x8, .f32⟩
  | 105 => ⟨S1x8192x32x8, .f32⟩
  | 106 => ⟨S1x8192x32x8, .f32⟩
  | 107 => ⟨S1x8192x32x8, .f32⟩
  | 108 => ⟨S1x8192x32x8, .f32⟩
  | 109 => ⟨S1x8192x32x8, .f32⟩
  | 110 => ⟨S1x8192x32x8, .f32⟩
  | 111 => ⟨S1x8192x32x8, .f32⟩
  | 112 => ⟨S1x8192x32x8, .f32⟩
  | 113 => ⟨S1x8192x32x8, .f32⟩
  | 114 => ⟨S1x8192x32x48, .f32⟩
  | 115 => ⟨S1x8192x32x64, .f32⟩
  | 116 => ⟨S1x8192x128, .f32⟩
  | 117 => ⟨S1x8192x2x64, .f32⟩
  | 118 => ⟨S8192, .f32⟩
  | 119 => ⟨S8192x1, .f32⟩
  | 120 => ⟨S1x8, .f32⟩
  | 121 => ⟨S8192x8, .f32⟩
  | 122 => ⟨S8192x8, .f32⟩
  | 123 => ⟨S8192x8, .f32⟩
  | 124 => ⟨S8192x8, .f32⟩
  | 125 => ⟨S1x8192x1x8, .f32⟩
  | 126 => ⟨S8192x8, .f32⟩
  | 127 => ⟨S1x8192x1x8, .f32⟩
  | _ => ⟨S8192x11776, .f32⟩

abbrev hbmTy0_1 (i : Nat) : BufTy := match i % 128 with
  | 0 => ⟨S1x8192x2x8, .f32⟩
  | 1 => ⟨S1x8192x2x8, .f32⟩
  | 2 => ⟨S1x8192x2x8, .f32⟩
  | 3 => ⟨S1x8192x2x8, .f32⟩
  | 4 => ⟨S1x8192x2x8, .f32⟩
  | 5 => ⟨S1x8192x2x8, .f32⟩
  | 6 => ⟨S1x8192x2x8, .f32⟩
  | 7 => ⟨S1x8192x2x8, .f32⟩
  | 8 => ⟨S1x8192x2x8, .f32⟩
  | 9 => ⟨S1x8192x2x8, .f32⟩
  | 10 => ⟨S1x8192x2x8, .f32⟩
  | 11 => ⟨S1x8192x2x8, .f32⟩
  | 12 => ⟨S1x8192x2x48, .f32⟩
  | 13 => ⟨S1x8192x2x64, .f32⟩
  | 14 => ⟨S1x8192x128, .f32⟩
  | 15 => ⟨S_, .f32⟩
  | 16 => ⟨S1x8192x128, .f32⟩
  | 17 => ⟨S1x8192x128, .f32⟩
  | 18 => ⟨S8192x2048, .f32⟩
  | 19 => ⟨S8192x2048, .bf16⟩
  | 20 => ⟨S8192x512, .f32⟩
  | 21 => ⟨S8192x512, .bf16⟩
  | 22 => ⟨S8192x576, .f32⟩
  | 23 => ⟨S8192x576, .bf16⟩
  | 24 => ⟨S8192x2048, .f32⟩
  | 25 => ⟨S8192x2048, .bf16⟩
  | 26 => ⟨S8192x128, .f32⟩
  | 27 => ⟨S8192x128, .bf16⟩
  | 28 => ⟨S2048x8192, .bf16⟩
  | 29 => ⟨S576x8192, .bf16⟩
  | 30 => ⟨S2048x8192, .bf16⟩
  | 31 => ⟨S8192x128, .f32⟩
  | 32 => ⟨S128x8192, .f32⟩
  | _ => ⟨S8192x11776, .f32⟩

abbrev hbmTy (i : Nat) : BufTy := match i / 128 with
  | 0 => hbmTy0_0 i
  | 1 => hbmTy0_1 i
  | _ => ⟨S8192x11776, .f32⟩

abbrev bufTy : (tb : Table) → Fin (tcTables nBuf tb) → BufTy
  | .hbm, ⟨i, _⟩ => hbmTy i
  | _, _ => ⟨S8192x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_7 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_8 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_cst_9 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩

abbrev nD : Nat := 1
abbrev τ : Topo := Topo.v7x

variable {F : FTy → Type} [FloatOps F]
-- ==== Proof.Decay.lean ====
/- The retention recurrence over the reals: a causal sum with an exponential decay, computed in chunks of any size. -/
module

public import Mathlib.Analysis.SpecialFunctions.Exp
public import Mathlib.Algebra.BigOperators.Group.Finset.Basic
public import Mathlib.Algebra.BigOperators.Ring.Finset
public import Mathlib.Algebra.BigOperators.Intervals
public import Mathlib.Tactic.Ring
public import Mathlib.Tactic.Linarith

@[expose] public section

noncomputable section

namespace Retention

open Finset

/-- The carried state after the first `n` positions, at feature `d` of the keys and `e` of the values: every past key times its
    value, decayed by one factor per later position. -/
def state (lg : ℝ) (K V : ℕ → Fin 256 → ℝ) (n : ℕ) (d e : Fin 256) : ℝ :=
  ∑ s ∈ range n, Real.exp (((n : ℝ) - 1 - s) * lg) * (K s d * V s e)

/-- The retained value at position `t`, feature `e`: the causal sum of the values, each with its decay and its query-key product. -/
def out (lg : ℝ) (Q K V : ℕ → Fin 256 → ℝ) (t : ℕ) (e : Fin 256) : ℝ :=
  ∑ s ∈ range (t + 1), Real.exp (((t : ℝ) - s) * lg) * ((∑ d, Q t d * K s d) * V s e)

theorem state_zero (lg : ℝ) (K V : ℕ → Fin 256 → ℝ) (d e : Fin 256) : state lg K V 0 d e = 0 := by
  simp [state]

/-- One chunk of `C` positions carries the state on. -/
theorem state_add (lg : ℝ) (K V : ℕ → Fin 256 → ℝ) (n C : ℕ) (d e : Fin 256) :
    state lg K V n d e * Real.exp ((C : ℝ) * lg)
      + ∑ b ∈ range C, K (n + b) d * Real.exp (((C : ℝ) - 1 - b) * lg) * V (n + b) e
      = state lg K V (n + C) d e := by
  unfold state
  rw [sum_range_add, sum_mul]
  congr 1
  · refine sum_congr rfl fun s _ => ?_
    rw [mul_right_comm, ← Real.exp_add]
    congr 2
    push_cast; ring
  · refine sum_congr rfl fun b _ => ?_
    rw [show (((n + C : ℕ) : ℝ) - 1 - ((n + b : ℕ) : ℝ)) * lg = ((C : ℝ) - 1 - b) * lg by push_cast; ring]
    ring

/-- One chunk's output row `a`: the masked products inside the chunk and the decayed state before it make the whole causal sum. -/
theorem out_chunk (lg : ℝ) (Q K V : ℕ → Fin 256 → ℝ) (n C a : ℕ) (ha : a < C) (e : Fin 256) :
    (∑ b ∈ range C, (∑ d, Q (n + a) d * K (n + b) d)
        * (if b ≤ a then Real.exp (((a : ℝ) - b) * lg) else 0) * V (n + b) e)
      + (∑ d, Q (n + a) d * state lg K V n d e) * Real.exp (((a : ℝ) + 1) * lg)
      = out lg Q K V (n + a) e := by
  unfold out
  rw [show n + a + 1 = n + (a + 1) by ring, sum_range_add, add_comm]
  congr 1
  · unfold state
    simp only [mul_sum, sum_mul]
    rw [sum_comm]
    refine sum_congr rfl fun s _ => sum_congr rfl fun d _ => ?_
    rw [show (((n + a : ℕ) : ℝ) - s) * lg = ((n : ℝ) - 1 - s) * lg + ((a : ℝ) + 1) * lg by push_cast; ring, Real.exp_add]
    ring
  · have hsub : range (a + 1) ⊆ range C := range_subset_range.2 ha
    rw [← sum_subset hsub (fun b _ hb => by
      have : ¬ b ≤ a := by simpa [Nat.lt_succ_iff] using hb
      simp [this])]
    refine sum_congr rfl fun b hb => ?_
    have hba : b ≤ a := Nat.lt_succ_iff.1 (mem_range.1 hb)
    rw [if_pos hba, show (((n + a : ℕ) : ℝ) - ((n + b : ℕ) : ℝ)) * lg = ((a : ℝ) - b) * lg by push_cast; ring]
    ring

end Retention

end
-- ==== Proof.Consts.lean ====
/- The f32 constants both programs name, as real numbers. -/
module

public import Idealize.ShloMosaic.Lib.IdealHost

@[expose] public section

noncomputable section

namespace Retention

open Idealize.ShloMosaic

theorem c127 : Ideal.ofBits .f32 0x42FE0000#32 = ((127 : ℝ) : EReal) := by
  simp [Ideal.ofBits, Ideal.ieee, -EReal.coe_mul]; norm_num
theorem c10000 : Ideal.ofBits .f32 0x461C4000#32 = ((10000 : ℝ) : EReal) := by
  simp [Ideal.ofBits, Ideal.ieee, -EReal.coe_mul]; norm_num
theorem cm5 : Ideal.ofBits .f32 0xC0A00000#32 = (((-5 : ℝ)) : EReal) := by
  simp [Ideal.ofBits, Ideal.ieee, -EReal.coe_mul, -EReal.coe_neg]; norm_num
theorem c2 : Ideal.ofBits .f32 0x40000000#32 = ((2 : ℝ) : EReal) := by
  simp [Ideal.ofBits, Ideal.ieee, -EReal.coe_mul]; norm_num
theorem c511 : Ideal.ofBits .f32 0x43FF8000#32 = ((511 : ℝ) : EReal) := by
  simp [Ideal.ofBits, Ideal.ieee, -EReal.coe_mul]; norm_num
theorem c512 : Ideal.ofBits .f32 0x44000000#32 = ((512 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c16th : Ideal.ofBits .f32 0x3D800000#32 = ((1 / 16 : ℝ) : EReal) := by
  simp [Ideal.ofBits, Ideal.ieee, -EReal.coe_mul]; norm_num

end Retention

end
-- ==== Proof.Tables.lean ====
/- The tables of the retention layer as extended reals: rotation angles, decay rates, the rotated queries and keys, and the layer's output. -/
module

public import proofs.«01_k».proof.Proof.Decay
public import proofs.«01_k».proof.Proof.Consts

@[expose] public section

set_option maxRecDepth 16384

noncomputable section

namespace Retention

open Idealize.ShloMosaic

theorem iota_real (n : ℕ) (h : n < 8192) :
    (FloatOps.sitofp (F := Ideal) FTy.f32 (BitVec.ofNat 32 n) : EReal) = ((n : ℝ) : EReal) := by
  have hi : (BitVec.ofNat 32 n).toInt = (n : ℤ) := by
    rw [BitVec.toInt_ofNat']
    rw [Int.bmod_eq_of_le] <;> omega
  show (((BitVec.ofNat 32 n).toInt : ℝ) : EReal) = _
  rw [hi]; simp

/-- An extended real that is a real number. -/
def Real' (x : EReal) : Prop := ∃ r : ℝ, x = (r : EReal)

theorem Real'.coe (r : ℝ) : Real' (r : EReal) := ⟨r, rfl⟩
theorem Real'.zero : Real' 0 := ⟨0, rfl⟩
theorem Real'.one : Real' 1 := ⟨1, rfl⟩
theorem Real'.add {x y : EReal} (hx : Real' x) (hy : Real' y) : Real' (x + y) := by
  obtain ⟨a, rfl⟩ := hx; obtain ⟨b, rfl⟩ := hy; exact ⟨a + b, by push_cast; rfl⟩
theorem Real'.sub {x y : EReal} (hx : Real' x) (hy : Real' y) : Real' (x - y) := by
  obtain ⟨a, rfl⟩ := hx; obtain ⟨b, rfl⟩ := hy; exact ⟨a - b, by push_cast; rfl⟩
theorem Real'.mul {x y : EReal} (hx : Real' x) (hy : Real' y) : Real' (x * y) := by
  obtain ⟨a, rfl⟩ := hx; obtain ⟨b, rfl⟩ := hy; exact ⟨a * b, by push_cast; rfl⟩
theorem Real'.eq {x : EReal} (hx : Real' x) : ((x.toReal : ℝ) : EReal) = x := by
  obtain ⟨a, rfl⟩ := hx; rfl

/-- The position of lane `j` between 0 and 1 that the rotation's frequencies start from. -/
def lin (j : ℕ) : EReal :=
  if j < 127 then
    0 * (1 - Ideal.div ((j : ℝ) : EReal) ((127 : ℝ) : EReal)) + 1 * Ideal.div ((j : ℝ) : EReal) ((127 : ℝ) : EReal)
  else 1

theorem lin_real (j : ℕ) : ∃ r : ℝ, lin j = (r : EReal) := by
  unfold lin
  split
  · rw [Ideal.div_coe (by norm_num)]
    exact (Real'.zero.mul (Real'.one.sub ((Real'.coe _).mul (Real'.coe _)))).add (Real'.one.mul ((Real'.coe _).mul (Real'.coe _)))
  · exact Real'.one

/-- The rotation angle of position `t` at lane `j`. -/
def ang (t j : ℕ) : EReal :=
  ((t : ℝ) : EReal) * Ideal.div 1 (Ideal.pow ((10000 : ℝ) : EReal) (lin j))

theorem ang_real (t j : ℕ) : Real' (ang t j) := by
  obtain ⟨r, hr⟩ := lin_real j
  have hp : (Real.rpow 10000 r) ≠ 0 := (Real.rpow_pos_of_pos (by norm_num) r).ne'
  unfold ang
  rw [hr, Ideal.pow_coe_coe, Ideal.div_coe hp]
  exact (Real'.coe _).mul (Real'.one.mul (Real'.coe _))

theorem cos_real (t j : ℕ) : Real' (Ideal.cos (ang t j)) := by
  obtain ⟨r, hr⟩ := ang_real t j; exact ⟨Real.cos r, by rw [hr]; rfl⟩
theorem sin_real (t j : ℕ) : Real' (Ideal.sin (ang t j)) := by
  obtain ⟨r, hr⟩ := ang_real t j; exact ⟨Real.sin r, by rw [hr]; rfl⟩

/-- The logarithm of head `h`'s decay rate. -/
def lg (h : ℕ) : ℝ := Real.log (1 - Real.rpow 2 (-5 - (h : ℝ)))

theorem lg_eq (h : ℕ) :
    Ideal.log (1 - Ideal.pow ((2 : ℝ) : EReal) (((-5 : ℝ) : EReal) - ((h : ℝ) : EReal))) = ((lg h : ℝ) : EReal) := by
  have h1 : Real.rpow 2 (-5 - (h : ℝ)) < 1 := by
    apply Real.rpow_lt_one_of_one_lt_of_neg (by norm_num)
    have : (0 : ℝ) ≤ h := Nat.cast_nonneg h
    linarith
  rw [← EReal.coe_sub, Ideal.pow_coe_coe, ← EReal.coe_one, ← EReal.coe_sub, Ideal.log_coe, if_neg (by linarith)]
  rfl

theorem exp_mul_lg (x : ℝ) (h : ℕ) : Ideal.exp ((x : EReal) * ((lg h : ℝ) : EReal)) = ((Real.exp (x * lg h) : ℝ) : EReal) := by
  rw [← EReal.coe_mul, Ideal.exp_coe]

variable (z : Fin 8192 → Fin 10240 → EReal)

/-- The projected rows, zero outside the array. -/
def col (t j : ℕ) : EReal := if h : t < 8192 ∧ j < 10240 then z ⟨t, h.1⟩ ⟨j, h.2⟩ else 0

/-- Lane `d` of head `h`'s part starting at column `base`, rotated by position `t`'s angles. -/
def rot (base h t d : ℕ) : EReal :=
  if d < 128 then
    col z t (base + 256 * h + d) * Ideal.cos (ang t d) - col z t (base + 256 * h + (d + 128)) * Ideal.sin (ang t d)
  else
    col z t (base + 256 * h + (d - 128)) * Ideal.sin (ang t (d - 128))
      + col z t (base + 256 * h + d) * Ideal.cos (ang t (d - 128))

def qE (h t d : ℕ) : EReal := rot z 2048 h t d
def kE (h t d : ℕ) : EReal := rot z 4096 h t d * ((1 / 16 : ℝ) : EReal)
def vE (h t d : ℕ) : EReal := col z t (6144 + 256 * h + d)

/-- The columns of the queries, keys and values are real numbers. -/
def FinQKV : Prop := ∀ (t : Fin 8192) (j : Fin 10240), 2048 ≤ j.val → j.val < 8192 → Real' (z t j)

def qR (h t : ℕ) (d : Fin 256) : ℝ := (qE z h t d).toReal
def kR (h t : ℕ) (d : Fin 256) : ℝ := (kE z h t d).toReal
def vR (h t : ℕ) (d : Fin 256) : ℝ := (vE z h t d).toReal

variable {z}

theorem col_real (hz : FinQKV z) (t j : ℕ) (h1 : 2048 ≤ j) (h2 : j < 8192) : Real' (col z t j) := by
  unfold col; split
  · exact hz _ _ h1 h2
  · exact Real'.zero

theorem rot_real (hz : FinQKV z) (base h t d : ℕ) (hb : 2048 ≤ base) (hb' : base ≤ 4096) (hh : h < 8) (hd : d < 256) :
    Real' (rot z base h t d) := by
  unfold rot; split
  · exact ((col_real hz _ _ (by omega) (by omega)).mul (cos_real _ _)).sub ((col_real hz _ _ (by omega) (by omega)).mul (sin_real _ _))
  · exact ((col_real hz _ _ (by omega) (by omega)).mul (sin_real _ _)).add ((col_real hz _ _ (by omega) (by omega)).mul (cos_real _ _))

theorem qE_eq (hz : FinQKV z) {h : ℕ} (t : ℕ) (d : Fin 256) (hh : h < 8) : qE z h t d = (qR z h t d : EReal) :=
  (rot_real hz _ _ _ _ (by omega) (by omega) hh d.isLt).eq.symm
theorem kE_eq (hz : FinQKV z) {h : ℕ} (t : ℕ) (d : Fin 256) (hh : h < 8) : kE z h t d = (kR z h t d : EReal) :=
  ((rot_real hz _ _ _ _ (by omega) (by omega) hh d.isLt).mul (Real'.coe _)).eq.symm
theorem vE_eq (hz : FinQKV z) {h : ℕ} (t : ℕ) (d : Fin 256) (hh : h < 8) : vE z h t d = (vR z h t d : EReal) :=
  (col_real hz _ _ (by omega) (by have := d.isLt; omega)).eq.symm

variable (z)

/-- What the retention of head `h` gives at position `t`, lane `e`. -/
def oE (h t : ℕ) (e : Fin 256) : EReal := ((out (lg h) (qR z h) (kR z h) (vR z h) t e : ℝ) : EReal)

def eps : EReal := Ideal.ofBits .f32 0x3727C5AC#32
def c256 : EReal := Ideal.ofBits .f32 0x43800000#32

/-- A row's mean removed. -/
def centre (f : Fin 256 → EReal) (e : Fin 256) : EReal := f e - Ideal.div (∑ i : Fin 256, f i) c256
/-- A row with mean zero and variance one. -/
def normed (f : Fin 256 → EReal) (e : Fin 256) : EReal :=
  centre f e * Ideal.rsqrt (Ideal.div (∑ i : Fin 256, centre f i * centre f i) c256 + eps)
/-- The gate's weight. -/
def silu (x : EReal) : EReal := x * Ideal.div 1 (1 + Ideal.exp (-x))

/-- The layer's output at position `t`, head `h`, lane `e`. -/
def layer (h t : ℕ) (e : Fin 256) : EReal :=
  silu (col z t (8192 + 256 * h + e)) * normed (oE z h t) e

end Retention

end
-- ==== Proof.Chunk.lean ====
/- One chunk of the retention recurrence in the extended reals, for any chunk length. -/
module

public import proofs.«01_k».proof.Proof.Tables

@[expose] public section

set_option maxRecDepth 16384

noncomputable section

namespace Retention

open Idealize.ShloMosaic

theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

variable (z : Fin 8192 → Fin 10240 → EReal)

/-- The state after `n` positions. -/
def stE (h n : ℕ) (d e : Fin 256) : EReal := ((state (lg h) (kR z h) (vR z h) n d e : ℝ) : EReal)

/-- The decay between two positions of a chunk. -/
def intraE (h a b : ℕ) : EReal := ((if b ≤ a then Real.exp (((a : ℝ) - b) * lg h) else 0 : ℝ) : EReal)
/-- The decay from the chunk's start to its position `a`. -/
def xiE (h a : ℕ) : EReal := ((Real.exp (((a : ℝ) + 1) * lg h) : ℝ) : EReal)
/-- The decay from position `b` to the end of a chunk of length `C`. -/
def zetaE (C h b : ℕ) : EReal := ((Real.exp (((C : ℝ) - 1 - b) * lg h) : ℝ) : EReal)
/-- The decay over a chunk of length `C`. -/
def gE (C h : ℕ) : EReal := ((Real.exp ((C : ℝ) * lg h) : ℝ) : EReal)

theorem stE_zero (h : ℕ) (d e : Fin 256) : stE z h 0 d e = 0 := by
  unfold stE; rw [state_zero]; rfl

variable {z}

theorem stE_add (hz : FinQKV z) (C h n : ℕ) (hh : h < 8) (d e : Fin 256) :
    stE z h n d e * gE C h + ∑ b : Fin C, kE z h (n + b) d * zetaE C h b * vE z h (n + b) e = stE z h (n + C) d e := by
  have hs : ∀ b : Fin C, kE z h (n + b) d * zetaE C h b * vE z h (n + b) e
      = ((kR z h (n + b) d * Real.exp (((C : ℝ) - 1 - (b : ℕ)) * lg h) * vR z h (n + b) e : ℝ) : EReal) := by
    intro b
    rw [kE_eq hz _ _ hh, vE_eq hz _ _ hh, zetaE]; push_cast; rfl
  rw [Finset.sum_congr rfl fun b _ => hs b, coe_sum, stE, gE, ← EReal.coe_mul, ← EReal.coe_add, stE,
    ← state_add (lg h) (kR z h) (vR z h) n C d e, Finset.sum_range]

theorem oE_chunk (hz : FinQKV z) (C h n a : ℕ) (hh : h < 8) (ha : a < C) (e : Fin 256) :
    (∑ b : Fin C, (∑ d : Fin 256, qE z h (n + a) d * kE z h (n + b) d) * intraE h a b * vE z h (n + b) e)
      + (∑ d : Fin 256, qE z h (n + a) d * stE z h n d e) * xiE h a = oE z h (n + a) e := by
  have h1 : ∀ b : Fin C, (∑ d : Fin 256, qE z h (n + a) d * kE z h (n + b) d) * intraE h a b * vE z h (n + b) e
      = (((∑ d : Fin 256, qR z h (n + a) d * kR z h (n + b) d)
          * (if (b : ℕ) ≤ a then Real.exp (((a : ℝ) - (b : ℕ)) * lg h) else 0) * vR z h (n + b) e : ℝ) : EReal) := by
    intro b
    rw [Finset.sum_congr rfl fun (d : Fin 256) _ => show qE z h (n + a) d * kE z h (n + b) d
      = ((qR z h (n + a) d * kR z h (n + b) d : ℝ) : EReal) by
        rw [qE_eq hz _ _ hh, kE_eq hz _ _ hh, EReal.coe_mul], coe_sum, vE_eq hz _ _ hh, intraE, ← EReal.coe_mul, ← EReal.coe_mul]
  have h2 : ∀ d : Fin 256, qE z h (n + a) d * stE z h n d e
      = ((qR z h (n + a) d * state (lg h) (kR z h) (vR z h) n d e : ℝ) : EReal) := by
    intro d
    rw [qE_eq hz _ _ hh, stE, EReal.coe_mul]
  rw [Finset.sum_congr rfl fun b _ => h1 b, coe_sum, Finset.sum_congr rfl fun d _ => h2 d, coe_sum, xiE,
    ← EReal.coe_mul, ← EReal.coe_add, oE, ← out_chunk (lg h) (qR z h) (kR z h) (vR z h) n C a ha e, Finset.sum_range]

end Retention

end
-- ==== Proof.KPay.lean ====
/- What the kernel body computes from its blocks, at an index. -/
module

public import proofs.«01_k».proof.Proof.Chunk
public import proofs.«01_k».proof.Proof.Gen.KernelIdeal.Skeleton
public import Idealize.ShloMosaic.Lib.Pipeline.ValueKit

@[expose] public section

set_option maxRecDepth 16384

noncomputable section

namespace Retention.K

open Cert.KernelIdeal Cert.KernelIdeal.Gen Idealize.ShloMosaic

variable {z : Fin 8192 → Fin 10240 → EReal} {h n : ℕ}

theorem pay7_at {v3 v5 : Vec Ideal S512x128 .f32} {v7 : Vec Ideal S512x256 .f32}
    (h3 : ∀ a j, @Eq EReal (v3 (ix2 a j)) (Ideal.cos (ang (n + a) j))) (h5 : ∀ a j, @Eq EReal (v5 (ix2 a j)) (Ideal.sin (ang (n + a) j)))
    (h7 : ∀ a d, @Eq EReal (v7 (ix2 a d)) (col z (n + a) (2048 + 256 * h + d))) (a : Fin 512) (d : Fin 256) :
    @Eq EReal (k0_pay7 v3 v5 v7 (ix2 a d)) (qE z h (n + a) d) := by
  pointwise [k0_pay7, k0_pay3, k0_pay4]
  unfold qE rot
  split
  · rw [h7, h7, h3, h5]; dsimp only; simp only [Nat.add_comm 128]
  · rename_i hd
    rw [h7, h7, h3, h5]; dsimp only; simp only [Nat.add_sub_cancel' (Nat.le_of_not_lt hd)]

theorem pay5_at {v3 v5 : Vec Ideal S512x128 .f32} {v17 : Vec Ideal S512x256 .f32}
    (h3 : ∀ a j, @Eq EReal (v3 (ix2 a j)) (Ideal.cos (ang (n + a) j))) (h5 : ∀ a j, @Eq EReal (v5 (ix2 a j)) (Ideal.sin (ang (n + a) j)))
    (h17 : ∀ a d, @Eq EReal (v17 (ix2 a d)) (col z (n + a) (4096 + 256 * h + d))) (a : Fin 512) (d : Fin 256) :
    @Eq EReal (k0_pay5 v3 v5 v17 (ix2 a d)) (kE z h (n + a) d) := by
  pointwise [k0_pay5, k0_pay3, k0_pay4]
  unfold kE rot
  rw [c16th]
  congr 1
  split
  · rw [h17, h17, h3, h5]; dsimp only; simp only [Nat.add_comm 128]
  · rename_i hd
    rw [h17, h17, h3, h5]; dsimp only; simp only [Nat.add_sub_cancel' (Nat.le_of_not_lt hd)]

theorem pay12_at {v3 v5 : Vec Ideal S512x128 .f32} {v17 : Vec Ideal S512x256 .f32} (a : Fin 512) (d : Fin 256) :
    @Eq EReal (k0_pay12 v3 v5 v17 (ix2 a d)) (k0_pay5 v3 v5 v17 (ix2 a d)) := by
  pointwise [k0_pay12]

theorem pay6_at {v29 : Vec Ideal S512x256 .f32} (a : Fin 512) (d : Fin 256) :
    @Eq EReal (k0_pay6 v29 (ix2 a d)) (v29 (ix2 a d)) := by
  pointwise [k0_pay6]

theorem pay9_at {v32 : Vec Ideal S1x512x384 .f32} {f : ℕ → EReal}
    (hv : ∀ (a : Fin 512) (j : Fin 384), j.val < 128 → @Eq EReal (v32 (ix3 0 a j)) (f a)) (a : Fin 512) (d : Fin 256) :
    @Eq EReal (k0_pay9 v32 (ix2 a d)) (f a) := by
  pointwise [k0_pay9, k0_pay8]
  have := d.isLt
  split <;> exact hv _ _ (by simp only []; omega)

theorem pay10_at {v32 : Vec Ideal S1x512x384 .f32} {f : ℕ → EReal}
    (hv : ∀ (a : Fin 512) (j : Fin 384), 128 ≤ j.val → j.val < 256 → @Eq EReal (v32 (ix3 0 a j)) (f a)) (a : Fin 512) (d : Fin 256) :
    @Eq EReal (k0_pay10 v32 (ix2 a d)) (f a) := by
  pointwise [k0_pay10, k0_pay8]
  have := d.isLt
  split <;> exact hv _ _ (by simp only []; omega) (by simp only []; omega)

theorem pay11_at {v32 : Vec Ideal S1x512x384 .f32} {f : ℕ → EReal}
    (hv : ∀ (a : Fin 512) (j : Fin 384), 256 ≤ j.val → @Eq EReal (v32 (ix3 0 a j)) (f a)) (a : Fin 512) (d : Fin 256) :
    @Eq EReal (k0_pay11 v32 (ix2 a d)) (f a) := by
  pointwise [k0_pay11, k0_pay8]
  have := d.isLt
  split <;> exact hv _ _ (by simp only []; omega)

theorem pay2_at (d e : Fin 256) : @Eq EReal (k0_pay2 (F := Ideal) (ix2 d e)) 0 := by
  pointwise [k0_pay2]

/-- The state after a chunk. -/
theorem pay13_at (hz : FinQKV z) (hh : h < 8) {v28 : FVec Ideal S512x256 .f32} {v30 : FVec Ideal S512x256 .bf16} {v37 v39 : FVec Ideal S512x256 .f32}
    {v45 : Vec Ideal S256x256 .f32} (h28 : ∀ a d, @Eq EReal (v28 (ix2 a d)) (kE z h (n + a) d))
    (h30 : ∀ a d, @Eq EReal (v30 (ix2 a d)) (vE z h (n + a) d)) (h37 : ∀ a d, @Eq EReal (v37 (ix2 a d)) (zetaE 512 h a))
    (h39 : ∀ a d, @Eq EReal (v39 (ix2 a d)) (gE 512 h)) (h45 : ∀ d e, @Eq EReal (v45 (ix2 d e)) (stE z h n d e)) (d e : Fin 256) :
    @Eq EReal (k0_pay13 v28 v30 v37 v39 v45 (ix2 d e)) (stE z h (n + 512) d e) := by
  pointwise [k0_pay13]
  rw [h45, h39, ← stE_add hz 512 h n hh d e]
  congr 1
  exact Finset.sum_congr rfl fun b _ => by rw [h28, h37, h30]

variable {v30 v31 : FVec Ideal S512x256 .bf16} {v35 : FVec Ideal S512x256 .f32} {v40 : FVec Ideal S512x256 .bf16}
  {v42 : Vec Ideal S1x512x512 .f32} {v45 : Vec Ideal S256x256 .f32}

/-- A chunk's output with its mean removed. -/
theorem pay14_at (hz : FinQKV z) (hh : h < 8) (h31 : ∀ a d, @Eq EReal (v31 (ix2 a d)) (qE z h (n + a) d))
    (h40 : ∀ a d, @Eq EReal (v40 (ix2 a d)) (kE z h (n + a) d))
    (h30 : ∀ a d, @Eq EReal (v30 (ix2 a d)) (vE z h (n + a) d)) (h35 : ∀ a d, @Eq EReal (v35 (ix2 a d)) (xiE h a))
    (h42 : ∀ a b, @Eq EReal (v42 (ix3 0 a b)) (intraE h a b)) (h45 : ∀ d e, @Eq EReal (v45 (ix2 d e)) (stE z h n d e))
    (a : Fin 512) (e : Fin 256) :
    @Eq EReal (k0_pay14 v30 v31 v35 v40 v42 v45 (ix2 a e)) (centre (oE z h (n + a)) e) := by
  have ho : ∀ e : Fin 256, @Eq EReal ((∑ x : Fin 512, (∑ y : Fin 256, (v31 (ix2 a y) : EReal) * v40 (ix2 x y)) * v42 (ix3 0 a x) * v30 (ix2 x e)) +
        (∑ x : Fin 256, (v31 (ix2 a x) : EReal) * v45 (ix2 x e)) * v35 (ix2 a e)) (oE z h (n + a) e) := by
    intro e
    rw [← oE_chunk hz 512 h n a hh a.isLt e, h35]
    congr 1
    · exact Finset.sum_congr rfl fun b _ => by
        rw [h42, h30]; congr 2; exact Finset.sum_congr rfl fun d _ => by rw [h31, h40]
    · congr 1; exact Finset.sum_congr rfl fun d _ => by rw [h31, h45]
  pointwise [k0_pay14]
  unfold centre
  rw [ho, Finset.sum_congr rfl fun x _ => ho x]
  rfl

theorem pay15_at (h14 : ∀ a e, @Eq EReal (k0_pay14 v30 v31 v35 v40 v42 v45 (ix2 a e)) (centre (oE z h (n + a)) e)) (a : Fin 512) :
    @Eq EReal (k0_pay15 v30 v31 v35 v40 v42 v45 (ix2 a 0))
      (Ideal.div (∑ i : Fin 256, centre (oE z h (n + a)) i * centre (oE z h (n + a)) i) c256) := by
  pointwise [k0_pay15]
  rw [Finset.sum_congr rfl fun x _ => by rw [h14 a x]]
  rfl

theorem pay1_at {v74 : Vec Ideal S512x256 .f32}
    (h14 : ∀ a e, @Eq EReal (k0_pay14 v30 v31 v35 v40 v42 v45 (ix2 a e)) (centre (oE z h (n + a)) e))
    (h74 : ∀ a d, @Eq EReal (v74 (ix2 a d)) (col z (n + a) (8192 + 256 * h + d))) (a : Fin 512) (e : Fin 256) :
    @Eq EReal (k0_pay1 (k0_pay14 v30 v31 v35 v40 v42 v45) (k0_pay15 v30 v31 v35 v40 v42 v45) v74 (k0_pay16 v74)
      (Scalar.ofBits .f32 0x3F800000#32) (ix2 a e)) (layer z h (n + a) e) := by
  pointwise [k0_pay1, k0_pay16]
  rw [h14, pay15_at h14, h74, zero_sub]
  rfl

end Retention.K

end
-- ==== Proof.KTab.lean ====
/- The tables the kernel's host code prepares, at an index. -/
module

public import proofs.«01_k».proof.Proof.Chunk
public import proofs.«01_k».proof.Proof.Gen.KernelIdeal.Frame.Runs
public import Idealize.ShloMosaic.Lib.Pipeline.ValueKit
public import Idealize.ShloMosaic.Lib.StableHlo.ReadAt

@[expose] public section

set_option maxRecDepth 16384

noncomputable section

namespace Retention.K

open Cert.KernelIdeal Cert.KernelIdeal.Gen Idealize.ShloMosaic Idealize.ShloMosaic.TcCoe Idealize.SL.Sem

variable (m : (ℓ : Loc nD τ sig) → Buf (Elt Ideal) ℓ)

theorem lin_at (j : Fin 128) :
    (if h : (j : ℕ) < 127 then
      id (constant (F := Ideal) S_ FTy.f32 0#32) ix0 *
          (1 - Ideal.div (FloatOps.sitofp (F := Ideal) FTy.f32 (BitVec.ofNat 32 j)) (Ideal.ofBits FTy.f32 1123942400#32)) +
        id (constant (F := Ideal) S_ FTy.f32 1065353216#32) ix0 *
          Ideal.div (FloatOps.sitofp (F := Ideal) FTy.f32 (BitVec.ofNat 32 j)) (Ideal.ofBits FTy.f32 1123942400#32)
      else id (constant (F := Ideal) S_ FTy.f32 1065353216#32) ix0 : EReal) = lin j := by
  have h0 : (constant (F := Ideal) S_ FTy.f32 0#32 ix0 : EReal) = 0 := Ideal.ofBits_zero_f32
  have h1 : (constant (F := Ideal) S_ FTy.f32 1065353216#32 ix0 : EReal) = 1 := Ideal.ofBits_one_f32
  have := j.isLt
  simp only [id, h0, h1, c127, iota_real j (by omega), lin]
  rfl

theorem V_cos (c : Dev nD) (t : Fin 8192) (j : Fin 128) :
    @Eq EReal (V m c main_v64 (ix2 t j)) (Ideal.cos (ang t j)) := by
  unfold V
  simp only [List.flatten_cons, List.flatten_nil, List.append_nil, List.cons_append, List.nil_append, hostOps0, hostOps0_1, hostOps0_2, hostOps0_3, hostOps0_4]
  repeat after_reads_at
  rw [lin_at, c10000, iota_real t t.isLt]
  rfl

theorem V_sin (c : Dev nD) (t : Fin 8192) (j : Fin 128) :
    @Eq EReal (V m c main_v65 (ix2 t j)) (Ideal.sin (ang t j)) := by
  unfold V
  simp only [List.flatten_cons, List.flatten_nil, List.append_nil, List.cons_append, List.nil_append, hostOps0, hostOps0_1, hostOps0_2, hostOps0_3, hostOps0_4]
  repeat after_reads_at
  rw [lin_at, c10000, iota_real t t.isLt]
  rfl

theorem V_intra (c : Dev nD) (h : Fin 8) (a b : Fin 512) :
    @Eq EReal (V m c main_v35 (ix3 h a b)) (intraE h a b) := by
  unfold V
  simp only [List.flatten_cons, List.flatten_nil, List.append_nil, List.cons_append, List.nil_append, hostOps0, hostOps0_1, hostOps0_2, hostOps0_3, hostOps0_4]
  repeat after_reads_at
  have ha := a.isLt
  have hb := b.isLt
  have hh := h.isLt
  have h0 : (constant (F := Ideal) S_ FTy.f32 0#32 ix0 : EReal) = 0 := Ideal.ofBits_zero_f32
  rw [c2, cm5, iota_real h (by omega), iota_real a (by omega), iota_real b (by omega), lg_eq, ← EReal.coe_sub]
  simp only [id, h0]
  unfold intraE
  by_cases hab : (b : ℕ) ≤ a
  · have hr : (0 : ℝ) ≤ (a : ℕ) - (b : ℕ) := by
      have : ((b : ℕ) : ℝ) ≤ (a : ℕ) := by exact_mod_cast hab
      linarith
    rw [if_pos hab, if_pos (by exact_mod_cast hr), max_eq_left (by exact_mod_cast hr), exp_mul_lg]
  · have hr : ¬ (0 : ℝ) ≤ (a : ℕ) - (b : ℕ) := by
      have : ((a : ℕ) : ℝ) < (b : ℕ) := by exact_mod_cast (Nat.lt_of_not_le hab)
      linarith
    rw [if_neg hab, if_neg (by exact_mod_cast hr)]
    rfl

theorem V_xi (c : Dev nD) (h : Fin 8) (a : Fin 512) (j : Fin 384) (hj : j.val < 128) :
    @Eq EReal (V m c main_v63 (ix3 h a j)) (xiE h a) := by
  unfold V
  simp only [List.flatten_cons, List.flatten_nil, List.append_nil, List.cons_append, List.nil_append, hostOps0, hostOps0_1, hostOps0_2, hostOps0_3, hostOps0_4]
  repeat after_reads_at
  have ha := a.isLt
  have hh := h.isLt
  rw [dif_pos hj, c2, cm5, iota_real h (by omega), iota_real a (by omega), lg_eq, ← EReal.coe_one, ← EReal.coe_add, exp_mul_lg]
  rfl

theorem V_zeta (c : Dev nD) (h : Fin 8) (a : Fin 512) (j : Fin 384) (hj : 128 ≤ j.val) (hj' : j.val < 256) :
    @Eq EReal (V m c main_v63 (ix3 h a j)) (zetaE 512 h a) := by
  unfold V
  simp only [List.flatten_cons, List.flatten_nil, List.append_nil, List.cons_append, List.nil_append, hostOps0, hostOps0_1, hostOps0_2, hostOps0_3, hostOps0_4]
  repeat after_reads_at
  have ha := a.isLt
  have hh := h.isLt
  rw [dif_neg (by omega), dif_pos (by omega), c2, cm5, c511, iota_real h (by omega), iota_real a (by omega), lg_eq,
    ← EReal.coe_sub, exp_mul_lg]
  unfold zetaE
  norm_num

theorem V_g (c : Dev nD) (h : Fin 8) (a : Fin 512) (j : Fin 384) (hj : 256 ≤ j.val) :
    @Eq EReal (V m c main_v63 (ix3 h a j)) (gE 512 h) := by
  unfold V
  simp only [List.flatten_cons, List.flatten_nil, List.append_nil, List.cons_append, List.nil_append, hostOps0, hostOps0_1, hostOps0_2, hostOps0_3, hostOps0_4]
  repeat after_reads_at
  have ha := a.isLt
  have hh := h.isLt
  rw [dif_neg (by omega), dif_neg (by omega), c2, cm5, c512, iota_real h (by omega), lg_eq, exp_mul_lg]
  unfold gE
  norm_num

/-- The argument of the program on device `c`. -/
def zOf (c : Dev nD) (i : Fin 8192) (j : Fin 10240) : EReal := m ((c : Thread nD τ).loc main_arg0) (ix2 i j)

end Retention.K

end
-- ==== Proof.KValue.lean ====
/- The kernel's result: every element is the layer's closed form. -/
module

public import proofs.«01_k».proof.Proof.KPay
public import proofs.«01_k».proof.Proof.KTab
public import proofs.«01_k».proof.Proof.Gen.KernelIdeal.Value
public import Idealize.ShloMosaic.Lib.Pipeline.ReadBack

@[expose] public section

set_option maxRecDepth 16384

noncomputable section

namespace Retention.K

open Cert.KernelIdeal Cert.KernelIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val % 16, 8 + t.val / 16] ∧ win0_1.index t = ![t.val % 16, 16 + t.val / 16]
    ∧ win0_2.index t = ![t.val % 16, 24 + t.val / 16] ∧ win0_3.index t = ![t.val % 16, 32 + t.val / 16]
    ∧ win0_4.index t = ![t.val % 16, 0] ∧ win0_5.index t = ![t.val % 16, 0] ∧ win0_6.index t = ![t.val / 16, 0, 0]
    ∧ win0_7.index t = ![t.val / 16, 0, 0] ∧ win0_8.index t = ![t.val % 16, t.val / 16] :=
  (by decide +kernel : ∀ t : Fin grid0.N, _)

theorem lt_N (t : Fin cfg0.N) : t.val < 128 := lt_of_lt_of_eq t.isLt (show cfg0.N = 128 from N_0)

theorem zOf_col (c : Dev nD) (i : Fin 8192) (j : Fin 10240) {t k : ℕ} (hi : i.val = t) (hj : j.val = k) :
    @Eq EReal (V m c main_arg0 (ix2 i j)) (col (zOf m c) t k) := by
  subst hi; subst hj
  rw [V_main_arg0]
  unfold col
  rw [dif_pos ⟨i.isLt, j.isLt⟩]
  rfl

variable (c : Dev nD) (t : Fin cfg0.N)

theorem b0 (a : Fin 512) (d : Fin 256) :
    @Eq EReal (iblk m c 0 t (ix2 a d)) (col (zOf m c) (512 * (t.val % 16) + a) (2048 + 256 * (t.val / 16) + d)) := by
  have hN := lt_N t
  have ha := a.isLt
  have hd := d.isLt
  have e : iblk m c 0 t (ix2 a d) = V m c main_arg0 (ix2 (⟨512 * (t.val % 16) + a, by omega⟩ : Fin 8192) (⟨2048 + 256 * (t.val / 16) + d, by omega⟩ : Fin 10240)) := by
    blk_ext [iblk, idx t]
  rw [e]; exact zOf_col m c _ _ rfl rfl

theorem b1 (a : Fin 512) (d : Fin 256) :
    @Eq EReal (iblk m c 1 t (ix2 a d)) (col (zOf m c) (512 * (t.val % 16) + a) (4096 + 256 * (t.val / 16) + d)) := by
  have hN := lt_N t
  have ha := a.isLt
  have hd := d.isLt
  have e : iblk m c 1 t (ix2 a d) = V m c main_arg0 (ix2 (⟨512 * (t.val % 16) + a, by omega⟩ : Fin 8192) (⟨4096 + 256 * (t.val / 16) + d, by omega⟩ : Fin 10240)) := by
    blk_ext [iblk, idx t]
  rw [e]; exact zOf_col m c _ _ rfl rfl

theorem b2 (a : Fin 512) (d : Fin 256) :
    @Eq EReal (iblk m c 2 t (ix2 a d)) (col (zOf m c) (512 * (t.val % 16) + a) (6144 + 256 * (t.val / 16) + d)) := by
  have hN := lt_N t
  have ha := a.isLt
  have hd := d.isLt
  have e : iblk m c 2 t (ix2 a d) = V m c main_arg0 (ix2 (⟨512 * (t.val % 16) + a, by omega⟩ : Fin 8192) (⟨6144 + 256 * (t.val / 16) + d, by omega⟩ : Fin 10240)) := by
    blk_ext [iblk, idx t]
  rw [e]; exact zOf_col m c _ _ rfl rfl

theorem b3 (a : Fin 512) (d : Fin 256) :
    @Eq EReal (iblk m c 3 t (ix2 a d)) (col (zOf m c) (512 * (t.val % 16) + a) (8192 + 256 * (t.val / 16) + d)) := by
  have hN := lt_N t
  have ha := a.isLt
  have hd := d.isLt
  have e : iblk m c 3 t (ix2 a d) = V m c main_arg0 (ix2 (⟨512 * (t.val % 16) + a, by omega⟩ : Fin 8192) (⟨8192 + 256 * (t.val / 16) + d, by omega⟩ : Fin 10240)) := by
    blk_ext [iblk, idx t]
  rw [e]; exact zOf_col m c _ _ rfl rfl

theorem b4 (a : Fin 512) (j : Fin 128) :
    @Eq EReal (iblk m c 4 t (ix2 a j)) (Ideal.cos (ang (512 * (t.val % 16) + a) j)) := by
  have hN := lt_N t
  have ha := a.isLt
  have e : iblk m c 4 t (ix2 a j) = V m c main_v64 (ix2 (⟨512 * (t.val % 16) + a, by omega⟩ : Fin 8192) j) := by
    blk_ext [iblk, idx t]
  rw [e]; exact V_cos m c _ _

theorem b5 (a : Fin 512) (j : Fin 128) :
    @Eq EReal (iblk m c 5 t (ix2 a j)) (Ideal.sin (ang (512 * (t.val % 16) + a) j)) := by
  have hN := lt_N t
  have ha := a.isLt
  have e : iblk m c 5 t (ix2 a j) = V m c main_v65 (ix2 (⟨512 * (t.val % 16) + a, by omega⟩ : Fin 8192) j) := by
    blk_ext [iblk, idx t]
  rw [e]; exact V_sin m c _ _

theorem b6 (a b : Fin 512) : @Eq EReal (iblk m c 6 t (ix3 0 a b)) (intraE (t.val / 16) a b) := by
  have hN := lt_N t
  have e : iblk m c 6 t (ix3 0 a b) = V m c main_v35 (ix3 (⟨t.val / 16, by omega⟩ : Fin 8) a b) := by
    blk_ext [iblk, idx t]
  rw [e]; exact V_intra m c _ _ _

theorem b7 (a : Fin 512) (j : Fin 384) :
    @Eq EReal (iblk m c 7 t (ix3 0 a j)) (V m c main_v63 (ix3 (⟨t.val / 16, by have := lt_N t; omega⟩ : Fin 8) a j)) := by
  have hN := lt_N t
  blk_ext [iblk, idx t]

variable {m c t}

/-- The state after a point, from the state before it. -/
theorem state_step (hz : FinQKV (zOf m c)) {S : Vec Ideal S256x256 .f32}
    (hS : ∀ d e, @Eq EReal (S (ix2 d e)) (stE (zOf m c) (t.val / 16) (512 * (t.val % 16)) d e)) (d e : Fin 256) :
    @Eq EReal (k0_pay13 (k0_pay5 (iblk m c 4 t) (iblk m c 5 t) (iblk m c 1 t)) (k0_pay6 (iblk m c 2 t)) (k0_pay10 (iblk m c 7 t))
      (k0_pay11 (iblk m c 7 t)) S (ix2 d e)) (stE (zOf m c) (t.val / 16) (512 * (t.val % 16) + 512) d e) := by
  have hN := lt_N t
  exact pay13_at hz (by omega) (fun a d => pay5_at (b4 m c t) (b5 m c t) (b1 m c t) a d)
    (fun a d => (pay6_at a d).trans (b2 m c t a d))
    (pay10_at fun a j h1 h2 => (b7 m c t a j).trans (V_zeta m c _ _ _ h1 h2))
    (pay11_at (f := fun _ => gE 512 (t.val / 16)) fun a j h1 => (b7 m c t a j).trans (V_g m c _ _ _ h1)) hS d e

/-- The tile a point stores, from the state before it. -/
theorem out_step (hz : FinQKV (zOf m c)) {S : Vec Ideal S256x256 .f32}
    (hS : ∀ d e, @Eq EReal (S (ix2 d e)) (stE (zOf m c) (t.val / 16) (512 * (t.val % 16)) d e)) (a : Fin 512) (e : Fin 256) :
    @Eq EReal (k0_pay1
      (k0_pay14 (k0_pay6 (iblk m c 2 t)) (k0_pay7 (iblk m c 4 t) (iblk m c 5 t) (iblk m c 0 t)) (k0_pay9 (iblk m c 7 t))
        (k0_pay12 (iblk m c 4 t) (iblk m c 5 t) (iblk m c 1 t)) (iblk m c 6 t) S)
      (k0_pay15 (k0_pay6 (iblk m c 2 t)) (k0_pay7 (iblk m c 4 t) (iblk m c 5 t) (iblk m c 0 t)) (k0_pay9 (iblk m c 7 t))
        (k0_pay12 (iblk m c 4 t) (iblk m c 5 t) (iblk m c 1 t)) (iblk m c 6 t) S)
      (iblk m c 3 t) (k0_pay16 (iblk m c 3 t)) (Scalar.ofBits .f32 0x3F800000#32) (ix2 a e))
      (layer (zOf m c) (t.val / 16) (512 * (t.val % 16) + a) e) := by
  have hN := lt_N t
  exact pay1_at (pay14_at hz (by omega) (fun a d => pay7_at (b4 m c t) (b5 m c t) (b0 m c t) a d)
    (fun a d => (pay12_at a d).trans (pay5_at (b4 m c t) (b5 m c t) (b1 m c t) a d))
    (fun a d => (pay6_at a d).trans (b2 m c t a d))
    (pay9_at fun a j h1 => (b7 m c t a j).trans (V_xi m c _ _ _ h1)) (fun a b => b6 m c t a b) hS) (b3 m c t) a e

theorem zero_state (h0 : t.val % 16 = 0) (d e : Fin 256) :
    @Eq EReal (k0_pay2 (F := Ideal) (ix2 d e)) (stE (zOf m c) (t.val / 16) (512 * (t.val % 16)) d e) := by
  rw [h0, Nat.mul_zero, stE_zero, pay2_at]

/-- After each point the scratch holds the head's state up to the end of the point's chunk. -/
theorem scratch (hz : FinQKV (zOf m c)) : ∀ (n : ℕ) (hn : n < cfg0.N) (d e : Fin 256),
    @Eq EReal ((outsAt0 m c n hn).2 (ix2 d e)) (stE (zOf m c) (n / 16) (512 * (n % 16) + 512) d e) := by
  intro n
  induction n with
  | zero =>
    intro hn d e
    rw [outsAt0_A m c ⟨0, hn⟩ rfl]
    frame_out
    exact state_step (t := ⟨0, hn⟩) hz (zero_state rfl) d e
  | succ n ih =>
    intro hn d e
    by_cases h0 : (n + 1) % 16 = 0
    · rw [outsAt0_A m c ⟨n + 1, hn⟩ h0]
      frame_out
      exact state_step (t := ⟨n + 1, hn⟩) hz (zero_state h0) d e
    · rw [outsAt0_B m c ⟨n + 1, hn⟩ h0]
      frame_out
      rw [read_unread_whole]
      refine state_step (t := ⟨n + 1, hn⟩) hz (fun d e => ?_) d e
      have := ih (Nat.lt_of_succ_lt hn) d e
      rw [show n / 16 = (n + 1) / 16 by omega, show 512 * (n % 16) + 512 = 512 * ((n + 1) % 16) by omega] at this
      exact this

/-- The tile each point stores is the layer's output for the point's head and chunk. -/
theorem tile (hz : FinQKV (zOf m c)) (t : Fin cfg0.N) (a : Fin 512) (e : Fin 256) :
    @Eq EReal ((outsAt0 m c t.val t.isLt).1 (ix2 a e)) (layer (zOf m c) (t.val / 16) (512 * (t.val % 16) + a) e) := by
  by_cases h0 : t.val % 16 = 0
  · rw [outsAt0_A m c t h0]
    frame_out
    exact out_step hz (zero_state h0) a e
  · rw [outsAt0_B m c t h0]
    frame_out
    rw [read_unread_whole]
    refine out_step hz (fun d e => ?_) a e
    have := scratch hz (t.val - 1) (by have := t.isLt; omega) d e
    rw [show (t.val - 1) / 16 = t.val / 16 by omega, show 512 * ((t.val - 1) % 16) + 512 = 512 * (t.val % 16) by omega] at this
    exact this

/-- The whole result array of the kernel. -/
theorem G8_eq (hz : FinQKV (zOf m c)) (i : Fin 8192) (j : Fin 2048) :
    @Eq EReal (Cert.KernelIdeal.Value.G8 m c (ix2 i j))
      (layer (zOf m c) (j.val / 256) i.val ⟨j.val % 256, Nat.mod_lt _ (by decide)⟩) := by
  have hi := i.isLt
  have hj := j.isLt
  have hp : Cert.KernelIdeal.Value.pt8Of (ix2 i j) = i.val / 512 + 16 * (j.val / 256) := by
    show 1 * (i.val / 512 - 0) + 16 * (j.val / 256 - 0) = _
    omega
  have hN : i.val / 512 + 16 * (j.val / 256) < cfg0.N := by
    rw [show cfg0.N = 128 from N_0]; omega
  have hl : Cert.KernelIdeal.Value.loc8Of (ix2 i j)
      = ix2 (⟨i.val % 512, Nat.mod_lt _ (by decide)⟩ : Fin 512) (⟨j.val % 256, Nat.mod_lt _ (by decide)⟩ : Fin 256) := by
    funext a
    match a with
    | ⟨0, _⟩ => rfl
    | ⟨1, _⟩ => rfl
  have key := tile hz (⟨i.val / 512 + 16 * (j.val / 256), hN⟩ : Fin cfg0.N)
    (⟨i.val % 512, Nat.mod_lt _ (by decide)⟩ : Fin 512) (⟨j.val % 256, Nat.mod_lt _ (by decide)⟩ : Fin 256)
  dsimp only at key
  rw [show (i.val / 512 + 16 * (j.val / 256)) / 16 = j.val / 256 by omega,
    show 512 * ((i.val / 512 + 16 * (j.val / 256)) % 16) + i.val % 512 = i.val by omega] at key
  rw [← key]
  unfold Cert.KernelIdeal.Value.G8
  rw [dif_pos (by rw [hp]; exact hN), hl, Cert.KernelIdeal.Value.outsAt0_sweep, Cert.KernelIdeal.Value.fold0_congr m c _ _ _ _ hp]

end Retention.K

end
-- ==== Proof.RTab.lean ====
/- What the reference's loop starts from: the chunked queries, keys and values and the decay tables, at an index. -/
module

public import proofs.«01_k».proof.Proof.Chunk
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Retention.R

open Cert.ReferenceIdeal Cert.ReferenceIdeal.Gen Cert.ReferenceIdeal.Value Idealize.ShloMosaic Idealize.ShloMosaic.TcCoe Idealize.SL.Sem
open Idealize.ShloMosaic.StableHlo Idealize.ShloMosaic.HostLoop

variable (m : (ℓ : Loc nD τ sig) → Buf (Elt Ideal) ℓ)

/-- The argument of the program on device `c`. -/
def zOf (c : Dev nD) (i : Fin 8192) (j : Fin 10240) : EReal := m ((c : Thread nD τ).loc main_arg0) (ix2 i j)

theorem zOf_col (c : Dev nD) (i : Fin 8192) (j : Fin 10240) {t k : ℕ} (hi : i.val = t) (hj : j.val = k) :
    @Eq EReal (launchContents m c (Proc.tc.devRef main_arg0) (ix2 i j)) (col (zOf m c) t k) := by
  subst hi; subst hj
  unfold col
  rw [dif_pos ⟨i.isLt, j.isLt⟩]
  rfl

theorem lin_at (n : ℕ) (hn : n < 8192) :
    (if h : n < 127 then
      0 * (1 - Ideal.div (FloatOps.sitofp (F := Ideal) FTy.f32 (BitVec.ofNat 32 n)) (Ideal.ofBits FTy.f32 1123942400#32)) +
        Ideal.div (FloatOps.sitofp (F := Ideal) FTy.f32 (BitVec.ofNat 32 n)) (Ideal.ofBits FTy.f32 1123942400#32)
      else 1 : EReal) = lin n := by
  simp only [c127, iota_real n hn, lin, one_mul]
  rfl

theorem ang_at (n t j : ℕ) (hn : n < 8192) (hj : j < 8192) (h : n = t) :
    ((FloatOps.sitofp (F := Ideal) FTy.f32 (BitVec.ofNat 32 n) : EReal) * Ideal.div 1 (Ideal.pow (Ideal.ofBits FTy.f32 1176256512#32)
      (if h : j < 127 then
      0 * (1 - Ideal.div (FloatOps.sitofp (F := Ideal) FTy.f32 (BitVec.ofNat 32 j)) (Ideal.ofBits FTy.f32 1123942400#32)) +
        Ideal.div (FloatOps.sitofp (F := Ideal) FTy.f32 (BitVec.ofNat 32 j)) (Ideal.ofBits FTy.f32 1123942400#32)
      else 1))) = ang t j := by
  subst h
  rw [lin_at j hj, iota_real n hn, c10000]
  rfl

theorem E_q (c : Dev nD) (k : Fin 64) (h : Fin 8) (a : Fin 128) (d : Fin 256) :
    @Eq EReal (entryContents preI m c (Proc.devRef .tc main_v115_0) (ix5 k 0 h a d)) (qE (zOf m c) h (128 * k + a) d) := by
  have hk := k.isLt
  have ha := a.isLt
  have hd := d.isLt
  generalize hX : qE (zOf m c) h (128 * k + a) d = X
  simp only [entryContents, afterL_cons, afterL_nil]
  repeat after_reads_at
  simp only [id_eq]
  pointwise
  rw [← hX]
  unfold qE rot
  by_cases h1 : (d : ℕ) < 128
  · refine (dif_pos h1).trans (Eq.trans ?_ (if_pos h1).symm)
    exact congrArg₂ (· - ·) (congrArg₂ (· * ·) (zOf_col m c _ _ (by dsimp only; omega) (by dsimp only; omega)) (congrArg Ideal.cos (ang_at _ _ _ (by omega) (by omega) (by omega))))
      (congrArg₂ (· * ·) (zOf_col m c _ _ (by dsimp only; omega) (by dsimp only; omega)) (congrArg Ideal.sin (ang_at _ _ _ (by omega) (by omega) (by omega))))
  · refine (dif_neg h1).trans (Eq.trans (dif_pos (by omega)) (Eq.trans ?_ (if_neg h1).symm))
    exact congrArg₂ (· + ·) (congrArg₂ (· * ·) (zOf_col m c _ _ (by dsimp only; omega) (by dsimp only; omega)) (congrArg Ideal.sin (ang_at _ _ _ (by omega) (by omega) (by omega))))
      (congrArg₂ (· * ·) (zOf_col m c _ _ (by dsimp only; omega) (by dsimp only; omega)) (congrArg Ideal.cos (ang_at _ _ _ (by omega) (by omega) (by omega))))

theorem E_k (c : Dev nD) (k : Fin 64) (h : Fin 8) (a : Fin 128) (d : Fin 256) :
    @Eq EReal (entryContents preI m c (Proc.devRef .tc main_v115_1) (ix5 k 0 h a d)) (kE (zOf m c) h (128 * k + a) d) := by
  have hk := k.isLt
  have ha := a.isLt
  have hd := d.isLt
  generalize hX : kE (zOf m c) h (128 * k + a) d = X
  simp only [entryContents, afterL_cons, afterL_nil]
  repeat after_reads_at
  simp only [id_eq]
  pointwise
  rw [← hX]
  unfold kE rot
  refine congrArg₂ (· * ·) ?_ c16th
  by_cases h1 : (d : ℕ) < 128
  · refine (dif_pos h1).trans (Eq.trans ?_ (if_pos h1).symm)
    exact congrArg₂ (· - ·) (congrArg₂ (· * ·) (zOf_col m c _ _ (by dsimp only; omega) (by dsimp only; omega)) (congrArg Ideal.cos (ang_at _ _ _ (by omega) (by omega) (by omega))))
      (congrArg₂ (· * ·) (zOf_col m c _ _ (by dsimp only; omega) (by dsimp only; omega)) (congrArg Ideal.sin (ang_at _ _ _ (by omega) (by omega) (by omega))))
  · refine (dif_neg h1).trans (Eq.trans (dif_pos (by omega)) (Eq.trans ?_ (if_neg h1).symm))
    exact congrArg₂ (· + ·) (congrArg₂ (· * ·) (zOf_col m c _ _ (by dsimp only; omega) (by dsimp only; omega)) (congrArg Ideal.sin (ang_at _ _ _ (by omega) (by omega) (by omega))))
      (congrArg₂ (· * ·) (zOf_col m c _ _ (by dsimp only; omega) (by dsimp only; omega)) (congrArg Ideal.cos (ang_at _ _ _ (by omega) (by omega) (by omega))))

theorem E_v (c : Dev nD) (k : Fin 64) (h : Fin 8) (a : Fin 128) (d : Fin 256) :
    @Eq EReal (entryContents preI m c (Proc.devRef .tc main_v115_2) (ix5 k 0 h a d)) (vE (zOf m c) h (128 * k + a) d) := by
  simp only [entryContents, afterL_cons, afterL_nil]
  repeat after_reads_at
  simp only [id_eq]
  pointwise
  exact zOf_col m c _ _ (by dsimp only; omega) (by dsimp only; omega)

theorem E_intra (c : Dev nD) (h : Fin 8) (a b : Fin 128) :
    @Eq EReal (entryContents preI m c (Proc.devRef .tc main_v115_3) (ix3 h a b)) (intraE h a b) := by
  simp only [entryContents, afterL_cons, afterL_nil]
  repeat after_reads_at
  simp only [id_eq]
  pointwise
  have ha := a.isLt
  have hb := b.isLt
  have hh := h.isLt
  rw [c2, cm5, iota_real h (by omega), iota_real a (by omega), iota_real b (by omega), lg_eq, ← EReal.coe_sub]
  unfold intraE
  by_cases hab : (b : ℕ) ≤ a
  · have hr : (0 : ℝ) ≤ (a : ℕ) - (b : ℕ) := by
      have : ((b : ℕ) : ℝ) ≤ (a : ℕ) := by exact_mod_cast hab
      linarith
    rw [if_pos hab, if_pos (by exact_mod_cast hr), max_eq_left (by exact_mod_cast hr), exp_mul_lg]
  · have hr : ¬ (0 : ℝ) ≤ (a : ℕ) - (b : ℕ) := by
      have : ((a : ℕ) : ℝ) < (b : ℕ) := by exact_mod_cast (Nat.lt_of_not_le hab)
      linarith
    rw [if_neg hab, if_neg (by exact_mod_cast hr)]
    rfl

theorem E_xi (c : Dev nD) (h : Fin 8) (a : Fin 128) :
    @Eq EReal (entryContents preI m c (Proc.devRef .tc main_v115_4) (ix2 h a)) (xiE h a) := by
  simp only [entryContents, afterL_cons, afterL_nil]
  repeat after_reads_at
  simp only [id_eq]
  pointwise
  have ha := a.isLt
  have hh := h.isLt
  rw [c2, cm5, iota_real h (by omega), iota_real a (by omega), lg_eq, ← EReal.coe_one, ← EReal.coe_add, exp_mul_lg]
  rfl

theorem E_g (c : Dev nD) (h : Fin 8) :
    @Eq EReal (entryContents preI m c (Proc.devRef .tc main_v115_5) (ix1 h)) (gE 128 h) := by
  simp only [entryContents, afterL_cons, afterL_nil]
  repeat after_reads_at
  simp only [id_eq]
  pointwise
  have hh := h.isLt
  rw [c2, cm5, c128, iota_real h (by omega), lg_eq, exp_mul_lg]
  unfold gE
  norm_num

theorem c127' : Ideal.ofBits .f32 1123942400#32 = ((127 : ℝ) : EReal) := c127

theorem E_zeta (c : Dev nD) (h : Fin 8) (a : Fin 128) :
    @Eq EReal (entryContents preI m c (Proc.devRef .tc main_v115_6) (ix2 h a)) (zetaE 128 h a) := by
  simp only [entryContents, afterL_cons, afterL_nil]
  repeat after_reads_at
  simp only [id_eq]
  pointwise
  have ha := a.isLt
  have hh := h.isLt
  rw [c2, cm5, c127', iota_real h (by omega), iota_real a (by omega), lg_eq, ← EReal.coe_sub, exp_mul_lg]
  unfold zetaE
  norm_num

theorem E_state (c : Dev nD) (h : Fin 8) (d e : Fin 256) :
    @Eq EReal (entryContents preI m c (Proc.devRef .tc main_v115_8) (ix4 0 h d e)) 0 := by
  simp only [entryContents, afterL_cons, afterL_nil]
  repeat after_reads_at
  try simp only [id_eq]
  try pointwise

theorem E_gate (c : Dev nD) (i : Fin 8192) (j : Fin 2048) :
    @Eq EReal (entryContents preI m c (Proc.devRef .tc main_v4) (ix3 0 i j)) (col (zOf m c) i (8192 + j)) := by
  simp only [entryContents, afterL_cons, afterL_nil]
  repeat after_reads_at
  exact zOf_col m c _ _ rfl rfl

end Retention.R

end
-- ==== Proof.RLoop.lean ====
/- The reference's loop over the chunks: what one trip does, and what the carried buffers hold before the `k`-th trip. -/
module

public import proofs.«01_k».proof.Proof.RTab
public import Idealize.ShloMosaic.Lib.DynamicIndex

@[expose] public section

set_option maxRecDepth 16384

noncomputable section

namespace Retention.R

open Cert.ReferenceIdeal Cert.ReferenceIdeal.Gen Cert.ReferenceIdeal.Value Idealize.ShloMosaic Idealize.ShloMosaic.TcCoe Idealize.SL.Sem
open Idealize.ShloMosaic.StableHlo Idealize.ShloMosaic.HostLoop

theorem iv_int (k : ℕ) (hk : k < 64) : (Scf.iv 0#32 1#32 k).toInt = (k : ℤ) := by
  have := Scf.toInt_iv (lb := 0#32) (ub := 64#32) (st := 1#32) (by decide) (k := k) (show k ≤ Scf.trips 0#32 64#32 1#32 from Nat.le_of_lt hk)
  simpa using this

theorem starts (V : Valuation τ sig (Elt Ideal)) (k : Fin 64) (hc : V (Proc.devRef .tc main_v115_7) = fun _ => Scf.iv 0#32 1#32 k) (x : Fin 5) :
    (((![V (Proc.devRef .tc main_v115_7), constantI S_ 32 0#32, constantI S_ 32 0#32, constantI S_ 32 0#32, constantI S_ 32 0#32] : Fin 5 → (⟨S_, .i32⟩ : BufTy).Contents (Elt Ideal))) x (Shape.Idx.first h_S_)).toInt = (((![k.val, 0, 0, 0, 0] : Fin 5 → ℕ) x : ℕ) : ℤ) := by
  rw [hc]
  fin_cases x
  · exact iv_int k k.isLt
  all_goals rfl

theorem fits (k : Fin 64) : S64x1x8x128x256.Slices ![k.val, 0, 0, 0, 0] S1x1x8x128x256 := by
  have := k.isLt
  refine ⟨rfl, fun a => ?_⟩
  fin_cases a <;> simp [S64x1x8x128x256, S1x1x8x128x256] <;> omega

theorem rd_q (V : Valuation τ sig (Elt Ideal)) (k : Fin 64) (hc : V (Proc.devRef .tc main_v115_7) = fun _ => Scf.iv 0#32 1#32 k)
    (h : Fin 8) (a : Fin 128) (d : Fin 256) :
    @Eq EReal (res_main_while0b_v141 V (ix4 0 h a d)) (V (Proc.devRef .tc main_v115_0) (ix5 k 0 h a d)) := by
  unfold res_main_while0b_v141
  rw [Host.dynamicSlice_eq_extractStridedSlice _ _ _ ![k.val, 0, 0, 0, 0] _ (fits k) (starts V k hc)]
  pointwise

theorem rd_k (V : Valuation τ sig (Elt Ideal)) (k : Fin 64) (hc : V (Proc.devRef .tc main_v115_7) = fun _ => Scf.iv 0#32 1#32 k)
    (h : Fin 8) (a : Fin 128) (d : Fin 256) :
    @Eq EReal (res_main_while0b_v142 V (ix4 0 h a d)) (V (Proc.devRef .tc main_v115_1) (ix5 k 0 h a d)) := by
  unfold res_main_while0b_v142
  rw [Host.dynamicSlice_eq_extractStridedSlice _ _ _ ![k.val, 0, 0, 0, 0] _ (fits k) (starts V k hc)]
  pointwise

theorem rd_v (V : Valuation τ sig (Elt Ideal)) (k : Fin 64) (hc : V (Proc.devRef .tc main_v115_7) = fun _ => Scf.iv 0#32 1#32 k)
    (h : Fin 8) (a : Fin 128) (d : Fin 256) :
    @Eq EReal (res_main_while0b_v143 V (ix4 0 h a d)) (V (Proc.devRef .tc main_v115_2) (ix5 k 0 h a d)) := by
  unfold res_main_while0b_v143
  rw [Host.dynamicSlice_eq_extractStridedSlice _ _ _ ![k.val, 0, 0, 0, 0] _ (fits k) (starts V k hc)]
  pointwise

abbrev qAt (V : Valuation τ sig (Elt Ideal)) (h : Fin 8) (a : Fin 128) (d : Fin 256) : EReal := res_main_while0b_v141 V (ix4 0 h a d)
abbrev kAt (V : Valuation τ sig (Elt Ideal)) (h : Fin 8) (a : Fin 128) (d : Fin 256) : EReal := res_main_while0b_v142 V (ix4 0 h a d)
abbrev vAt (V : Valuation τ sig (Elt Ideal)) (h : Fin 8) (a : Fin 128) (d : Fin 256) : EReal := res_main_while0b_v143 V (ix4 0 h a d)
abbrev intraAt (V : Valuation τ sig (Elt Ideal)) (h : Fin 8) (a b : Fin 128) : EReal := V (Proc.devRef .tc main_v115_3) (ix3 h a b)
abbrev xiAt (V : Valuation τ sig (Elt Ideal)) (h : Fin 8) (a : Fin 128) : EReal := V (Proc.devRef .tc main_v115_4) (ix2 h a)
abbrev gAt (V : Valuation τ sig (Elt Ideal)) (h : Fin 8) : EReal := V (Proc.devRef .tc main_v115_5) (ix1 h)
abbrev zetaAt (V : Valuation τ sig (Elt Ideal)) (h : Fin 8) (a : Fin 128) : EReal := V (Proc.devRef .tc main_v115_6) (ix2 h a)
abbrev stAt (V : Valuation τ sig (Elt Ideal)) (h : Fin 8) (d e : Fin 256) : EReal := V (Proc.devRef .tc main_v115_8) (ix4 0 h d e)

/-- The value one trip writes into its block of the output. -/
def blockOut (V : Valuation τ sig (Elt Ideal)) (h : Fin 8) (a : Fin 128) (e : Fin 256) : EReal :=
  (∑ x : Fin 128, (∑ y : Fin 256, qAt V h a y * kAt V h x y) * intraAt V h a x * vAt V h x e)
    + (∑ x : Fin 256, qAt V h a x * stAt V h x e) * xiAt V h a

theorem rd_9 (V : Valuation τ sig (Elt Ideal)) (k : Fin 64) (hc : V (Proc.devRef .tc main_v115_7) = fun _ => Scf.iv 0#32 1#32 k)
   (k' : Fin 64) (h : Fin 8) (a : Fin 128) (e : Fin 256) :
    @Eq EReal (step_main_v115_9 V (ix5 k' 0 h a e))
      (if k' = k then blockOut V h a e else V (Proc.devRef .tc main_v115_9) (ix5 k' 0 h a e)) := by
  unfold step_main_v115_9
  rw [Host.dynamicUpdateSlice_eq_updateSlice _ _ _ _ ![k.val, 0, 0, 0, 0]
    (fun x => by
      have := (fits k).2 x
      have e1 : (Proc.devRef (τ := τ) .tc main_v115_9).ty.shape = S64x1x8x128x256 := rfl
      rw [starts V k hc x]
      change ![k.val, 0, 0, 0, 0] x + S1x1x8x128x256.size x ≤ S64x1x8x128x256.size x at this
      change (min (max ((![k.val, 0, 0, 0, 0] x : ℕ) : ℤ) 0) ((S64x1x8x128x256.size x - S1x1x8x128x256.size x : ℕ) : ℤ)).toNat = _
      omega) (fits k)]
  simp only [id_eq]
  pointwise
  by_cases hk : k' = k
  · rw [if_pos hk]
    have hall : ∀ x : Fin 5, ![k.val, 0, 0, 0, 0] x ≤ ((ix5 k' (0 : Fin 1) h a e) x).val ∧ ((ix5 k' (0 : Fin 1) h a e) x).val < ![k.val, 0, 0, 0, 0] x + ![1, 1, 8, 128, 256] x := by
      intro x
      subst hk
      have h1 := h.isLt
      have h2 := a.isLt
      have h3 := e.isLt
      fin_cases x
      · exact ⟨Nat.le_refl _, Nat.lt_succ_self _⟩
      · exact ⟨Nat.zero_le _, Nat.zero_lt_one⟩
      · exact ⟨Nat.zero_le _, by show h.val < 0 + 8; omega⟩
      · exact ⟨Nat.zero_le _, by show a.val < 0 + 128; omega⟩
      · exact ⟨Nat.zero_le _, by show e.val < 0 + 256; omega⟩
    split
    · rfl
    · rename_i hn
      exact absurd hall hn
  · rw [if_neg hk]
    split
    · rename_i hall
      obtain ⟨h1, h2⟩ := hall (0 : Fin 5)
      change k.val ≤ k'.val at h1
      change k'.val < k.val + 1 at h2
      exact absurd (Fin.ext (by omega)) hk
    · rfl

theorem rd_8 (V : Valuation τ sig (Elt Ideal)) (h : Fin 8) (d e : Fin 256) :
    @Eq EReal (step_main_v115_8 V (ix4 0 h d e))
      (stAt V h d e * gAt V h + ∑ x : Fin 128, kAt V h x d * zetaAt V h x * vAt V h x e) := by
  unfold step_main_v115_8
  simp only [id_eq]
  pointwise

variable (m : (ℓ : Loc nD τ sig) → Buf (Elt Ideal) ℓ)

/-- The carried buffers before the `k`-th trip. -/
def X (c : Dev nD) (k : ℕ) : Valuation τ sig (Elt Ideal) := STEP^[k] (entryContents preI m c)

theorem X_succ (c : Dev nD) (k : ℕ) : X m c (k + 1) = STEP (X m c k) := Function.iterate_succ_apply' _ _ _

theorem X_ctr (c : Dev nD) (k : ℕ) : X m c k (Proc.devRef .tc main_v115_7) = fun _ => Scf.iv 0#32 1#32 k :=
  ((atK_agree m c k) main_v115_7 (by decide)).symm.trans (atK_ctr m c k)

/-- A buffer no trip writes is as it was. -/
theorem X_keep (c : Dev nD) (r : Ref sig .tc)
    (hr : ∀ V : Valuation τ sig (Elt Ideal), STEP V (Proc.devRef .tc r) = V (Proc.devRef .tc r)) (k : ℕ) :
    X m c k (Proc.devRef .tc r) = entryContents preI m c (Proc.devRef .tc r) := by
  induction k with
  | zero => rfl
  | succ k ih => rw [X_succ, hr, ih]

theorem X_q (c : Dev nD) (k : Fin 64) (h : Fin 8) (a : Fin 128) (d : Fin 256) :
    @Eq EReal (res_main_while0b_v141 (X m c k) (ix4 0 h a d)) (qE (zOf m c) h (128 * k + a) d) := by
  refine (rd_q _ k (X_ctr m c k) h a d).trans ?_
  rw [X_keep m c _ STEP_main_v115_0]
  exact E_q m c k h a d

theorem X_k (c : Dev nD) (k : Fin 64) (h : Fin 8) (a : Fin 128) (d : Fin 256) :
    @Eq EReal (res_main_while0b_v142 (X m c k) (ix4 0 h a d)) (kE (zOf m c) h (128 * k + a) d) := by
  refine (rd_k _ k (X_ctr m c k) h a d).trans ?_
  rw [X_keep m c _ STEP_main_v115_1]
  exact E_k m c k h a d

theorem X_v (c : Dev nD) (k : Fin 64) (h : Fin 8) (a : Fin 128) (d : Fin 256) :
    @Eq EReal (res_main_while0b_v143 (X m c k) (ix4 0 h a d)) (vE (zOf m c) h (128 * k + a) d) := by
  refine (rd_v _ k (X_ctr m c k) h a d).trans ?_
  rw [X_keep m c _ STEP_main_v115_2]
  exact E_v m c k h a d

variable {m}

/-- The state before the `k`-th trip. -/
theorem X_state (c : Dev nD) (hz : FinQKV (zOf m c)) (k : ℕ) (hk : k ≤ 64) (h : Fin 8) (d e : Fin 256) :
    @Eq EReal (X m c k (Proc.devRef .tc main_v115_8) (ix4 0 h d e)) (stE (zOf m c) h (128 * k) d e) := by
  induction k with
  | zero => exact (E_state m c h d e).trans (stE_zero _ _ _ _).symm
  | succ k ih =>
    rw [X_succ, STEP_main_v115_8]
    refine (rd_8 _ h d e).trans ?_
    have hs := stE_add hz 128 h (128 * k) h.isLt d e
    refine Eq.trans ?_ hs
    refine congrArg₂ (· + ·) (congrArg₂ (· * ·) (ih (by omega)) ?_) (Finset.sum_congr rfl fun x _ => ?_)
    · exact (congrFun (X_keep m c _ STEP_main_v115_5 k) (ix1 h)).trans (E_g m c h)
    · refine congrArg₂ (· * ·) (congrArg₂ (· * ·) (X_k m c ⟨k, by omega⟩ h x d) ?_) (X_v m c ⟨k, by omega⟩ h x e)
      exact (congrFun (X_keep m c _ STEP_main_v115_6 k) (ix2 h x)).trans (E_zeta m c h x)

/-- What the `k`-th trip writes. -/
theorem X_block (c : Dev nD) (hz : FinQKV (zOf m c)) (k : Fin 64) (h : Fin 8) (a : Fin 128) (e : Fin 256) :
    blockOut (X m c k) h a e = oE (zOf m c) h (128 * k + a) e := by
  refine Eq.trans ?_ (oE_chunk hz 128 h (128 * k) a h.isLt a.isLt e)
  refine congrArg₂ (· + ·) (Finset.sum_congr rfl fun x _ => ?_) (congrArg₂ (· * ·) (Finset.sum_congr rfl fun x _ => ?_) ?_)
  · refine congrArg₂ (· * ·) (congrArg₂ (· * ·) (Finset.sum_congr rfl fun y _ => ?_) ?_) (X_v m c k h x e)
    · exact congrArg₂ (· * ·) (X_q m c k h a y) (X_k m c k h x y)
    · exact (congrFun (X_keep m c _ STEP_main_v115_3 k) (ix3 h a x)).trans (E_intra m c h a x)
  · exact congrArg₂ (· * ·) (X_q m c k h a x) (X_state c hz k k.isLt.le h x e)
  · exact (congrFun (X_keep m c _ STEP_main_v115_4 k) (ix2 h a)).trans (E_xi m c h a)

/-- The blocks already written before the `k`-th trip. -/
theorem X_out (c : Dev nD) (hz : FinQKV (zOf m c)) (k : ℕ) (hk : k ≤ 64) (k' : Fin 64) (hk' : k'.val < k) (h : Fin 8) (a : Fin 128) (e : Fin 256) :
    @Eq EReal (X m c k (Proc.devRef .tc main_v115_9) (ix5 k' 0 h a e)) (oE (zOf m c) h (128 * k' + a) e) := by
  induction k with
  | zero => omega
  | succ k ih =>
    rw [X_succ, STEP_main_v115_9]
    refine (rd_9 _ ⟨k, by omega⟩ (X_ctr m c k) k' h a e).trans ?_
    by_cases hh : k' = ⟨k, by omega⟩
    · rw [if_pos hh]
      rw [hh]
      exact X_block c hz ⟨k, by omega⟩ h a e
    · rw [if_neg hh]
      exact ih (by omega) (by have : k'.val ≠ k := fun hx => hh (Fin.ext hx)
                              omega)

end Retention.R

end
-- ==== Proof.RValue.lean ====
/- The reference's result: the head norm of the loop's output, gated. -/
module

public import proofs.«01_k».proof.Proof.RLoop

@[expose] public section

set_option maxRecDepth 16384

noncomputable section

namespace Retention.R

open Cert.ReferenceIdeal Cert.ReferenceIdeal.Gen Cert.ReferenceIdeal.Value Idealize.ShloMosaic Idealize.ShloMosaic.TcCoe Idealize.SL.Sem
open Idealize.ShloMosaic.StableHlo Idealize.ShloMosaic.HostLoop

/-- The gate's buffer is as it was before the loop: no operation of the loop writes it. -/
theorem gate_trip (V : Valuation τ sig (Elt Ideal)) :
    afterL bodyI (after condOps V) (Proc.devRef .tc main_v4) = V (Proc.devRef .tc main_v4) := by
  simp only [afterL_cons, afterL_nil]
  rw [after_of_writes_sub while0Ops0_5 _ while0Ops0_5_writes (by decide +kernel),
    after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

/-- What the operations after the loop compute, of the loop's output and the gate. -/
def post (V : Valuation τ sig (Elt Ideal)) (i : Fin 8192) (j : Fin 2048) : EReal := afterL postI V (Proc.devRef .tc main_v140) (ix2 i j)

def oAt (V : Valuation τ sig (Elt Ideal)) (i : Fin 8192) (h : Fin 8) (e : Fin 256) : EReal :=
  V (Proc.devRef .tc main_v115_9) (ix5 ⟨i / 128, by omega⟩ 0 h ⟨i % 128, by omega⟩ e)

def gateAt (V : Valuation τ sig (Elt Ideal)) (i : Fin 8192) (j : Fin 2048) : EReal := V (Proc.devRef .tc main_v4) (ix3 0 i j)

theorem post_eq (V : Valuation τ sig (Elt Ideal)) (i : Fin 8192) (j : Fin 2048) :
    post V i j = silu (gateAt V i j) * normed (oAt V i ⟨j / 256, by omega⟩) ⟨j % 256, by omega⟩ := by
  generalize hX : silu (gateAt V i j) * normed (oAt V i ⟨j / 256, by omega⟩) ⟨j % 256, by omega⟩ = X
  have hi := i.isLt
  have hj := j.isLt
  unfold post
  simp only [afterL_cons, afterL_nil]
  repeat after_reads_at
  pointwise
  subst hX
  rfl

variable {m : (ℓ : Loc nD τ sig) → Buf (Elt Ideal) ℓ}

theorem gate_keep (c : Dev nD) (k : ℕ) :
    atK m k c (Proc.devRef .tc main_v4) = entryContents preI m c (Proc.devRef .tc main_v4) := by
  induction k with
  | zero => rfl
  | succ k ih => exact (gate_trip _).trans ih

/-- The reference's whole result array. -/
theorem result_eq (c : Dev nD) (hz : FinQKV (zOf m c)) (i : Fin 8192) (j : Fin 2048) :
    @Eq EReal (finalContents condOps preI bodyI postI 64 m c (Proc.devRef .tc main_v140) (ix2 i j))
      (layer (zOf m c) (j.val / 256) i.val ⟨j.val % 256, Nat.mod_lt _ (by decide)⟩) := by
  have hi := i.isLt
  have hj := j.isLt
  refine (post_eq _ i j).trans ?_
  unfold layer
  refine congrArg₂ (· * ·) (congrArg silu ?_) (congrFun (congrArg normed (funext fun e => ?_)) _)
  · unfold gateAt
    rw [after_of_writes_sub condOps _ condOps_writes (by decide +kernel)]
    refine (congrFun (gate_keep c 64) (ix3 0 i j)).trans ((E_gate m c i j).trans ?_)
    rw [show 8192 + 256 * (j.val / 256) + j.val % 256 = 8192 + j.val by omega]
  · unfold oAt
    rw [cond_keeps _ main_v115_9 (by decide)]
    refine (congrFun (atK_agree m c 64 main_v115_9 (by decide)) _).trans ?_
    refine (X_out c hz 64 (Nat.le_refl _) ⟨i.val / 128, by omega⟩ (by show i.val / 128 < 64; omega)
      ⟨j.val / 256, by omega⟩ ⟨i.val % 128, by omega⟩ e).trans ?_
    show oE (zOf m c) (j.val / 256) (128 * (i.val / 128) + i.val % 128) e = _
    rw [show 128 * (i.val / 128) + i.val % 128 = i.val by omega]

theorem arg_post (V : Valuation τ sig (Elt Ideal)) :
    afterL postI V (Proc.devRef .tc main_arg0) = V (Proc.devRef .tc main_arg0) := by
  simp only [afterL_cons, afterL_nil]
  repeat after_reads_at

theorem arg_trip (V : Valuation τ sig (Elt Ideal)) :
    afterL bodyI (after condOps V) (Proc.devRef .tc main_arg0) = V (Proc.devRef .tc main_arg0) := by
  simp only [afterL_cons, afterL_nil]
  rw [after_of_writes_sub while0Ops0_5 _ while0Ops0_5_writes (by decide +kernel),
    after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

theorem arg_keep_trips (c : Dev nD) (k : ℕ) :
    atK m k c (Proc.devRef .tc main_arg0) = entryContents preI m c (Proc.devRef .tc main_arg0) := by
  induction k with
  | zero => rfl
  | succ k ih => exact (arg_trip _).trans ih

/-- The argument array at the end. -/
theorem arg_keep (c : Dev nD) :
    finalContents condOps preI bodyI postI 64 m c (Proc.devRef .tc main_arg0) = m ((c : Thread nD τ).loc main_arg0) := by
  refine (arg_post _).trans ?_
  rw [after_of_writes_sub condOps _ condOps_writes (by decide +kernel)]
  refine (arg_keep_trips c 64).trans ?_
  simp only [entryContents, afterL_cons, afterL_nil]
  rw [after_of_writes_sub hostOps0_4 _ hostOps0_4_writes (by decide +kernel),
    after_of_writes_sub hostOps0_3 _ hostOps0_3_writes (by decide +kernel),
    after_of_writes_sub hostOps0_2 _ hostOps0_2_writes (by decide +kernel),
    after_of_writes_sub hostOps0_1 _ hostOps0_1_writes (by decide +kernel),
    after_of_writes_sub hostOps0 _ hostOps0_writes (by decide +kernel)]

end Retention.R

end
-- ==== Proof.Claims.lean ====
/- The claims of the retention's program: the frames, and the equality with the reference on finite queries, keys and values. -/
module

public import proofs.«01_k».proof.Defs
public import proofs.«01_k».proof.Proof.KValue
public import proofs.«01_k».proof.Proof.RValue
public import proofs.«01_k».proof.Proof.Gen.Kernel.Frame
public import proofs.«01_k».proof.Proof.Gen.KernelIdeal.Frame
public import proofs.«01_k».proof.Proof.Gen.KernelIdeal.Value
public import proofs.«01_k».proof.Proof.Gen.Pre_finite_qkv
public import Idealize.ShloMosaic.Lib.ReduceAll
public import Idealize.ShloMosaic.Lib.Quiescent
public import Idealize.ShloMosaic.Adequacy
public import Idealize.ShloMosaic.Init

@[expose] public section

set_option maxRecDepth 16384

noncomputable section

namespace Retention

open Idealize.ShloMosaic Idealize.ShloMosaic.TcCoe Idealize.SL.Sem

/-- An extended real whose absolute value is below `⊤` is a real number. -/
theorem real_of_abs_lt (x : EReal) (h : max x (-x) < ⊤) : Real' x := by
  induction x with
  | bot => simp at h
  | coe r => exact ⟨r, rfl⟩
  | top => simp at h

/-- The precondition says that every query, key and value is a real number. -/
theorem fin_of_pre (z : FVec Ideal Cert.Pre_finite_qkv.S8192x10240 .f32)
    (h : Cert.Pre_finite_qkv.fn (F := Ideal) z = fun _ => 1#1) : FinQKV (fun i j => (z (ix2 i j) : EReal)) := by
  intro t j h1 h2
  have e := congrFun h (Shape.Idx.first Cert.Pre_finite_qkv.Facts.h_S_)
  have : Subsingleton Cert.Pre_finite_qkv.S_.Idx := ⟨fun a b => funext fun x => x.elim0⟩
  have e' := Host.reduce_andi_all _ _ _ _ _ e (ix2 (⟨t.val, t.isLt⟩ : Fin 8192) (⟨j.val - 2048, by omega⟩ : Fin 6144))
  have htop : Ideal.ofBits .f32 0x7F800000#32 = ⊤ := by simp [Ideal.ofBits, Ideal.ieee]
  revert e'
  pointwise
  intro e'
  have hj : (⟨2048 + (j.val - 2048), by omega⟩ : Fin 10240) = j := Fin.ext (by show 2048 + (j.val - 2048) = j.val; omega)
  rw [hj, htop] at e'
  refine real_of_abs_lt _ ?_
  by_contra hlt
  have hd : decide ((FloatOps.absf (F := Ideal) (φ := .f32) (z (ix2 t j)) : EReal) < ⊤) = false := decide_eq_false hlt
  rw [hd] at e'
  exact absurd e' (by decide)

theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v140)
          = StableHlo.finalContents Cert.ReferenceIdeal.Value.condOps Cert.ReferenceIdeal.Value.preI Cert.ReferenceIdeal.Value.bodyI Cert.ReferenceIdeal.Value.postI 64 m c (Proc.devRef .tc Cert.ReferenceIdeal.main_v140)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run Cert.ReferenceIdeal.defs _ _).mono
    (fun r h c => ⟨h c Cert.ReferenceIdeal.main_v140 (by decide), (h c Cert.ReferenceIdeal.main_arg0 (by decide)).trans (R.arg_keep c)⟩)
    (Cert.ReferenceIdeal.Value.run_fold m ρ)

theorem frame_reference : Cert.quiescent_ReferenceIdeal := fun m ρ _ =>
  (θ_run Cert.ReferenceIdeal.defs _ _).mono (fun r h => ⟨fun c => (h c).2, sem_eq_zero_of_no_sems (by decide) r.2⟩) (reference_run m ρ)

theorem algebraic : Cert.algebraic_KernelIdeal_ReferenceIdeal_pre_finite_qkv := by
  intro m ρ m' ρ' hpre hag
  refine ⟨fun c => Cert.KernelIdeal.Value.G8 m c, Cert.KernelIdeal.Value.run m ρ, ?_⟩
  refine (θ_run _ _ _).mono (fun r h c => ⟨(h c).1.trans ?_, (h c).2⟩) (reference_run m' ρ')
  have hz : FinQKV (K.zOf m c) := fin_of_pre _ (hpre c)
  have hzz : R.zOf m' c = K.zOf m c := by
    funext i j
    exact congrFun (hag c) (ix2 i j)
  funext x
  have hx : x = ix2 (x 0) (x 1) := by
    funext a
    match a with
    | ⟨0, _⟩ => rfl
    | ⟨1, _⟩ => rfl
  rw [hx]
  refine (R.result_eq c (hzz ▸ hz) (x 0) (x 1)).trans ?_
  rw [hzz]
  exact (K.G8_eq hz (x 0) (x 1)).symm

end Retention

end
-- ==== Proof.GateUp.lean ====
/- The gated up-projection of the feed-forward part: tile by tile it is the reference's whole product. -/
module

public import proofs.«01_k».proof.Defs
public import proofs.«01_k».proof.Proof.Gen.GateUpIdeal.Value
public import proofs.«01_k».proof.Proof.Gen.RefGateUpIdeal.Run
public import Idealize.ShloMosaic.Lib.Pipeline.ValueKit
public import Idealize.ShloMosaic.Lib.Quiescent

@[expose] public section

set_option maxRecDepth 16384

noncomputable section

namespace GateUp

open Cert.GateUpIdeal Cert.GateUpIdeal.Gen Idealize.ShloMosaic Idealize.ShloMosaic.TcCoe Idealize.SL.Sem

/-- The gated unit of an activation row and the two weights' columns. -/
def glued (x : Fin 8192 → Fin 4096 → EReal) (wg wu : Fin 4096 → Fin 11008 → EReal) (i : Fin 8192) (j : Fin 11008) : EReal :=
  (∑ k, x i k * wg k j) * Ideal.div 1 (1 + Ideal.exp (-(∑ k, x i k * wg k j))) * (∑ k, x i k * wu k j)

/-- What one step stores at an index of its block. -/
theorem pay_at (v0 v5 : Vec Ideal S2048x4096 .bf16) (v1 v6 : Vec Ideal S1x4096x256 .f32) (a : Fin 2048) (b : Fin 256) :
    @Eq EReal (k0_pay1 v0 v1 v5 v6 (ix2 a b))
      (((∑ x, v0 (ix2 a x) * v1 (ix3 0 x b) : EReal) * Ideal.div 1 (1 + Ideal.exp (-∑ x, v0 (ix2 a x) * v1 (ix3 0 x b) : EReal))) *
      (∑ x, v5 (ix2 a x) * v6 (ix3 0 x b) : EReal)) := by
  pointwise [k0_pay1]
  rw [zero_sub]

variable (m : (ℓ : Loc nD τ sig) → Buf (Elt Ideal) ℓ)

/-- The block that each window holds at a step. -/
theorem idx : ∀ t : Fin cfg0.N, win0_0.index t = ![t.val / 43, 0] ∧ win0_1.index t = ![1, 0, t.val % 43]
    ∧ win0_2.index t = ![1, 0, t.val % 43] ∧ win0_3.index t = ![t.val / 43, t.val % 43] :=
  (by decide +kernel : ∀ t : Fin grid0.N, _)

variable (c : Dev nD)

abbrev xOf (i : Fin 8192) (k : Fin 4096) : EReal := m ((c : Thread nD τ).loc main_arg0) (ix2 i k)
abbrev gateOf (k : Fin 4096) (j : Fin 11008) : EReal := m ((c : Thread nD τ).loc main_arg1) (ix3 1 k j)
abbrev upOf (k : Fin 4096) (j : Fin 11008) : EReal := m ((c : Thread nD τ).loc main_arg2) (ix3 1 k j)

/-- Every element of the kernel's result is the gated unit of its row and columns. -/
theorem final_at (i : Fin 8192) (j : Fin 11008) :
    @Eq EReal ((Gen.dats m 0 c).arrAt 3 cfg0.N (ix2 i j)) (glued (xOf m c) (gateOf m c) (upOf m c) i j) := by
  have hi := i.isLt
  have hj := j.isLt
  have hN : 43 * (i.val / 2048) + j.val / 256 < cfg0.N := by rw [show cfg0.N = 172 from N_0]; omega
  obtain ⟨t, ht⟩ : ∃ t : Fin cfg0.N, t.val = 43 * (i.val / 2048) + j.val / 256 := ⟨⟨_, hN⟩, rfl⟩
  have h := congrFun (Value.blocks3 m c t (flush0_3 t)) (ix2 (⟨i.val % 2048, by omega⟩ : Fin 2048) (⟨j.val % 256, by omega⟩ : Fin 256))
  rw [Value.flushed3] at h
  refine Eq.trans ?_ (h.trans ?_)
  · blk_ext [idx t]
  · have e0 : ∀ k, @Eq EReal (iblk m c 0 t (ix2 (⟨i.val % 2048, by omega⟩ : Fin 2048) k)) (xOf m c i k) := by
      intro k
      unfold xOf
      rw [← V_main_arg0 m c]
      blk_ext [iblk, idx t]
    have e1 : ∀ k, @Eq EReal (iblk m c 1 t (ix3 0 k (⟨j.val % 256, by omega⟩ : Fin 256))) (gateOf m c k j) := by
      intro k
      unfold gateOf
      rw [← V_main_arg1 m c]
      blk_ext [iblk, idx t]
    have e2 : ∀ k, @Eq EReal (iblk m c 2 t (ix3 0 k (⟨j.val % 256, by omega⟩ : Fin 256))) (upOf m c k j) := by
      intro k
      unfold upOf
      rw [← V_main_arg2 m c]
      blk_ext [iblk, idx t]
    show out0_3 _ _ _ (ix2 (⟨i.val % 2048, by omega⟩ : Fin 2048) (⟨j.val % 256, by omega⟩ : Fin 256)) = _
    frame_out
    refine (pay_at _ _ _ _ _ _).trans ?_
    simp only [e0, e1, e2]
    rfl

/-- The reference ends, with its arguments unchanged and its counters at zero. -/
theorem frame_reference : Cert.quiescent_RefGateUpIdeal := fun m ρ _ =>
  (θ_run Cert.RefGateUpIdeal.defs _ _).mono (fun r h => ⟨fun c => (h c).2, sem_eq_zero_of_no_sems (by decide) r.2⟩)
    (Cert.RefGateUpIdeal.Value.run m ρ)

/-- Kernel and reference have the same result: both hold the gated unit at every index. -/
theorem algebraic : Cert.algebraic_GateUpIdeal_RefGateUpIdeal := by
  intro m ρ m' ρ' _ hag
  refine ⟨_, Value.run_blocks m ρ, ?_⟩
  refine (θ_run _ _ _).mono (fun r h c => ⟨(h c).1.trans ?_, (h c).2⟩) (Cert.RefGateUpIdeal.Value.run m' ρ')
  funext x
  obtain ⟨i, j, rfl⟩ : ∃ (i : Fin 8192) (j : Fin 11008), x = ix2 i j := ⟨x 0, x 1, ValueIdx.eq_ix2 x⟩
  refine Eq.trans ?_ (final_at m c i j).symm
  rw [(hag c).1, (hag c).2.1, (hag c).2.2]
  pointwise
  unfold glued
  rfl

end GateUp

end
-- ==== Proof.Down.lean ====
/- The down-projection of the feed-forward part, added to the residual stream: tile by tile it is the reference's whole product. -/
module

public import proofs.«01_k».proof.Defs
public import proofs.«01_k».proof.Proof.Gen.DownIdeal.Value
public import proofs.«01_k».proof.Proof.Gen.RefDownIdeal.Run
public import Idealize.ShloMosaic.Lib.Pipeline.ValueKit
public import Idealize.ShloMosaic.Lib.Quiescent
public import Idealize.ShloMosaic.Lib.StableHlo.ReadAt

@[expose] public section

set_option maxRecDepth 16384

noncomputable section

namespace Down

open Cert.DownIdeal Cert.DownIdeal.Gen Idealize.ShloMosaic Idealize.ShloMosaic.TcCoe Idealize.SL.Sem

/-- The residual plus a row's product with a column of the weight. -/
def proj (x : Fin 8192 → Fin 11008 → EReal) (w : Fin 11008 → Fin 4096 → EReal) (h : Fin 8192 → Fin 4096 → EReal) (i : Fin 8192) (j : Fin 4096) : EReal :=
  h i j + ∑ k, x i k * w k j

/-- What one step stores at an index of its block. -/
theorem pay_at (v0 : Vec Ideal S512x11008 .bf16) (v1 : Vec Ideal S1x11008x512 .bf16) (v4 : Vec Ideal S512x512 .f32) (a b : Fin 512) :
    @Eq EReal (k0_pay1 v0 v1 v4 (ix2 a b)) (v4 (ix2 a b) + ∑ x, v0 (ix2 a x) * v1 (ix3 0 x b) : EReal) := by
  pointwise [k0_pay1]

variable (m : (ℓ : Loc nD τ sig) → Buf (Elt Ideal) ℓ)

/-- The block that each window holds at a step. -/
theorem idx : ∀ t : Fin cfg0.N, win0_0.index t = ![t.val / 8, 0] ∧ win0_1.index t = ![1, 0, t.val % 8]
    ∧ win0_2.index t = ![t.val / 8, t.val % 8] ∧ win0_3.index t = ![t.val / 8, t.val % 8] :=
  (by decide +kernel : ∀ t : Fin grid0.N, _)

variable (c : Dev nD)

abbrev xOf (i : Fin 8192) (k : Fin 11008) : EReal := m ((c : Thread nD τ).loc main_arg0) (ix2 i k)
abbrev wOf (k : Fin 11008) (j : Fin 4096) : EReal := m ((c : Thread nD τ).loc main_arg1) (ix3 1 k j)
abbrev hOf (i : Fin 8192) (j : Fin 4096) : EReal := m ((c : Thread nD τ).loc main_arg2) (ix2 i j)

/-- The weight that the launch finds is the argument: the host only changes its format. -/
theorem V_w (k : Fin 11008) (j : Fin 4096) : @Eq EReal (V m c main_v0 (ix3 1 k j)) (wOf m c k j) := by
  unfold V
  simp only [List.flatten_cons, List.flatten_nil, List.append_nil, List.cons_append, List.nil_append, hostOps0]
  repeat after_reads_at

/-- Every element of the kernel's result, in terms of the arguments. -/
theorem final_at (i : Fin 8192) (j : Fin 4096) :
    @Eq EReal ((Gen.dats m 0 c).arrAt 3 cfg0.N (ix2 i j)) (proj (xOf m c) (wOf m c) (hOf m c) i j) := by
  have hi := i.isLt
  have hj := j.isLt
  have hN : 8 * (i.val / 512) + j.val / 512 < cfg0.N := by rw [show cfg0.N = 128 from N_0]; omega
  obtain ⟨t, ht⟩ : ∃ t : Fin cfg0.N, t.val = 8 * (i.val / 512) + j.val / 512 := ⟨⟨_, hN⟩, rfl⟩
  have h := congrFun (Value.blocks3 m c t (flush0_3 t)) (ix2 (⟨i.val % 512, by omega⟩ : Fin 512) (⟨j.val % 512, by omega⟩ : Fin 512))
  rw [Value.flushed3] at h
  refine Eq.trans ?_ (h.trans ?_)
  · blk_ext [idx t]
  · have e0 : ∀ k, @Eq EReal (iblk m c 0 t (ix2 (⟨i.val % 512, by omega⟩ : Fin 512) k)) (xOf m c i k) := by
      intro k
      unfold xOf
      rw [← V_main_arg0 m c]
      blk_ext [iblk, idx t]
    have e1 : ∀ k, @Eq EReal (iblk m c 1 t (ix3 0 k (⟨j.val % 512, by omega⟩ : Fin 512))) (wOf m c k j) := by
      intro k
      rw [← V_w m c]
      blk_ext [iblk, idx t]
    have e2 : @Eq EReal (iblk m c 2 t (ix2 (⟨i.val % 512, by omega⟩ : Fin 512) (⟨j.val % 512, by omega⟩ : Fin 512))) (hOf m c i j) := by
      unfold hOf
      rw [← V_main_arg2 m c]
      blk_ext [iblk, idx t]
    show out0_3 _ _ _ (ix2 (⟨i.val % 512, by omega⟩ : Fin 512) (⟨j.val % 512, by omega⟩ : Fin 512)) = _
    frame_out
    refine (pay_at _ _ _ _ _).trans ?_
    simp only [e0, e1, e2]
    rfl

/-- The reference ends, with its arguments unchanged and its counters at zero. -/
theorem frame_reference : Cert.quiescent_RefDownIdeal := fun m ρ _ =>
  (θ_run Cert.RefDownIdeal.defs _ _).mono (fun r h => ⟨fun c => (h c).2, sem_eq_zero_of_no_sems (by decide) r.2⟩)
    (Cert.RefDownIdeal.Value.run m ρ)

/-- Kernel and reference have the same result: both hold the residual plus the product at every index. -/
theorem algebraic : Cert.algebraic_DownIdeal_RefDownIdeal := by
  intro m ρ m' ρ' _ hag
  refine ⟨_, Value.run_blocks m ρ, ?_⟩
  refine (θ_run _ _ _).mono (fun r h c => ⟨(h c).1.trans ?_, (h c).2⟩) (Cert.RefDownIdeal.Value.run m' ρ')
  funext x
  obtain ⟨i, j, rfl⟩ : ∃ (i : Fin 8192) (j : Fin 4096), x = ix2 i j := ⟨x 0, x 1, ValueIdx.eq_ix2 x⟩
  refine Eq.trans ?_ (final_at m c i j).symm
  rw [(hag c).1, (hag c).2.1, (hag c).2.2]
  show @Eq EReal _ _
  pointwise
  rfl

end Down

end
-- ==== Proof.OutProj.lean ====
/- A mixer's output projection, added to the residual stream: two half products against the reference's product of the joined halves. -/
module

public import proofs.«01_k».proof.Defs
public import proofs.«01_k».proof.Proof.Gen.OutProjIdeal.Value
public import proofs.«01_k».proof.Proof.Gen.RefOutProjIdeal.Run
public import Idealize.ShloMosaic.Lib.Pipeline.ValueKit
public import Idealize.ShloMosaic.Lib.Quiescent

@[expose] public section

set_option maxRecDepth 16384

noncomputable section

namespace OutProj

open Cert.OutProjIdeal Cert.OutProjIdeal.Gen Idealize.ShloMosaic Idealize.ShloMosaic.TcCoe Idealize.SL.Sem

/-- The residual plus the products of the two halves with the two halves of the weight. -/
def proj (h : Fin 8192 → Fin 4096 → EReal) (x y : Fin 8192 → Fin 2048 → EReal) (w : Fin 4096 → Fin 4096 → EReal) (i : Fin 8192) (j : Fin 4096) : EReal :=
  h i j + ((∑ k : Fin 2048, x i k * w ⟨k.val, by omega⟩ j) + ∑ k : Fin 2048, y i k * w ⟨2048 + k.val, by omega⟩ j)

/-- What one step stores at an index of its block. -/
theorem pay_at (v0 v5 : Vec Ideal S1024x2048 .bf16) (v1 v6 : Vec Ideal S1x2048x512 .f32) (v10 : Vec Ideal S1024x512 .f32) (a : Fin 1024) (b : Fin 512) :
    @Eq EReal (k0_pay1 v0 v1 v5 v6 v10 (ix2 a b))
      (v10 (ix2 a b) + ((∑ x, v0 (ix2 a x) * v1 (ix3 0 x b) : EReal) + (∑ x, v5 (ix2 a x) * v6 (ix3 0 x b) : EReal)) : EReal) := by
  pointwise [k0_pay1]

variable (m : (ℓ : Loc nD τ sig) → Buf (Elt Ideal) ℓ)

/-- The block that each window holds at a step. -/
theorem idx : ∀ t : Fin cfg0.N, win0_0.index t = ![t.val / 8, 0] ∧ win0_1.index t = ![t.val / 8, 0]
    ∧ win0_2.index t = ![0, 0, t.val % 8] ∧ win0_3.index t = ![0, 1, t.val % 8]
    ∧ win0_4.index t = ![t.val / 8, t.val % 8] ∧ win0_5.index t = ![t.val / 8, t.val % 8] :=
  (by decide +kernel : ∀ t : Fin grid0.N, _)

variable (c : Dev nD)

abbrev hOf (i : Fin 8192) (j : Fin 4096) : EReal := m ((c : Thread nD τ).loc main_arg0) (ix2 i j)
abbrev xOf (i : Fin 8192) (k : Fin 2048) : EReal := m ((c : Thread nD τ).loc main_arg1) (ix2 i k)
abbrev yOf (i : Fin 8192) (k : Fin 2048) : EReal := m ((c : Thread nD τ).loc main_arg2) (ix2 i k)
abbrev wOf (k : Fin 4096) (j : Fin 4096) : EReal := m ((c : Thread nD τ).loc main_arg3) (ix3 0 k j)

/-- Every element of the kernel's result, in terms of the arguments. -/
theorem final_at (i : Fin 8192) (j : Fin 4096) :
    @Eq EReal ((Gen.dats m 0 c).arrAt 5 cfg0.N (ix2 i j)) (proj (hOf m c) (xOf m c) (yOf m c) (wOf m c) i j) := by
  have hi := i.isLt
  have hj := j.isLt
  have hN : 8 * (i.val / 1024) + j.val / 512 < cfg0.N := by rw [show cfg0.N = 64 from N_0]; omega
  obtain ⟨t, ht⟩ : ∃ t : Fin cfg0.N, t.val = 8 * (i.val / 1024) + j.val / 512 := ⟨⟨_, hN⟩, rfl⟩
  have h := congrFun (Value.blocks5 m c t (flush0_5 t)) (ix2 (⟨i.val % 1024, by omega⟩ : Fin 1024) (⟨j.val % 512, by omega⟩ : Fin 512))
  rw [Value.flushed5] at h
  refine Eq.trans ?_ (h.trans ?_)
  · blk_ext [idx t]
  · have e0 : ∀ k, @Eq EReal (iblk m c 0 t (ix2 (⟨i.val % 1024, by omega⟩ : Fin 1024) k)) (xOf m c i k) := by
      intro k
      unfold xOf
      rw [← V_main_arg1 m c]
      blk_ext [iblk, idx t]
    have e1 : ∀ k, @Eq EReal (iblk m c 1 t (ix2 (⟨i.val % 1024, by omega⟩ : Fin 1024) k)) (yOf m c i k) := by
      intro k
      unfold yOf
      rw [← V_main_arg2 m c]
      blk_ext [iblk, idx t]
    have e2 : ∀ k : Fin 2048, @Eq EReal (iblk m c 2 t (ix3 0 k (⟨j.val % 512, by omega⟩ : Fin 512))) (wOf m c ⟨k.val, by omega⟩ j) := by
      intro k
      unfold wOf
      rw [← V_main_arg3 m c]
      blk_ext [iblk, idx t]
    have e3 : ∀ k : Fin 2048, @Eq EReal (iblk m c 3 t (ix3 0 k (⟨j.val % 512, by omega⟩ : Fin 512))) (wOf m c ⟨2048 + k.val, by omega⟩ j) := by
      intro k
      unfold wOf
      rw [← V_main_arg3 m c]
      blk_ext [iblk, idx t]
    have e4 : @Eq EReal (iblk m c 4 t (ix2 (⟨i.val % 1024, by omega⟩ : Fin 1024) (⟨j.val % 512, by omega⟩ : Fin 512))) (hOf m c i j) := by
      unfold hOf
      rw [← V_main_arg0 m c]
      blk_ext [iblk, idx t]
    show out0_5 _ _ _ _ _ (ix2 (⟨i.val % 1024, by omega⟩ : Fin 1024) (⟨j.val % 512, by omega⟩ : Fin 512)) = _
    frame_out
    refine (pay_at _ _ _ _ _ _ _).trans ?_
    simp only [e0, e1, e2, e3, e4]
    rfl

/-- The reference's result at an index. -/
theorem ref_at (h : FVec Ideal Cert.RefOutProjIdeal.S8192x4096 .f32) (x y : FVec Ideal Cert.RefOutProjIdeal.S8192x2048 .bf16) (w : FVec Ideal Cert.RefOutProjIdeal.S1x4096x4096 .f32) (i : Fin 8192) (j : Fin 4096) :
    @Eq EReal ((addf h (Host.dotGeneral (F := Ideal) Cert.RefOutProjIdeal.dot_S8192x4096_S4096x4096_S8192x4096_1_0_0_1_n_n none (concatenate Cert.RefOutProjIdeal.S8192x4096 1 [⟨Cert.RefOutProjIdeal.S8192x2048, (extf .f32 x Cert.RefOutProjIdeal.Gen.bitsLt_bf16_f32)⟩, ⟨Cert.RefOutProjIdeal.S8192x2048, (extf .f32 y Cert.RefOutProjIdeal.Gen.bitsLt_bf16_f32)⟩] Cert.RefOutProjIdeal.Gen.concatenates_S8192x2048_S8192x2048_S8192x4096_d1) (shapeCast Cert.RefOutProjIdeal.S4096x4096 w Cert.RefOutProjIdeal.Gen.shapeCasts_S1x4096x4096_S4096x4096))) (ix2 i j)) (proj (fun i j => h (ix2 i j)) (fun i k => x (ix2 i k)) (fun i k => y (ix2 i k)) (fun k j => w (ix3 0 k j)) i j) := by
  pointwise
  rfl

/-- The reference ends, with its arguments unchanged and its counters at zero. -/
theorem frame_reference : Cert.quiescent_RefOutProjIdeal := fun m ρ _ =>
  (θ_run Cert.RefOutProjIdeal.defs _ _).mono (fun r h => ⟨fun c => (h c).2, sem_eq_zero_of_no_sems (by decide) r.2⟩)
    (Cert.RefOutProjIdeal.Value.run m ρ)

/-- Kernel and reference have the same result: both hold the residual plus the product of the joined halves at every index. -/
theorem algebraic : Cert.algebraic_OutProjIdeal_RefOutProjIdeal := by
  intro m ρ m' ρ' _ hag
  refine ⟨_, Value.run_blocks m ρ, ?_⟩
  refine (θ_run _ _ _).mono (fun r h c => ⟨(h c).1.trans ?_, (h c).2⟩) (Cert.RefOutProjIdeal.Value.run m' ρ')
  funext x
  obtain ⟨i, j, rfl⟩ : ∃ (i : Fin 8192) (j : Fin 4096), x = ix2 i j := ⟨x 0, x 1, ValueIdx.eq_ix2 x⟩
  refine Eq.trans ?_ (final_at m c i j).symm
  rw [(hag c).1, (hag c).2.1, (hag c).2.2.1, (hag c).2.2.2]
  exact ref_at _ _ _ _ i j

end OutProj

end
-- ==== Proof.EvenIn.lean ====
/- The even layer's input projection, the columns that the whole tiles cover: tile by tile it is the reference's product. -/
module

public import proofs.«01_k».proof.Defs
public import proofs.«01_k».proof.Proof.Gen.EvenInIdeal.Value
public import proofs.«01_k».proof.Proof.Gen.RefEvenInIdeal.Run
public import Idealize.ShloMosaic.Lib.Pipeline.ValueKit
public import Idealize.ShloMosaic.Lib.Quiescent

@[expose] public section

set_option maxRecDepth 16384

noncomputable section

namespace EvenIn

open Cert.EvenInIdeal Cert.EvenInIdeal.Gen Idealize.ShloMosaic Idealize.ShloMosaic.TcCoe Idealize.SL.Sem

/-- A row's product with a column of the weight. -/
def proj (x : Fin 8192 → Fin 4096 → EReal) (w : Fin 4096 → Fin 11776 → EReal) (i : Fin 8192) (j : Fin 11776) : EReal :=
  ∑ k, x i k * w k j

/-- What one step stores at an index of its block. -/
theorem pay_at (v0 : Vec Ideal S1024x4096 .bf16) (v1 : Vec Ideal S1x4096x512 .f32) (a : Fin 1024) (b : Fin 512) :
    @Eq EReal (k0_pay1 v0 v1 (ix2 a b)) (∑ x, v0 (ix2 a x) * v1 (ix3 0 x b) : EReal) := by
  pointwise [k0_pay1]

variable (m : (ℓ : Loc nD τ sig) → Buf (Elt Ideal) ℓ)

/-- The block that each window holds at a step. -/
theorem idx : ∀ t : Fin cfg0.N, win0_0.index t = ![t.val / 23, 0] ∧ win0_1.index t = ![0, 0, t.val % 23]
    ∧ win0_2.index t = ![t.val / 23, t.val % 23] :=
  (by decide +kernel : ∀ t : Fin grid0.N, _)

variable (c : Dev nD)

abbrev xOf (i : Fin 8192) (k : Fin 4096) : EReal := m ((c : Thread nD τ).loc main_arg0) (ix2 i k)
abbrev wOf (k : Fin 4096) (j : Fin 11776) : EReal := m ((c : Thread nD τ).loc main_arg1) (ix3 0 k (⟨j.val, by omega⟩ : Fin 11808))

/-- Every element of the kernel's result, in terms of the arguments. -/
theorem final_at (i : Fin 8192) (j : Fin 11776) :
    @Eq EReal ((Gen.dats m 0 c).arrAt 2 cfg0.N (ix2 i j)) (proj (xOf m c) (wOf m c) i j) := by
  have hi := i.isLt
  have hj := j.isLt
  have hN : 23 * (i.val / 1024) + j.val / 512 < cfg0.N := by rw [show cfg0.N = 184 from N_0]; omega
  obtain ⟨t, ht⟩ : ∃ t : Fin cfg0.N, t.val = 23 * (i.val / 1024) + j.val / 512 := ⟨⟨_, hN⟩, rfl⟩
  have h := congrFun (Value.blocks2 m c t (flush0_2 t)) (ix2 (⟨i.val % 1024, by omega⟩ : Fin 1024) (⟨j.val % 512, by omega⟩ : Fin 512))
  rw [Value.flushed2] at h
  refine Eq.trans ?_ (h.trans ?_)
  · blk_ext [idx t]
  · have e0 : ∀ k, @Eq EReal (iblk m c 0 t (ix2 (⟨i.val % 1024, by omega⟩ : Fin 1024) k)) (xOf m c i k) := by
      intro k
      unfold xOf
      rw [← V_main_arg0 m c]
      blk_ext [iblk, idx t]
    have e1 : ∀ k, @Eq EReal (X0_1 m c t (ix3 0 k (⟨j.val % 512, by omega⟩ : Fin 512))) (wOf m c k j) := by
      intro k
      unfold wOf
      rw [← V_main_arg1 m c]
      unfold X0_1 Pipeline.Window.fill
      rw [dif_pos (moved0_1 t _)]
      blk_ext [iblk, idx t]
    show outsAt0 m c t (ix2 (⟨i.val % 1024, by omega⟩ : Fin 1024) (⟨j.val % 512, by omega⟩ : Fin 512)) = _
    unfold outsAt0
    frame_out
    refine (pay_at _ _ _ _).trans ?_
    simp only [e0, e1]
    rfl

/-- The reference's result at an index. -/
theorem ref_at (x : FVec Ideal Cert.RefEvenInIdeal.S8192x4096 .bf16) (w : FVec Ideal Cert.RefEvenInIdeal.S1x4096x11808 .f32) (i : Fin 8192) (j : Fin 11776) :
    @Eq EReal ((extractStridedSlice Cert.RefEvenInIdeal.S8192x11776 ![0, 0] (Host.dotGeneral (F := Ideal) Cert.RefEvenInIdeal.dot_S8192x4096_S4096x11808_S8192x11808_1_0_0_1_n_n none (extf .f32 x Cert.RefEvenInIdeal.Gen.bitsLt_bf16_f32) (shapeCast Cert.RefEvenInIdeal.S4096x11808 w Cert.RefEvenInIdeal.Gen.shapeCasts_S1x4096x11808_S4096x11808)) Cert.RefEvenInIdeal.Gen.slices_S8192x11808_S8192x11776_0_0) (ix2 i j)) (proj (fun i k => x (ix2 i k)) (fun k j => w (ix3 0 k (⟨j.val, by omega⟩ : Fin 11808))) i j) := by
  pointwise
  rfl

/-- The reference ends, with its arguments unchanged and its counters at zero. -/
theorem frame_reference : Cert.quiescent_RefEvenInIdeal := fun m ρ _ =>
  (θ_run Cert.RefEvenInIdeal.defs _ _).mono (fun r h => ⟨fun c => (h c).2, sem_eq_zero_of_no_sems (by decide) r.2⟩)
    (Cert.RefEvenInIdeal.Value.run m ρ)

/-- Kernel and reference have the same result: both hold the product at every index. -/
theorem algebraic : Cert.algebraic_EvenInIdeal_RefEvenInIdeal := by
  intro m ρ m' ρ' _ hag
  refine ⟨_, Value.run_blocks m ρ, ?_⟩
  refine (θ_run _ _ _).mono (fun r h c => ⟨(h c).1.trans ?_, (h c).2⟩) (Cert.RefEvenInIdeal.Value.run m' ρ')
  funext x
  obtain ⟨i, j, rfl⟩ : ∃ (i : Fin 8192) (j : Fin 11776), x = ix2 i j := ⟨x 0, x 1, ValueIdx.eq_ix2 x⟩
  refine Eq.trans ?_ (final_at m c i j).symm
  rw [(hag c).1, (hag c).2]
  exact ref_at _ _ i j

end EvenIn

end
-- ==== Proof.OddIn.lean ====
/- The odd layer's input projection: tile by tile it is the reference's whole product. -/
module

public import proofs.«01_k».proof.Defs
public import proofs.«01_k».proof.Proof.Gen.OddInIdeal.Value
public import proofs.«01_k».proof.Proof.Gen.RefOddInIdeal.Run
public import Idealize.ShloMosaic.Lib.Pipeline.ValueKit
public import Idealize.ShloMosaic.Lib.Quiescent

@[expose] public section

set_option maxRecDepth 16384

noncomputable section

namespace OddIn

open Cert.OddInIdeal Cert.OddInIdeal.Gen Idealize.ShloMosaic Idealize.ShloMosaic.TcCoe Idealize.SL.Sem

/-- A row's product with a column of the weight. -/
def proj (x : Fin 8192 → Fin 4096 → EReal) (w : Fin 4096 → Fin 10240 → EReal) (i : Fin 8192) (j : Fin 10240) : EReal :=
  ∑ k, x i k * w k j

/-- What one step stores at an index of its block. -/
theorem pay_at (v0 : Vec Ideal S1024x4096 .bf16) (v1 : Vec Ideal S1x4096x512 .f32) (a : Fin 1024) (b : Fin 512) :
    @Eq EReal (k0_pay1 v0 v1 (ix2 a b)) (∑ x, v0 (ix2 a x) * v1 (ix3 0 x b) : EReal) := by
  pointwise [k0_pay1]

variable (m : (ℓ : Loc nD τ sig) → Buf (Elt Ideal) ℓ)

/-- The block that each window holds at a step. -/
theorem idx : ∀ t : Fin cfg0.N, win0_0.index t = ![t.val / 20, 0] ∧ win0_1.index t = ![0, 0, t.val % 20]
    ∧ win0_2.index t = ![t.val / 20, t.val % 20] :=
  (by decide +kernel : ∀ t : Fin grid0.N, _)

variable (c : Dev nD)

abbrev xOf (i : Fin 8192) (k : Fin 4096) : EReal := m ((c : Thread nD τ).loc main_arg0) (ix2 i k)
abbrev wOf (k : Fin 4096) (j : Fin 10240) : EReal := m ((c : Thread nD τ).loc main_arg1) (ix3 0 k j)

/-- Every element of the kernel's result, in terms of the arguments. -/
theorem final_at (i : Fin 8192) (j : Fin 10240) :
    @Eq EReal ((Gen.dats m 0 c).arrAt 2 cfg0.N (ix2 i j)) (proj (xOf m c) (wOf m c) i j) := by
  have hi := i.isLt
  have hj := j.isLt
  have hN : 20 * (i.val / 1024) + j.val / 512 < cfg0.N := by rw [show cfg0.N = 160 from N_0]; omega
  obtain ⟨t, ht⟩ : ∃ t : Fin cfg0.N, t.val = 20 * (i.val / 1024) + j.val / 512 := ⟨⟨_, hN⟩, rfl⟩
  have h := congrFun (Value.blocks2 m c t (flush0_2 t)) (ix2 (⟨i.val % 1024, by omega⟩ : Fin 1024) (⟨j.val % 512, by omega⟩ : Fin 512))
  rw [Value.flushed2] at h
  refine Eq.trans ?_ (h.trans ?_)
  · blk_ext [idx t]
  · have e0 : ∀ k, @Eq EReal (iblk m c 0 t (ix2 (⟨i.val % 1024, by omega⟩ : Fin 1024) k)) (xOf m c i k) := by
      intro k
      unfold xOf
      rw [← V_main_arg0 m c]
      blk_ext [iblk, idx t]
    have e1 : ∀ k, @Eq EReal (iblk m c 1 t (ix3 0 k (⟨j.val % 512, by omega⟩ : Fin 512))) (wOf m c k j) := by
      intro k
      unfold wOf
      rw [← V_main_arg1 m c]
      blk_ext [iblk, idx t]
    show out0_2 _ _ (ix2 (⟨i.val % 1024, by omega⟩ : Fin 1024) (⟨j.val % 512, by omega⟩ : Fin 512)) = _
    frame_out
    refine (pay_at _ _ _ _).trans ?_
    simp only [e0, e1]
    rfl

/-- The reference's result at an index. -/
theorem ref_at (x : FVec Ideal Cert.RefOddInIdeal.S8192x4096 .bf16) (w : FVec Ideal Cert.RefOddInIdeal.S1x4096x10240 .f32) (i : Fin 8192) (j : Fin 10240) :
    @Eq EReal ((Host.dotGeneral (F := Ideal) Cert.RefOddInIdeal.dot_S8192x4096_S4096x10240_S8192x10240_1_0_0_1_n_n none (extf .f32 x Cert.RefOddInIdeal.Gen.bitsLt_bf16_f32) (shapeCast Cert.RefOddInIdeal.S4096x10240 w Cert.RefOddInIdeal.Gen.shapeCasts_S1x4096x10240_S4096x10240)) (ix2 i j)) (proj (fun i k => x (ix2 i k)) (fun k j => w (ix3 0 k j)) i j) := by
  pointwise
  rfl

/-- The reference ends, with its arguments unchanged and its counters at zero. -/
theorem frame_reference : Cert.quiescent_RefOddInIdeal := fun m ρ _ =>
  (θ_run Cert.RefOddInIdeal.defs _ _).mono (fun r h => ⟨fun c => (h c).2, sem_eq_zero_of_no_sems (by decide) r.2⟩)
    (Cert.RefOddInIdeal.Value.run m ρ)

/-- Kernel and reference have the same result: both hold the product at every index. -/
theorem algebraic : Cert.algebraic_OddInIdeal_RefOddInIdeal := by
  intro m ρ m' ρ' _ hag
  refine ⟨_, Value.run_blocks m ρ, ?_⟩
  refine (θ_run _ _ _).mono (fun r h c => ⟨(h c).1.trans ?_, (h c).2⟩) (Cert.RefOddInIdeal.Value.run m' ρ')
  funext x
  obtain ⟨i, j, rfl⟩ : ∃ (i : Fin 8192) (j : Fin 10240), x = ix2 i j := ⟨x 0, x 1, ValueIdx.eq_ix2 x⟩
  refine Eq.trans ?_ (final_at m c i j).symm
  rw [(hag c).1, (hag c).2]
  exact ref_at _ _ i j

end OddIn

end
-- ==== Proof.Glu.lean ====
/- The gate of the diagonal state-space mixer: tile by tile it is the reference's gated product. -/
module

public import proofs.«01_k».proof.Defs
public import proofs.«01_k».proof.Proof.Gen.GluIdeal.Value
public import proofs.«01_k».proof.Proof.Gen.RefGluIdeal.Run
public import Idealize.ShloMosaic.Lib.Pipeline.ValueKit
public import Idealize.ShloMosaic.Lib.Quiescent
public import Idealize.ShloMosaic.Lib.StableHlo.ReadAt

@[expose] public section

set_option maxRecDepth 16384

noncomputable section

namespace Glu

open Cert.GluIdeal Cert.GluIdeal.Gen Idealize.ShloMosaic Idealize.ShloMosaic.TcCoe Idealize.SL.Sem

/-- A value times the logistic function of its row's gate. -/
def gated (x : Fin 8192 → Fin 2048 → EReal) (w : Fin 2048 → Fin 2048 → EReal) (z : Fin 8192 → Fin 2048 → EReal) (b : Fin 2048 → EReal) (i : Fin 8192) (j : Fin 2048) : EReal :=
  z i j * Ideal.div 1 (1 + Ideal.exp (-((∑ k, x i k * w k j) + b j)))

/-- What one step stores at an index of its block. -/
theorem pay_at (v0 : Vec Ideal S1024x2048 .bf16) (v1 : Vec Ideal S1x2048x512 .f32) (v5 : Vec Ideal S1024x512 .f32) (v6 : Vec Ideal S1x512 .f32) (a : Fin 1024) (b : Fin 512) :
    @Eq EReal (k0_pay1 v0 v1 v5 v6 (ix2 a b))
      (v5 (ix2 a b) * Ideal.div 1 (1 + Ideal.exp (-((∑ x, v0 (ix2 a x) * v1 (ix3 0 x b) : EReal) + v6 (ix2 0 b)))) : EReal) := by
  pointwise [k0_pay1]
  rw [zero_sub]

variable (m : (ℓ : Loc nD τ sig) → Buf (Elt Ideal) ℓ)

/-- The block that each window holds at a step. -/
theorem idx : ∀ t : Fin cfg0.N, win0_0.index t = ![t.val / 4, 0] ∧ win0_1.index t = ![0, 0, t.val % 4]
    ∧ win0_2.index t = ![t.val / 4, t.val % 4] ∧ win0_3.index t = ![0, t.val % 4] ∧ win0_4.index t = ![t.val / 4, t.val % 4] :=
  (by decide +kernel : ∀ t : Fin grid0.N, _)

variable (c : Dev nD)

abbrev xOf (i : Fin 8192) (k : Fin 2048) : EReal := m ((c : Thread nD τ).loc main_arg0) (ix2 i k)
abbrev wOf (k : Fin 2048) (j : Fin 2048) : EReal := m ((c : Thread nD τ).loc main_arg1) (ix3 0 k j)
abbrev zOf (i : Fin 8192) (j : Fin 2048) : EReal := m ((c : Thread nD τ).loc main_arg2) (ix2 i j)
abbrev bOf (j : Fin 2048) : EReal := m ((c : Thread nD τ).loc main_arg3) (ix2 0 j)

/-- The bias row that the launch finds is the argument, laid out as a row. -/
theorem V_b (j : Fin 2048) : @Eq EReal (V m c main_v1 (ix2 0 j)) (bOf m c j) := by
  unfold V
  simp only [List.flatten_cons, List.flatten_nil, List.append_nil, List.cons_append, List.nil_append, hostOps0]
  repeat after_reads_at

/-- Every element of the kernel's result, in terms of the arguments. -/
theorem final_at (i : Fin 8192) (j : Fin 2048) :
    @Eq EReal ((Gen.dats m 0 c).arrAt 4 cfg0.N (ix2 i j)) (gated (xOf m c) (wOf m c) (zOf m c) (bOf m c) i j) := by
  have hi := i.isLt
  have hj := j.isLt
  have hN : 4 * (i.val / 1024) + j.val / 512 < cfg0.N := by rw [show cfg0.N = 32 from N_0]; omega
  obtain ⟨t, ht⟩ : ∃ t : Fin cfg0.N, t.val = 4 * (i.val / 1024) + j.val / 512 := ⟨⟨_, hN⟩, rfl⟩
  have h := congrFun (Value.blocks4 m c t (flush0_4 t)) (ix2 (⟨i.val % 1024, by omega⟩ : Fin 1024) (⟨j.val % 512, by omega⟩ : Fin 512))
  rw [Value.flushed4] at h
  refine Eq.trans ?_ (h.trans ?_)
  · blk_ext [idx t]
  · have e0 : ∀ k, @Eq EReal (iblk m c 0 t (ix2 (⟨i.val % 1024, by omega⟩ : Fin 1024) k)) (xOf m c i k) := by
      intro k
      unfold xOf
      rw [← V_main_arg0 m c]
      blk_ext [iblk, idx t]
    have e1 : ∀ k, @Eq EReal (iblk m c 1 t (ix3 0 k (⟨j.val % 512, by omega⟩ : Fin 512))) (wOf m c k j) := by
      intro k
      unfold wOf
      rw [← V_main_arg1 m c]
      blk_ext [iblk, idx t]
    have e2 : @Eq EReal (iblk m c 2 t (ix2 (⟨i.val % 1024, by omega⟩ : Fin 1024) (⟨j.val % 512, by omega⟩ : Fin 512))) (zOf m c i j) := by
      unfold zOf
      rw [← V_main_arg2 m c]
      blk_ext [iblk, idx t]
    have e3 : @Eq EReal (iblk m c 3 t (ix2 0 (⟨j.val % 512, by omega⟩ : Fin 512))) (bOf m c j) := by
      rw [← V_b m c]
      blk_ext [iblk, idx t]
    show out0_4 _ _ _ _ (ix2 (⟨i.val % 1024, by omega⟩ : Fin 1024) (⟨j.val % 512, by omega⟩ : Fin 512)) = _
    frame_out
    refine (pay_at _ _ _ _ _ _).trans ?_
    simp only [e0, e1, e2, e3]
    rfl

/-- The reference's result at an index. -/
theorem ref_at (x : FVec Ideal Cert.RefGluIdeal.S8192x2048 .bf16) (w : FVec Ideal Cert.RefGluIdeal.S1x2048x2048 .f32) (z : FVec Ideal Cert.RefGluIdeal.S8192x2048 .f32) (b : FVec Ideal Cert.RefGluIdeal.S1x2048 .f32) (i : Fin 8192) (j : Fin 2048) :
    @Eq EReal ((truncf .bf16 (mulf z (Host.divf (broadcastInDim Cert.RefGluIdeal.S8192x2048 ![] Cert.RefGluIdeal.Gen.bcast_S_S8192x2048 (constant Cert.RefGluIdeal.S_ .f32 0x3F800000#32)) (addf (broadcastInDim Cert.RefGluIdeal.S8192x2048 ![] Cert.RefGluIdeal.Gen.bcast_S_S8192x2048 (constant Cert.RefGluIdeal.S_ .f32 0x3F800000#32)) (Host.exp (Host.negf (addf (Host.dotGeneral (F := Ideal) Cert.RefGluIdeal.dot_S8192x2048_S2048x2048_S8192x2048_1_0_0_1_n_n none (extf .f32 x Cert.RefGluIdeal.Gen.bitsLt_bf16_f32) (shapeCast Cert.RefGluIdeal.S2048x2048 w Cert.RefGluIdeal.Gen.shapeCasts_S1x2048x2048_S2048x2048)) (broadcastInDim Cert.RefGluIdeal.S8192x2048 ![0, 1] Cert.RefGluIdeal.Gen.bcast_S1x2048_S8192x2048_0_1 (broadcastInDim Cert.RefGluIdeal.S1x2048 ![1] Cert.RefGluIdeal.Gen.bcast_S2048_S1x2048_1 (shapeCast Cert.RefGluIdeal.S2048 b Cert.RefGluIdeal.Gen.shapeCasts_S1x2048_S2048))))))))) Cert.RefGluIdeal.Gen.bitsLt_bf16_f32) (ix2 i j)) (gated (fun i k => x (ix2 i k)) (fun k j => w (ix3 0 k j)) (fun i j => z (ix2 i j)) (fun j => b (ix2 0 j)) i j) := by
  pointwise
  rfl

/-- The reference ends, with its arguments unchanged and its counters at zero. -/
theorem frame_reference : Cert.quiescent_RefGluIdeal := fun m ρ _ =>
  (θ_run Cert.RefGluIdeal.defs _ _).mono (fun r h => ⟨fun c => (h c).2, sem_eq_zero_of_no_sems (by decide) r.2⟩)
    (Cert.RefGluIdeal.Value.run m ρ)

/-- Kernel and reference have the same result: both hold the gated value at every index. -/
theorem algebraic : Cert.algebraic_GluIdeal_RefGluIdeal := by
  intro m ρ m' ρ' _ hag
  refine ⟨_, Value.run_blocks m ρ, ?_⟩
  refine (θ_run _ _ _).mono (fun r h c => ⟨(h c).1.trans ?_, (h c).2⟩) (Cert.RefGluIdeal.Value.run m' ρ')
  funext x
  obtain ⟨i, j, rfl⟩ : ∃ (i : Fin 8192) (j : Fin 2048), x = ix2 i j := ⟨x 0, x 1, ValueIdx.eq_ix2 x⟩
  refine Eq.trans ?_ (final_at m c i j).symm
  rw [(hag c).1, (hag c).2.1, (hag c).2.2.1, (hag c).2.2.2]
  exact ref_at _ _ _ _ i j

end Glu

end
-- ==== Proof.Norm.lean ====
/- The root-mean-square norm: row block by row block it is the reference's norm of every row. -/
module

public import proofs.«01_k».proof.Defs
public import proofs.«01_k».proof.Proof.Gen.NormIdeal.Value
public import proofs.«01_k».proof.Proof.Gen.RefNormIdeal.Run
public import Idealize.ShloMosaic.Lib.Pipeline.ValueKit
public import Idealize.ShloMosaic.Lib.Quiescent
public import Idealize.ShloMosaic.Lib.StableHlo.ReadAt

@[expose] public section

set_option maxRecDepth 16384

noncomputable section

namespace Norm

open Cert.NormIdeal Cert.NormIdeal.Gen Idealize.ShloMosaic Idealize.ShloMosaic.TcCoe Idealize.SL.Sem

/-- A row divided by the root of its mean square, times the gain. -/
def normed (x : Fin 8192 → Fin 4096 → EReal) (g : Fin 4096 → EReal) (i : Fin 8192) (j : Fin 4096) : EReal :=
  x i j * Ideal.rsqrt (Ideal.div (∑ k, x i k * x i k) (Ideal.ofBits .f32 0x45800000#32) + Ideal.ofBits .f32 0x358637BD#32) * g j

/-- What one step stores at an index of its block. -/
theorem pay_at (v0 : Vec Ideal S512x4096 .f32) (v11 : Vec Ideal S1x4096 .f32) (a : Fin 512) (b : Fin 4096) :
    @Eq EReal (k0_pay1 v0 v11 (ix2 a b))
      ((v0 (ix2 a b) * Ideal.rsqrt (Ideal.div (∑ k, v0 (ix2 a k) * v0 (ix2 a k) : EReal) (Ideal.ofBits .f32 0x45800000#32) + Ideal.ofBits .f32 0x358637BD#32) : EReal) * v11 (ix2 0 b)) := by
  pointwise [k0_pay1]

variable (m : (ℓ : Loc nD τ sig) → Buf (Elt Ideal) ℓ)

/-- The block that each window holds at a step. -/
theorem idx : ∀ t : Fin cfg0.N, win0_0.index t = ![t.val, 0] ∧ win0_1.index t = ![0, 0] ∧ win0_2.index t = ![t.val, 0] :=
  (by decide +kernel : ∀ t : Fin grid0.N, _)

variable (c : Dev nD)

abbrev xOf (i : Fin 8192) (k : Fin 4096) : EReal := m ((c : Thread nD τ).loc main_arg0) (ix2 i k)
abbrev gOf (j : Fin 4096) : EReal := m ((c : Thread nD τ).loc main_arg1) (ix1 j)

/-- The gain that the launch finds is the argument, laid out as a row. -/
theorem V_g (j : Fin 4096) : @Eq EReal (V m c main_v0 (ix2 0 j)) (gOf m c j) := by
  unfold V
  simp only [List.flatten_cons, List.flatten_nil, List.append_nil, List.cons_append, List.nil_append, hostOps0]
  repeat after_reads_at

/-- Every element of the kernel's result, in terms of the arguments. -/
theorem final_at (i : Fin 8192) (j : Fin 4096) :
    @Eq EReal ((Gen.dats m 0 c).arrAt 2 cfg0.N (ix2 i j)) (normed (xOf m c) (gOf m c) i j) := by
  have hi := i.isLt
  have hj := j.isLt
  have hN : i.val / 512 < cfg0.N := by rw [show cfg0.N = 16 from N_0]; omega
  obtain ⟨t, ht⟩ : ∃ t : Fin cfg0.N, t.val = i.val / 512 := ⟨⟨_, hN⟩, rfl⟩
  have h := congrFun (Value.blocks2 m c t (flush0_2 t)) (ix2 (⟨i.val % 512, by omega⟩ : Fin 512) j)
  rw [Value.flushed2] at h
  refine Eq.trans ?_ (h.trans ?_)
  · blk_ext [idx t]
  · have e0 : ∀ k, @Eq EReal (iblk m c 0 t (ix2 (⟨i.val % 512, by omega⟩ : Fin 512) k)) (xOf m c i k) := by
      intro k
      unfold xOf
      rw [← V_main_arg0 m c]
      blk_ext [iblk, idx t]
    have e1 : @Eq EReal (iblk m c 1 t (ix2 0 j)) (gOf m c j) := by
      rw [← V_g m c]
      blk_ext [iblk, idx t]
    show out0_2 _ _ (ix2 (⟨i.val % 512, by omega⟩ : Fin 512) j) = _
    frame_out
    refine (pay_at _ _ _ _).trans ?_
    simp only [e0, e1]
    rfl

/-- The reference ends, with its arguments unchanged and its counters at zero. -/
theorem frame_reference : Cert.quiescent_RefNormIdeal := fun m ρ _ =>
  (θ_run Cert.RefNormIdeal.defs _ _).mono (fun r h => ⟨fun c => (h c).2, sem_eq_zero_of_no_sems (by decide) r.2⟩)
    (Cert.RefNormIdeal.Value.run m ρ)

/-- Kernel and reference have the same result: both hold the normed row at every index. -/
theorem algebraic : Cert.algebraic_NormIdeal_RefNormIdeal := by
  intro m ρ m' ρ' _ hag
  refine ⟨_, Value.run_blocks m ρ, ?_⟩
  refine (θ_run _ _ _).mono (fun r h c => ⟨(h c).1.trans ?_, (h c).2⟩) (Cert.RefNormIdeal.Value.run m' ρ')
  funext x
  obtain ⟨i, j, rfl⟩ : ∃ (i : Fin 8192) (j : Fin 4096), x = ix2 i j := ⟨x 0, x 1, ValueIdx.eq_ix2 x⟩
  refine Eq.trans ?_ (final_at m c i j).symm
  rw [(hag c).1, (hag c).2]
  show @Eq EReal _ _
  pointwise
  rfl

end Norm

end
-- ==== Proof.LoraIn.lean ====
/- The even layer's narrow input projection: its weight's column groups are set apart by zeros, and so are the product's. -/
module

public import proofs.«01_k».proof.Defs
public import proofs.«01_k».proof.Proof.Gen.LoraInIdeal.Value
public import proofs.«01_k».proof.Proof.Gen.RefLoraInIdeal.Run
public import Idealize.ShloMosaic.Lib.Pipeline.ValueKit
public import Idealize.ShloMosaic.Lib.Quiescent
public import Idealize.ShloMosaic.Lib.StableHlo.ReadAt

@[expose] public section

set_option maxRecDepth 16384

noncomputable section

namespace LoraIn

open Cert.LoraInIdeal Cert.LoraInIdeal.Gen Idealize.ShloMosaic Idealize.ShloMosaic.TcCoe Idealize.SL.Sem

/-- A row of the weight's last columns, with zeros between the groups. -/
def padded (w : Fin 11808 → EReal) (j : Fin 512) : EReal :=
  if h0 : j.val < 96 then w ⟨11360 + j.val, by omega⟩
  else if j.val < 128 then 0
  else if h2 : j.val < 224 then w ⟨11456 + (j.val - 128), by omega⟩
  else if j.val < 256 then 0
  else w ⟨11552 + (j.val - 256), by omega⟩

/-- A row's product with a column of the weight. -/
def proj (x : Fin 8192 → Fin 4096 → EReal) (w : Fin 4096 → Fin 11808 → EReal) (i : Fin 8192) (j : Fin 512) : EReal :=
  ∑ k, x i k * padded (w k) j

/-- What one step stores at an index of its block. -/
theorem pay_at (v0 : Vec Ideal S1024x4096 .bf16) (v1 : Vec Ideal S4096x512 .f32) (a : Fin 1024) (b : Fin 512) :
    @Eq EReal (k0_pay1 v0 v1 (ix2 a b)) (∑ x, v0 (ix2 a x) * v1 (ix2 x b) : EReal) := by
  pointwise [k0_pay1]

variable (m : (ℓ : Loc nD τ sig) → Buf (Elt Ideal) ℓ)

/-- The block that each window holds at a step. -/
theorem idx : ∀ t : Fin cfg0.N, win0_0.index t = ![t.val, 0] ∧ win0_1.index t = ![0, 0]
    ∧ win0_2.index t = ![t.val, 0] :=
  (by decide +kernel : ∀ t : Fin grid0.N, _)

variable (c : Dev nD)

abbrev xOf (i : Fin 8192) (k : Fin 4096) : EReal := m ((c : Thread nD τ).loc main_arg0) (ix2 i k)
abbrev wOf (k : Fin 4096) (j : Fin 11808) : EReal := m ((c : Thread nD τ).loc main_arg1) (ix3 0 k j)

/-- The weight that the launch finds is the argument's last columns, with zeros between the groups. -/
theorem V_w (k : Fin 4096) (j : Fin 512) : @Eq EReal (V m c main_v6 (ix2 k j)) (padded (wOf m c k) j) := by
  unfold V
  simp only [List.flatten_cons, List.flatten_nil, List.append_nil, List.cons_append, List.nil_append, hostOps0]
  repeat after_reads_at
  have hj := j.isLt
  have w_at : ∀ q q' : Fin 11808, q.val = q'.val → @Eq EReal (m (c, Proc.tc.devRef main_arg1) (ix3 0 k q)) (wOf m c k q') := by
    intro q q' h
    obtain rfl := Fin.ext h
    rfl
  unfold padded
  by_cases h0 : j.val < 96
  · simp only [dif_pos h0]
  by_cases h1 : j.val < 128
  · simp only [dif_neg h0, dif_pos (show j.val - 96 < 32 by omega), if_pos h1]
  by_cases h2 : j.val < 224
  · simp only [dif_neg h0, dif_neg (show ¬ j.val - 96 < 32 by omega), if_neg h1, dif_pos h2, dif_pos (show j.val - 96 - 32 < 96 by omega)]
    refine w_at _ _ ?_
    show 11456 + (j.val - 96 - 32) = 11456 + (j.val - 128)
    omega
  by_cases h3 : j.val < 256
  · simp only [dif_neg h0, dif_neg (show ¬ j.val - 96 < 32 by omega), if_neg h1, dif_neg h2, dif_neg (show ¬ j.val - 96 - 32 < 96 by omega), dif_pos (show j.val - 96 - 32 - 96 < 32 by omega), if_pos h3]
  · simp only [dif_neg h0, dif_neg (show ¬ j.val - 96 < 32 by omega), if_neg h1, dif_neg h2, dif_neg (show ¬ j.val - 96 - 32 < 96 by omega), dif_neg (show ¬ j.val - 96 - 32 - 96 < 32 by omega), if_neg h3]
    refine w_at _ _ ?_
    show 11552 + (j.val - 96 - 32 - 96 - 32) = 11552 + (j.val - 256)
    omega

/-- Every element of the kernel's result, in terms of the arguments. -/
theorem final_at (i : Fin 8192) (j : Fin 512) :
    @Eq EReal ((Gen.dats m 0 c).arrAt 2 cfg0.N (ix2 i j)) (proj (xOf m c) (wOf m c) i j) := by
  have hi := i.isLt
  have hj := j.isLt
  have hN : i.val / 1024 < cfg0.N := by rw [show cfg0.N = 8 from N_0]; omega
  obtain ⟨t, ht⟩ : ∃ t : Fin cfg0.N, t.val = i.val / 1024 := ⟨⟨_, hN⟩, rfl⟩
  have h := congrFun (Value.blocks2 m c t (flush0_2 t)) (ix2 (⟨i.val % 1024, by omega⟩ : Fin 1024) j)
  rw [Value.flushed2] at h
  refine Eq.trans ?_ (h.trans ?_)
  · blk_ext [idx t]
  · have e0 : ∀ k, @Eq EReal (iblk m c 0 t (ix2 (⟨i.val % 1024, by omega⟩ : Fin 1024) k)) (xOf m c i k) := by
      intro k
      unfold xOf
      rw [← V_main_arg0 m c]
      blk_ext [iblk, idx t]
    have e1 : ∀ k, @Eq EReal (iblk m c 1 t (ix2 k j)) (padded (wOf m c k) j) := by
      intro k
      rw [← V_w m c]
      blk_ext [iblk, idx t]
    show out0_2 (iblk m c 0 t) (iblk m c 1 t) (ix2 (⟨i.val % 1024, by omega⟩ : Fin 1024) j) = _
    frame_out
    refine (pay_at _ _ _ _).trans ?_
    simp only [e0, e1]
    rfl

/-- The reference's result at an index. -/
theorem ref_at (x : FVec Ideal Cert.RefLoraInIdeal.S8192x4096 .bf16) (w : FVec Ideal Cert.RefLoraInIdeal.S1x4096x11808 .f32)
    (z : FVec Ideal Cert.RefLoraInIdeal.S8192x11808 .f32) (hz : z = Host.dotGeneral (F := Ideal) Cert.RefLoraInIdeal.dot_S8192x4096_S4096x11808_S8192x11808_1_0_0_1_n_n none (extf .f32 x Cert.RefLoraInIdeal.Gen.bitsLt_bf16_f32) (shapeCast Cert.RefLoraInIdeal.S4096x11808 w Cert.RefLoraInIdeal.Gen.shapeCasts_S1x4096x11808_S4096x11808))
    (n : FVec Ideal Cert.RefLoraInIdeal.S8192x32 .f32) (hn : n = broadcastInDim Cert.RefLoraInIdeal.S8192x32 ![] Cert.RefLoraInIdeal.Gen.bcast_S_S8192x32 (constant (F := Ideal) Cert.RefLoraInIdeal.S_ .f32 0x00000000#32))
    (i : Fin 8192) (j : Fin 512) :
    @Eq EReal ((concatenate Cert.RefLoraInIdeal.S8192x512 1 [⟨Cert.RefLoraInIdeal.S8192x96, extractStridedSlice Cert.RefLoraInIdeal.S8192x96 ![0, 11360] z Cert.RefLoraInIdeal.Gen.slices_S8192x11808_S8192x96_0_11360⟩, ⟨Cert.RefLoraInIdeal.S8192x32, n⟩, ⟨Cert.RefLoraInIdeal.S8192x96, extractStridedSlice Cert.RefLoraInIdeal.S8192x96 ![0, 11456] z Cert.RefLoraInIdeal.Gen.slices_S8192x11808_S8192x96_0_11456⟩, ⟨Cert.RefLoraInIdeal.S8192x32, n⟩, ⟨Cert.RefLoraInIdeal.S8192x256, extractStridedSlice Cert.RefLoraInIdeal.S8192x256 ![0, 11552] z Cert.RefLoraInIdeal.Gen.slices_S8192x11808_S8192x256_0_11552⟩] Cert.RefLoraInIdeal.Gen.concatenates_S8192x96_S8192x32_S8192x96_S8192x32_S8192x256_S8192x512_d1) (ix2 i j)) (proj (fun i k => x (ix2 i k)) (fun k j => w (ix3 0 k j)) i j) := by
  have z_at : ∀ q : Fin 11808, @Eq EReal (z (ix2 i q)) (∑ k, x (ix2 i k) * w (ix3 0 k q)) := by
    intro q
    rw [hz]
    pointwise
  have n_at : ∀ q : Fin 32, @Eq EReal (n (ix2 i q)) 0 := by
    intro q
    rw [hn]
    pointwise
  have col : ∀ q q' : Fin 11808, q.val = q'.val → @Eq EReal (z (ix2 i q)) (∑ k, x (ix2 i k) * w (ix3 0 k q')) := by
    intro q q' h
    obtain rfl := Fin.ext h
    exact z_at q
  clear hz hn
  pointwise
  have hj := j.isLt
  unfold proj padded
  by_cases h0 : j.val < 96
  · simp only [dif_pos h0]
    exact col _ _ rfl
  by_cases h1 : j.val < 128
  · simp only [dif_neg h0, dif_pos (show j.val - 96 < 32 by omega), if_pos h1, mul_zero, Finset.sum_const_zero]
    exact n_at _
  by_cases h2 : j.val < 224
  · simp only [dif_neg h0, dif_neg (show ¬ j.val - 96 < 32 by omega), if_neg h1, dif_pos h2, dif_pos (show j.val - 96 - 32 < 96 by omega)]
    refine col _ _ ?_
    show 11456 + (j.val - 96 - 32) = 11456 + (j.val - 128)
    omega
  by_cases h3 : j.val < 256
  · simp only [dif_neg h0, dif_neg (show ¬ j.val - 96 < 32 by omega), if_neg h1, dif_neg h2, dif_neg (show ¬ j.val - 96 - 32 < 96 by omega), dif_pos (show j.val - 96 - 32 - 96 < 32 by omega), if_pos h3, mul_zero, Finset.sum_const_zero]
    exact n_at _
  · simp only [dif_neg h0, dif_neg (show ¬ j.val - 96 < 32 by omega), if_neg h1, dif_neg h2, dif_neg (show ¬ j.val - 96 - 32 < 96 by omega), dif_neg (show ¬ j.val - 96 - 32 - 96 < 32 by omega), if_neg h3]
    refine col _ _ ?_
    show 11552 + (j.val - 96 - 32 - 96 - 32) = 11552 + (j.val - 256)
    omega

/-- The reference ends, with its arguments unchanged and its counters at zero. -/
theorem frame_reference : Cert.quiescent_RefLoraInIdeal := fun m ρ _ =>
  (θ_run Cert.RefLoraInIdeal.defs _ _).mono (fun r h => ⟨fun c => (h c).2, sem_eq_zero_of_no_sems (by decide) r.2⟩)
    (Cert.RefLoraInIdeal.Value.run m ρ)

/-- Kernel and reference have the same result: both hold the product at every index. -/
theorem algebraic : Cert.algebraic_LoraInIdeal_RefLoraInIdeal := by
  intro m ρ m' ρ' _ hag
  refine ⟨_, Value.run_blocks m ρ, ?_⟩
  refine (θ_run _ _ _).mono (fun r h c => ⟨(h c).1.trans ?_, (h c).2⟩) (Cert.RefLoraInIdeal.Value.run m' ρ')
  funext x
  obtain ⟨i, j, rfl⟩ : ∃ (i : Fin 8192) (j : Fin 512), x = ix2 i j := ⟨x 0, x 1, ValueIdx.eq_ix2 x⟩
  refine Eq.trans ?_ (final_at m c i j).symm
  rw [(hag c).1, (hag c).2]
  exact ref_at _ _ _ rfl _ rfl i j

end LoraIn

end
-- ==== Proof.TailSteps.lean ====
/- The five launches from the second layer's output projection to the final norm: what each leaves in its result, from what it finds. -/
module

public import proofs.«01_k».proof.Defs
public import proofs.«01_k».proof.Proof.Gen.TailIdeal.Frame
public import proofs.«01_k».proof.Proof.OutProj
public import proofs.«01_k».proof.Proof.Norm
public import proofs.«01_k».proof.Proof.GateUp
public import proofs.«01_k».proof.Proof.Down
public import Idealize.ShloMosaic.Lib.Pipeline.ValueKit

@[expose] public section

set_option maxRecDepth 16384

noncomputable section

namespace Tail

open Cert.TailIdeal Cert.TailIdeal.Gen Idealize.ShloMosaic Idealize.ShloMosaic.TcCoe Idealize.SL.Sem

variable (V : (c : Dev nD) → (b : Ref sig .tc) → Buf (Elt Ideal) ((c : Thread nD τ).loc b)) (c : Dev nD)

/-- The block of region 0's result that a step writes back. -/
theorem flushed0 (t : Fin cfg0.N) : (dat0 V c).flushed 5 t = (cfg0.win 5).cut (grid0.coords t) (out0_5 (iblk0 V c 0 t) (iblk0 V c 1 t) (iblk0 V c 2 t) (iblk0 V c 3 t) (iblk0 V c 4 t)) := by
  show (cfg0.win 5).cut (grid0.coords t) ((dat0 V c).after 5 t) = _
  rw [after0_5]

/-- Distinct steps of region 0 write distinct blocks. -/
theorem inj0 : ∀ t t' : Fin cfg0.N, win0_5.index t = win0_5.index t' → t = t' :=
  (by decide +kernel : ∀ t t' : Fin grid0.N, win0_5.index t = win0_5.index t' → t = t')

/-- Region 0's result, read at a step's block, is what the step wrote back. -/
theorem blocks0 (t : Fin cfg0.N) :
    ((cfg0.win 5).blk t).view.read (Elt Ideal) ((dat0 V c).arrAt 5 cfg0.N) = (dat0 V c).flushed 5 t :=
  (dat0 V c).read_blk_arrAt_eq_flushed 5 (fun t t' _ _ hne => (cfg0.win 5).disjoint_blk fun h => hne (inj0 t t' h)) cfg0.N t t.isLt (flush0_5 t)

/-- What one step of the output projection stores. -/
theorem pay0_at (v0 v5 : Vec Ideal S1024x2048 .bf16) (v1 v6 : Vec Ideal S1x2048x512 .f32) (v10 : Vec Ideal S1024x512 .f32) (a : Fin 1024) (b : Fin 512) :
    @Eq EReal (k0_pay1 v0 v1 v5 v6 v10 (ix2 a b))
      (v10 (ix2 a b) + ((∑ x, v0 (ix2 a x) * v1 (ix3 0 x b) : EReal) + (∑ x, v5 (ix2 a x) * v6 (ix3 0 x b) : EReal)) : EReal) := by
  pointwise [k0_pay1]

/-- The block that each window of the output projection holds at a step. -/
theorem idx0 : ∀ t : Fin cfg0.N, win0_0.index t = ![t.val / 8, 0] ∧ win0_1.index t = ![t.val / 8, 0]
    ∧ win0_2.index t = ![0, 0, t.val % 8] ∧ win0_3.index t = ![0, 1, t.val % 8]
    ∧ win0_4.index t = ![t.val / 8, t.val % 8] ∧ win0_5.index t = ![t.val / 8, t.val % 8] :=
  (by decide +kernel : ∀ t : Fin grid0.N, _)

/-- The output projection leaves the residual plus the joined halves' product. -/
theorem out_at (i : Fin 8192) (j : Fin 4096) :
    @Eq EReal ((dat0 V c).arrAt 5 cfg0.N (ix2 i j))
      (OutProj.proj (fun i j => V c main_arg0 (ix2 i j)) (fun i k => V c main_arg1 (ix2 i k)) (fun i k => V c main_arg2 (ix2 i k))
        (fun k j => V c main_arg3 (ix3 0 k j)) i j) := by
  have hi := i.isLt
  have hj := j.isLt
  have hN : 8 * (i.val / 1024) + j.val / 512 < cfg0.N := by rw [show cfg0.N = 64 from N_0]; omega
  obtain ⟨t, ht⟩ : ∃ t : Fin cfg0.N, t.val = 8 * (i.val / 1024) + j.val / 512 := ⟨⟨_, hN⟩, rfl⟩
  have h := congrFun (blocks0 V c t) (ix2 (⟨i.val % 1024, by omega⟩ : Fin 1024) (⟨j.val % 512, by omega⟩ : Fin 512))
  rw [flushed0] at h
  refine Eq.trans ?_ (h.trans ?_)
  · blk_ext [idx0 t]
  · have e0 : ∀ k, @Eq EReal (iblk0 V c 0 t (ix2 (⟨i.val % 1024, by omega⟩ : Fin 1024) k)) (V c main_arg1 (ix2 i k)) := by
      intro k
      blk_ext [iblk0, idx0 t]
    have e1 : ∀ k, @Eq EReal (iblk0 V c 1 t (ix2 (⟨i.val % 1024, by omega⟩ : Fin 1024) k)) (V c main_arg2 (ix2 i k)) := by
      intro k
      blk_ext [iblk0, idx0 t]
    have e2 : ∀ k : Fin 2048, @Eq EReal (iblk0 V c 2 t (ix3 0 k (⟨j.val % 512, by omega⟩ : Fin 512))) (V c main_arg3 (ix3 0 (⟨k.val, by omega⟩ : Fin 4096) j)) := by
      intro k
      blk_ext [iblk0, idx0 t]
    have e3 : ∀ k : Fin 2048, @Eq EReal (iblk0 V c 3 t (ix3 0 k (⟨j.val % 512, by omega⟩ : Fin 512))) (V c main_arg3 (ix3 0 (⟨2048 + k.val, by omega⟩ : Fin 4096) j)) := by
      intro k
      blk_ext [iblk0, idx0 t]
    have e4 : @Eq EReal (iblk0 V c 4 t (ix2 (⟨i.val % 1024, by omega⟩ : Fin 1024) (⟨j.val % 512, by omega⟩ : Fin 512))) (V c main_arg0 (ix2 i j)) := by
      blk_ext [iblk0, idx0 t]
    show out0_5 _ _ _ _ _ (ix2 (⟨i.val % 1024, by omega⟩ : Fin 1024) (⟨j.val % 512, by omega⟩ : Fin 512)) = _
    frame_out
    refine (pay0_at _ _ _ _ _ _ _).trans ?_
    simp only [e0, e1, e2, e3, e4]
    rfl

/-- The block of region 1's result that a step writes back. -/
theorem flushed1 (t : Fin cfg1.N) : (dat1 V c).flushed 2 t = (cfg1.win 2).cut (grid1.coords t) (out1_2 (iblk1 V c 0 t) (iblk1 V c 1 t)) := by
  show (cfg1.win 2).cut (grid1.coords t) ((dat1 V c).after 2 t) = _
  rw [after1_2]

/-- Distinct steps of region 1 write distinct blocks. -/
theorem inj1 : ∀ t t' : Fin cfg1.N, win1_2.index t = win1_2.index t' → t = t' :=
  (by decide +kernel : ∀ t t' : Fin grid1.N, win1_2.index t = win1_2.index t' → t = t')

/-- Region 1's result, read at a step's block, is what the step wrote back. -/
theorem blocks1 (t : Fin cfg1.N) :
    ((cfg1.win 2).blk t).view.read (Elt Ideal) ((dat1 V c).arrAt 2 cfg1.N) = (dat1 V c).flushed 2 t :=
  (dat1 V c).read_blk_arrAt_eq_flushed 2 (fun t t' _ _ hne => (cfg1.win 2).disjoint_blk fun h => hne (inj1 t t' h)) cfg1.N t t.isLt (flush1_2 t)

/-- What one step of the norm before the feed-forward part stores. -/
theorem pay1_at (v0 : Vec Ideal S512x4096 .f32) (v12 : Vec Ideal S1x4096 .f32) (a : Fin 512) (b : Fin 4096) :
    @Eq EReal (k1_pay1 v0 v12 (ix2 a b))
      ((v0 (ix2 a b) * Ideal.rsqrt (Ideal.div (∑ k, v0 (ix2 a k) * v0 (ix2 a k) : EReal) (Ideal.ofBits .f32 0x45800000#32) + Ideal.ofBits .f32 0x358637BD#32) : EReal) * v12 (ix2 0 b)) := by
  pointwise [k1_pay1]

/-- The block that each window of the norm before the feed-forward part holds at a step. -/
theorem idx1 : ∀ t : Fin cfg1.N, win1_0.index t = ![t.val, 0] ∧ win1_1.index t = ![0, 0] ∧ win1_2.index t = ![t.val, 0] :=
  (by decide +kernel : ∀ t : Fin grid1.N, _)

/-- The norm before the feed-forward part leaves every row normed. -/
theorem norm_at (i : Fin 8192) (j : Fin 4096) :
    @Eq EReal ((dat1 V c).arrAt 2 cfg1.N (ix2 i j))
      (Norm.normed (fun i k => V c main_v0 (ix2 i k)) (fun j => V c main_v4 (ix2 0 j)) i j) := by
  have hi := i.isLt
  have hj := j.isLt
  have hN : i.val / 512 < cfg1.N := by rw [show cfg1.N = 16 from N_1]; omega
  obtain ⟨t, ht⟩ : ∃ t : Fin cfg1.N, t.val = i.val / 512 := ⟨⟨_, hN⟩, rfl⟩
  have h := congrFun (blocks1 V c t) (ix2 (⟨i.val % 512, by omega⟩ : Fin 512) j)
  rw [flushed1] at h
  refine Eq.trans ?_ (h.trans ?_)
  · blk_ext [idx1 t]
  · have e0 : ∀ k, @Eq EReal (iblk1 V c 0 t (ix2 (⟨i.val % 512, by omega⟩ : Fin 512) k)) (V c main_v0 (ix2 i k)) := by
      intro k
      blk_ext [iblk1, idx1 t]
    have e1 : @Eq EReal (iblk1 V c 1 t (ix2 0 j)) (V c main_v4 (ix2 0 j)) := by
      blk_ext [iblk1, idx1 t]
    show out1_2 _ _ (ix2 (⟨i.val % 512, by omega⟩ : Fin 512) j) = _
    frame_out
    refine (pay1_at _ _ _ _).trans ?_
    simp only [e0, e1]
    rfl

/-- The block of region 2's result that a step writes back. -/
theorem flushed2 (t : Fin cfg2.N) : (dat2 V c).flushed 3 t = (cfg2.win 3).cut (grid2.coords t) (out2_3 (iblk2 V c 0 t) (iblk2 V c 1 t) (iblk2 V c 2 t)) := by
  show (cfg2.win 3).cut (grid2.coords t) ((dat2 V c).after 3 t) = _
  rw [after2_3]

/-- Distinct steps of region 2 write distinct blocks. -/
theorem inj2 : ∀ t t' : Fin cfg2.N, win2_3.index t = win2_3.index t' → t = t' :=
  (by decide +kernel : ∀ t t' : Fin grid2.N, win2_3.index t = win2_3.index t' → t = t')

/-- Region 2's result, read at a step's block, is what the step wrote back. -/
theorem blocks2 (t : Fin cfg2.N) :
    ((cfg2.win 3).blk t).view.read (Elt Ideal) ((dat2 V c).arrAt 3 cfg2.N) = (dat2 V c).flushed 3 t :=
  (dat2 V c).read_blk_arrAt_eq_flushed 3 (fun t t' _ _ hne => (cfg2.win 3).disjoint_blk fun h => hne (inj2 t t' h)) cfg2.N t t.isLt (flush2_3 t)

/-- What one step of the gated up-projection stores. -/
theorem pay2_at (v0 v6 : Vec Ideal S2048x4096 .bf16) (v2 v8 : Vec Ideal S1x4096x256 .f32) (a : Fin 2048) (b : Fin 256) :
    @Eq EReal (k2_pay1 v0 v2 v6 v8 (ix2 a b))
      (((∑ x, v0 (ix2 a x) * v2 (ix3 0 x b) : EReal) * Ideal.div 1 (1 + Ideal.exp (-∑ x, v0 (ix2 a x) * v2 (ix3 0 x b) : EReal))) *
      (∑ x, v6 (ix2 a x) * v8 (ix3 0 x b) : EReal)) := by
  pointwise [k2_pay1]
  rw [zero_sub]

/-- The block that each window of the gated up-projection holds at a step. -/
theorem idx2 : ∀ t : Fin cfg2.N, win2_0.index t = ![t.val / 43, 0] ∧ win2_1.index t = ![1, 0, t.val % 43]
    ∧ win2_2.index t = ![1, 0, t.val % 43] ∧ win2_3.index t = ![t.val / 43, t.val % 43] :=
  (by decide +kernel : ∀ t : Fin grid2.N, _)

/-- The gated up-projection leaves the gated unit of every row and column. -/
theorem gate_at (i : Fin 8192) (j : Fin 11008) :
    @Eq EReal ((dat2 V c).arrAt 3 cfg2.N (ix2 i j))
      (GateUp.glued (fun i k => V c main_v5 (ix2 i k)) (fun k j => V c main_arg5 (ix3 1 k j)) (fun k j => V c main_arg6 (ix3 1 k j)) i j) := by
  have hi := i.isLt
  have hj := j.isLt
  have hN : 43 * (i.val / 2048) + j.val / 256 < cfg2.N := by rw [show cfg2.N = 172 from N_2]; omega
  obtain ⟨t, ht⟩ : ∃ t : Fin cfg2.N, t.val = 43 * (i.val / 2048) + j.val / 256 := ⟨⟨_, hN⟩, rfl⟩
  have h := congrFun (blocks2 V c t) (ix2 (⟨i.val % 2048, by omega⟩ : Fin 2048) (⟨j.val % 256, by omega⟩ : Fin 256))
  rw [flushed2] at h
  refine Eq.trans ?_ (h.trans ?_)
  · blk_ext [idx2 t]
  · have e0 : ∀ k, @Eq EReal (iblk2 V c 0 t (ix2 (⟨i.val % 2048, by omega⟩ : Fin 2048) k)) (V c main_v5 (ix2 i k)) := by
      intro k
      blk_ext [iblk2, idx2 t]
    have e1 : ∀ k, @Eq EReal (iblk2 V c 1 t (ix3 0 k (⟨j.val % 256, by omega⟩ : Fin 256))) (V c main_arg5 (ix3 1 k j)) := by
      intro k
      blk_ext [iblk2, idx2 t]
    have e2 : ∀ k, @Eq EReal (iblk2 V c 2 t (ix3 0 k (⟨j.val % 256, by omega⟩ : Fin 256))) (V c main_arg6 (ix3 1 k j)) := by
      intro k
      blk_ext [iblk2, idx2 t]
    show out2_3 _ _ _ (ix2 (⟨i.val % 2048, by omega⟩ : Fin 2048) (⟨j.val % 256, by omega⟩ : Fin 256)) = _
    frame_out
    refine (pay2_at _ _ _ _ _ _).trans ?_
    simp only [e0, e1, e2]
    rfl

/-- The block of region 3's result that a step writes back. -/
theorem flushed3 (t : Fin cfg3.N) : (dat3 V c).flushed 3 t = (cfg3.win 3).cut (grid3.coords t) (out3_3 (iblk3 V c 0 t) (iblk3 V c 1 t) (iblk3 V c 2 t)) := by
  show (cfg3.win 3).cut (grid3.coords t) ((dat3 V c).after 3 t) = _
  rw [after3_3]

/-- Distinct steps of region 3 write distinct blocks. -/
theorem inj3 : ∀ t t' : Fin cfg3.N, win3_3.index t = win3_3.index t' → t = t' :=
  (by decide +kernel : ∀ t t' : Fin grid3.N, win3_3.index t = win3_3.index t' → t = t')

/-- Region 3's result, read at a step's block, is what the step wrote back. -/
theorem blocks3 (t : Fin cfg3.N) :
    ((cfg3.win 3).blk t).view.read (Elt Ideal) ((dat3 V c).arrAt 3 cfg3.N) = (dat3 V c).flushed 3 t :=
  (dat3 V c).read_blk_arrAt_eq_flushed 3 (fun t t' _ _ hne => (cfg3.win 3).disjoint_blk fun h => hne (inj3 t t' h)) cfg3.N t t.isLt (flush3_3 t)

/-- What one step of the down-projection stores. -/
theorem pay3_at (v0 : Vec Ideal S512x11008 .bf16) (v2 : Vec Ideal S1x11008x512 .bf16) (v5 : Vec Ideal S512x512 .f32) (a b : Fin 512) :
    @Eq EReal (k3_pay1 v0 v2 v5 (ix2 a b)) (v5 (ix2 a b) + ∑ x, v0 (ix2 a x) * v2 (ix3 0 x b) : EReal) := by
  pointwise [k3_pay1]

/-- The block that each window of the down-projection holds at a step. -/
theorem idx3 : ∀ t : Fin cfg3.N, win3_0.index t = ![t.val / 8, 0] ∧ win3_1.index t = ![1, 0, t.val % 8]
    ∧ win3_2.index t = ![t.val / 8, t.val % 8] ∧ win3_3.index t = ![t.val / 8, t.val % 8] :=
  (by decide +kernel : ∀ t : Fin grid3.N, _)

/-- The down-projection leaves the residual plus the product. -/
theorem down_at (i : Fin 8192) (j : Fin 4096) :
    @Eq EReal ((dat3 V c).arrAt 3 cfg3.N (ix2 i j))
      (Down.proj (fun i k => V c main_v6 (ix2 i k)) (fun k j => V c main_v3 (ix3 1 k j)) (fun i j => V c main_v0 (ix2 i j)) i j) := by
  have hi := i.isLt
  have hj := j.isLt
  have hN : 8 * (i.val / 512) + j.val / 512 < cfg3.N := by rw [show cfg3.N = 128 from N_3]; omega
  obtain ⟨t, ht⟩ : ∃ t : Fin cfg3.N, t.val = 8 * (i.val / 512) + j.val / 512 := ⟨⟨_, hN⟩, rfl⟩
  have h := congrFun (blocks3 V c t) (ix2 (⟨i.val % 512, by omega⟩ : Fin 512) (⟨j.val % 512, by omega⟩ : Fin 512))
  rw [flushed3] at h
  refine Eq.trans ?_ (h.trans ?_)
  · blk_ext [idx3 t]
  · have e0 : ∀ k, @Eq EReal (iblk3 V c 0 t (ix2 (⟨i.val % 512, by omega⟩ : Fin 512) k)) (V c main_v6 (ix2 i k)) := by
      intro k
      blk_ext [iblk3, idx3 t]
    have e1 : ∀ k, @Eq EReal (iblk3 V c 1 t (ix3 0 k (⟨j.val % 512, by omega⟩ : Fin 512))) (V c main_v3 (ix3 1 k j)) := by
      intro k
      blk_ext [iblk3, idx3 t]
    have e2 : @Eq EReal (iblk3 V c 2 t (ix2 (⟨i.val % 512, by omega⟩ : Fin 512) (⟨j.val % 512, by omega⟩ : Fin 512))) (V c main_v0 (ix2 i j)) := by
      blk_ext [iblk3, idx3 t]
    show out3_3 _ _ _ (ix2 (⟨i.val % 512, by omega⟩ : Fin 512) (⟨j.val % 512, by omega⟩ : Fin 512)) = _
    frame_out
    refine (pay3_at _ _ _ _ _).trans ?_
    simp only [e0, e1, e2]
    rfl

/-- The block of region 4's result that a step writes back. -/
theorem flushed4 (t : Fin cfg4.N) : (dat4 V c).flushed 2 t = (cfg4.win 2).cut (grid4.coords t) (out4_2 (iblk4 V c 0 t) (iblk4 V c 1 t)) := by
  show (cfg4.win 2).cut (grid4.coords t) ((dat4 V c).after 2 t) = _
  rw [after4_2]

/-- Distinct steps of region 4 write distinct blocks. -/
theorem inj4 : ∀ t t' : Fin cfg4.N, win4_2.index t = win4_2.index t' → t = t' :=
  (by decide +kernel : ∀ t t' : Fin grid4.N, win4_2.index t = win4_2.index t' → t = t')

/-- Region 4's result, read at a step's block, is what the step wrote back. -/
theorem blocks4 (t : Fin cfg4.N) :
    ((cfg4.win 2).blk t).view.read (Elt Ideal) ((dat4 V c).arrAt 2 cfg4.N) = (dat4 V c).flushed 2 t :=
  (dat4 V c).read_blk_arrAt_eq_flushed 2 (fun t t' _ _ hne => (cfg4.win 2).disjoint_blk fun h => hne (inj4 t t' h)) cfg4.N t t.isLt (flush4_2 t)

/-- What one step of the final norm stores. -/
theorem pay4_at (v0 : Vec Ideal S512x4096 .f32) (v12 : Vec Ideal S1x4096 .f32) (a : Fin 512) (b : Fin 4096) :
    @Eq EReal (k4_pay1 v0 v12 (ix2 a b))
      ((v0 (ix2 a b) * Ideal.rsqrt (Ideal.div (∑ k, v0 (ix2 a k) * v0 (ix2 a k) : EReal) (Ideal.ofBits .f32 0x45800000#32) + Ideal.ofBits .f32 0x358637BD#32) : EReal) * v12 (ix2 0 b)) := by
  pointwise [k4_pay1]

/-- The block that each window of the final norm holds at a step. -/
theorem idx4 : ∀ t : Fin cfg4.N, win4_0.index t = ![t.val, 0] ∧ win4_1.index t = ![0, 0] ∧ win4_2.index t = ![t.val, 0] :=
  (by decide +kernel : ∀ t : Fin grid4.N, _)

/-- The final norm leaves every row normed. -/
theorem last_at (i : Fin 8192) (j : Fin 4096) :
    @Eq EReal ((dat4 V c).arrAt 2 cfg4.N (ix2 i j))
      (Norm.normed (fun i k => V c main_v7 (ix2 i k)) (fun j => V c main_v8 (ix2 0 j)) i j) := by
  have hi := i.isLt
  have hj := j.isLt
  have hN : i.val / 512 < cfg4.N := by rw [show cfg4.N = 16 from N_4]; omega
  obtain ⟨t, ht⟩ : ∃ t : Fin cfg4.N, t.val = i.val / 512 := ⟨⟨_, hN⟩, rfl⟩
  have h := congrFun (blocks4 V c t) (ix2 (⟨i.val % 512, by omega⟩ : Fin 512) j)
  rw [flushed4] at h
  refine Eq.trans ?_ (h.trans ?_)
  · blk_ext [idx4 t]
  · have e0 : ∀ k, @Eq EReal (iblk4 V c 0 t (ix2 (⟨i.val % 512, by omega⟩ : Fin 512) k)) (V c main_v7 (ix2 i k)) := by
      intro k
      blk_ext [iblk4, idx4 t]
    have e1 : @Eq EReal (iblk4 V c 1 t (ix2 0 j)) (V c main_v8 (ix2 0 j)) := by
      blk_ext [iblk4, idx4 t]
    show out4_2 _ _ (ix2 (⟨i.val % 512, by omega⟩ : Fin 512) j) = _
    frame_out
    refine (pay4_at _ _ _ _).trans ?_
    simp only [e0, e1]
    rfl

end Tail

end
-- ==== Proof.TailRun.lean ====
/- The five launches in a row: the run names the result, and the result is read back to the arguments. -/
module

public import proofs.«01_k».proof.Proof.TailSteps
public import Idealize.ShloMosaic.Lib.StableHlo.ReadAt

@[expose] public section

set_option maxRecDepth 16384

noncomputable section

namespace Tail

open Cert.TailIdeal Cert.TailIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The program ends with its result at what the last launch leaves and its arguments unchanged. -/
theorem run : θ_run defs (onTc (τ := τ) (main (F := Ideal))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Tail

end
-- ==== Proof.TailValue.lean ====
/- The five launches in a row: what the last one leaves, read back launch by launch to the arguments. -/
module

public import proofs.«01_k».proof.Proof.TailSteps
public import Idealize.ShloMosaic.Lib.StableHlo.ReadAt

@[expose] public section

set_option maxRecDepth 16384

noncomputable section

namespace Tail

open Cert.TailIdeal Cert.TailIdeal.Gen Idealize.ShloMosaic Idealize.ShloMosaic.TcCoe Idealize.SL.Sem

/-- The result as a function of the arguments: projection, norm, gated unit, projection back, final norm. -/
def whole (h : Fin 8192 → Fin 4096 → EReal) (x y : Fin 8192 → Fin 2048 → EReal) (wo : Fin 4096 → Fin 4096 → EReal)
    (g : Fin 4096 → EReal) (wg wu : Fin 4096 → Fin 11008 → EReal) (wd : Fin 11008 → Fin 4096 → EReal) (gf : Fin 4096 → EReal) :
    Fin 8192 → Fin 4096 → EReal :=
  Norm.normed (Down.proj (GateUp.glued (Norm.normed (OutProj.proj h x y wo) g) wg wu) wd (OutProj.proj h x y wo)) gf

variable (m : (ℓ : Loc nD τ sig) → Buf (Elt Ideal) ℓ) (ρ : Dev nD → PrngReg) (c : Dev nD)

abbrev hOf (i : Fin 8192) (j : Fin 4096) : EReal := m ((c : Thread nD τ).loc main_arg0) (ix2 i j)
abbrev xOf (i : Fin 8192) (k : Fin 2048) : EReal := m ((c : Thread nD τ).loc main_arg1) (ix2 i k)
abbrev yOf (i : Fin 8192) (k : Fin 2048) : EReal := m ((c : Thread nD τ).loc main_arg2) (ix2 i k)
abbrev woOf (k : Fin 4096) (j : Fin 4096) : EReal := m ((c : Thread nD τ).loc main_arg3) (ix3 0 k j)
abbrev gOf (j : Fin 4096) : EReal := m ((c : Thread nD τ).loc main_arg4) (ix2 1 j)
abbrev gateOf (k : Fin 4096) (j : Fin 11008) : EReal := m ((c : Thread nD τ).loc main_arg5) (ix3 1 k j)
abbrev upOf (k : Fin 4096) (j : Fin 11008) : EReal := m ((c : Thread nD τ).loc main_arg6) (ix3 1 k j)
abbrev downOf (k : Fin 11008) (j : Fin 4096) : EReal := m ((c : Thread nD τ).loc main_arg7) (ix3 1 k j)
abbrev gfOf (j : Fin 4096) : EReal := m ((c : Thread nD τ).loc main_arg8) (ix1 j)

abbrev h1 : Fin 8192 → Fin 4096 → EReal := OutProj.proj (hOf m c) (xOf m c) (yOf m c) (woOf m c)
abbrev n1 : Fin 8192 → Fin 4096 → EReal := Norm.normed (h1 m c) (gOf m c)
abbrev a1 : Fin 8192 → Fin 11008 → EReal := GateUp.glued (n1 m c) (gateOf m c) (upOf m c)
abbrev h2 : Fin 8192 → Fin 4096 → EReal := Down.proj (a1 m c) (downOf m c) (h1 m c)

/-- After the output projection. -/
theorem v1_v0 (i : Fin 8192) (j : Fin 4096) : @Eq EReal (V1 m ρ c main_v0 (ix2 i j)) (h1 m c i j) :=
  (congrFun (W1_arr m ρ c 5) (ix2 i j)).trans (out_at (V0 m ρ) c i j)

/-- The host leaves the residual stream as it is. -/
theorem v2_v0 (i : Fin 8192) (j : Fin 4096) : @Eq EReal (V2 m ρ c main_v0 (ix2 i j)) (h1 m c i j) :=
  (congrFun (W2_of m ρ c main_v0 (by decide)) (ix2 i j)).trans (v1_v0 m ρ c i j)

/-- The gain that the second launch finds is the second row of the gains. -/
theorem v2_v4 (j : Fin 4096) : @Eq EReal (V2 m ρ c main_v4 (ix2 0 j)) (gOf m c j) := by
  refine Eq.trans ?_ (congrFun (W1_args m ρ c main_arg4 (by decide)) (ix2 1 j))
  show @Eq EReal (StableHlo.after hostOps1 (W1 m ρ c) (Proc.devRef .tc main_v4) (ix2 0 j)) _
  simp only [List.flatten_cons, List.flatten_nil, List.append_nil, List.cons_append, List.nil_append, hostOps1]
  repeat after_reads_at

/-- The weight of the way back is the argument: the host only changes its format. -/
theorem v2_v3 (k : Fin 11008) (j : Fin 4096) : @Eq EReal (V2 m ρ c main_v3 (ix3 1 k j)) (downOf m c k j) := by
  refine Eq.trans ?_ (congrFun (W1_args m ρ c main_arg7 (by decide)) (ix3 1 k j))
  show @Eq EReal (StableHlo.after hostOps1 (W1 m ρ c) (Proc.devRef .tc main_v3) (ix3 1 k j)) _
  simp only [List.flatten_cons, List.flatten_nil, List.append_nil, List.cons_append, List.nil_append, hostOps1]
  repeat after_reads_at

/-- After the norm. -/
theorem v3_v5 (i : Fin 8192) (j : Fin 4096) : @Eq EReal (V3 m ρ c main_v5 (ix2 i j)) (n1 m c i j) := by
  refine (congrFun (W3_arr m ρ c 2) (ix2 i j)).trans ((norm_at (V2 m ρ) c i j).trans ?_)
  have e0 : @Eq (Fin 8192 → Fin 4096 → EReal) (fun i k => V2 m ρ c main_v0 (ix2 i k)) (h1 m c) := funext fun i => funext fun k => v2_v0 m ρ c i k
  have e1 : @Eq (Fin 4096 → EReal) (fun j => V2 m ρ c main_v4 (ix2 0 j)) (gOf m c) := funext fun j => v2_v4 m ρ c j
  exact congrFun (congrFun (congr (congrArg Norm.normed e0) e1) i) j

theorem v3_v0 (i : Fin 8192) (j : Fin 4096) : @Eq EReal (V3 m ρ c main_v0 (ix2 i j)) (h1 m c i j) :=
  (congrFun (W3_of m ρ c main_v0 (by decide)) (ix2 i j)).trans (v2_v0 m ρ c i j)

theorem v3_v3 (k : Fin 11008) (j : Fin 4096) : @Eq EReal (V3 m ρ c main_v3 (ix3 1 k j)) (downOf m c k j) :=
  (congrFun (W3_of m ρ c main_v3 (by decide)) (ix3 1 k j)).trans (v2_v3 m ρ c k j)

/-- After the gated up-projection. -/
theorem v4_v6 (i : Fin 8192) (j : Fin 11008) : @Eq EReal (V4 m ρ c main_v6 (ix2 i j)) (a1 m c i j) := by
  refine (congrFun (W4_arr m ρ c 3) (ix2 i j)).trans ((gate_at (V3 m ρ) c i j).trans ?_)
  have e0 : @Eq (Fin 8192 → Fin 4096 → EReal) (fun i k => V3 m ρ c main_v5 (ix2 i k)) (n1 m c) := funext fun i => funext fun k => v3_v5 m ρ c i k
  have e1 : @Eq (Fin 4096 → Fin 11008 → EReal) (fun k j => V3 m ρ c main_arg5 (ix3 1 k j)) (gateOf m c) :=
    funext fun k => funext fun j => congrFun (W3_args m ρ c main_arg5 (by decide)) (ix3 1 k j)
  have e2 : @Eq (Fin 4096 → Fin 11008 → EReal) (fun k j => V3 m ρ c main_arg6 (ix3 1 k j)) (upOf m c) :=
    funext fun k => funext fun j => congrFun (W3_args m ρ c main_arg6 (by decide)) (ix3 1 k j)
  exact congrFun (congrFun (congr (congr (congrArg GateUp.glued e0) e1) e2) i) j

theorem v4_v0 (i : Fin 8192) (j : Fin 4096) : @Eq EReal (V4 m ρ c main_v0 (ix2 i j)) (h1 m c i j) :=
  (congrFun (W4_of m ρ c main_v0 (by decide)) (ix2 i j)).trans (v3_v0 m ρ c i j)

theorem v4_v3 (k : Fin 11008) (j : Fin 4096) : @Eq EReal (V4 m ρ c main_v3 (ix3 1 k j)) (downOf m c k j) :=
  (congrFun (W4_of m ρ c main_v3 (by decide)) (ix3 1 k j)).trans (v3_v3 m ρ c k j)

/-- After the down-projection. -/
theorem v5_v7 (i : Fin 8192) (j : Fin 4096) : @Eq EReal (V5 m ρ c main_v7 (ix2 i j)) (h2 m c i j) := by
  refine (congrFun (W5_arr m ρ c 3) (ix2 i j)).trans ((down_at (V4 m ρ) c i j).trans ?_)
  have e0 : @Eq (Fin 8192 → Fin 11008 → EReal) (fun i k => V4 m ρ c main_v6 (ix2 i k)) (a1 m c) := funext fun i => funext fun k => v4_v6 m ρ c i k
  have e1 : @Eq (Fin 11008 → Fin 4096 → EReal) (fun k j => V4 m ρ c main_v3 (ix3 1 k j)) (downOf m c) := funext fun k => funext fun j => v4_v3 m ρ c k j
  have e2 : @Eq (Fin 8192 → Fin 4096 → EReal) (fun i j => V4 m ρ c main_v0 (ix2 i j)) (h1 m c) := funext fun i => funext fun j => v4_v0 m ρ c i j
  exact congrFun (congrFun (congr (congr (congrArg Down.proj e0) e1) e2) i) j

theorem v6_v7 (i : Fin 8192) (j : Fin 4096) : @Eq EReal (V6 m ρ c main_v7 (ix2 i j)) (h2 m c i j) :=
  (congrFun (W6_of m ρ c main_v7 (by decide)) (ix2 i j)).trans (v5_v7 m ρ c i j)

/-- The final gain that the last launch finds is the argument, laid out as a row. -/
theorem v6_v8 (j : Fin 4096) : @Eq EReal (V6 m ρ c main_v8 (ix2 0 j)) (gfOf m c j) := by
  refine Eq.trans ?_ (congrFun (W5_args m ρ c main_arg8 (by decide)) (ix1 j))
  show @Eq EReal (StableHlo.after hostOps4 (W5 m ρ c) (Proc.devRef .tc main_v8) (ix2 0 j)) _
  simp only [List.flatten_cons, List.flatten_nil, List.append_nil, List.cons_append, List.nil_append, hostOps4]
  repeat after_reads_at

/-- Every element of the program's result, in terms of the arguments. -/
theorem final_at (i : Fin 8192) (j : Fin 4096) :
    @Eq EReal (W7 m ρ c (Proc.devRef .tc main_v9) (ix2 i j))
      (whole (hOf m c) (xOf m c) (yOf m c) (woOf m c) (gOf m c) (gateOf m c) (upOf m c) (downOf m c) (gfOf m c) i j) := by
  refine (congrFun (W7_arr m ρ c 2) (ix2 i j)).trans ((last_at (V6 m ρ) c i j).trans ?_)
  have e0 : @Eq (Fin 8192 → Fin 4096 → EReal) (fun i k => V6 m ρ c main_v7 (ix2 i k)) (h2 m c) := funext fun i => funext fun k => v6_v7 m ρ c i k
  have e1 : @Eq (Fin 4096 → EReal) (fun j => V6 m ρ c main_v8 (ix2 0 j)) (gfOf m c) := funext fun j => v6_v8 m ρ c j
  exact congrFun (congrFun (congr (congrArg Norm.normed e0) e1) i) j

end Tail

end
-- ==== Proof.Tail.lean ====
/- The five launches in a row against the reference's lines: both hold the same function of the arguments. -/
module

public import proofs.«01_k».proof.Proof.TailRun
public import proofs.«01_k».proof.Proof.TailValue
public import proofs.«01_k».proof.Proof.Gen.RefTailIdeal.Run
public import Idealize.ShloMosaic.Lib.Quiescent

@[expose] public section

set_option maxRecDepth 16384

noncomputable section

/-! ## The reference's steps, each at any operands -/

namespace Tail.Ref

open Cert.RefTailIdeal Cert.RefTailIdeal.Gen Idealize.ShloMosaic Idealize.ShloMosaic.TcCoe Idealize.SL.Sem

/-- The output projection's lines. -/
def out (h : FVec Ideal S8192x4096 .f32) (x y : FVec Ideal S8192x2048 .bf16) (w : FVec Ideal S1x4096x4096 .f32) : FVec Ideal S8192x4096 .f32 :=
  addf h (Host.dotGeneral (F := Ideal) dot_S8192x4096_S4096x4096_S8192x4096_1_0_0_1_n_n none (concatenate S8192x4096 1 [⟨S8192x2048, (extf .f32 x bitsLt_bf16_f32)⟩, ⟨S8192x2048, (extf .f32 y bitsLt_bf16_f32)⟩] concatenates_S8192x2048_S8192x2048_S8192x4096_d1) (shapeCast S4096x4096 w shapeCasts_S1x4096x4096_S4096x4096))

/-- The norm's lines. -/
def norm (h : FVec Ideal S8192x4096 .f32) (g : FVec Ideal S4096 .f32) : FVec Ideal S8192x4096 .f32 :=
  mulf (mulf h (broadcastInDim S8192x4096 ![0, 1] bcast_S8192x1_S8192x4096_0_1 (Host.rsqrt (addf (Host.divf (broadcastInDim S8192x1 ![0] bcast_S8192_S8192x1_0 (Host.reduceAdd (mulf h h) (constant (F := Ideal) S_ .f32 0x00000000#32) reducesTo_S8192x4096_S8192_d1 h_S_)) (broadcastInDim S8192x1 ![] bcast_S_S8192x1 (constant (F := Ideal) S_ .f32 0x45800000#32))) (broadcastInDim S8192x1 ![] bcast_S_S8192x1 (constant (F := Ideal) S_ .f32 0x358637BD#32)))))) (broadcastInDim S8192x4096 ![0, 1] bcast_S1x4096_S8192x4096_0_1 (broadcastInDim S1x4096 ![1] bcast_S4096_S1x4096_1 g))

/-- The second row of the gains. -/
def row (g : FVec Ideal S2x4096 .f32) : FVec Ideal S4096 .f32 :=
  shapeCast S4096 (extractStridedSlice S1x4096 ![1, 0] g slices_S2x4096_S1x4096_1_0) shapeCasts_S1x4096_S4096

/-- The product with the second layer's weight. -/
def prod (x : FVec Ideal S8192x4096 .f32) (w : FVec Ideal S2x4096x11008 .f32) : FVec Ideal S8192x11008 .f32 :=
  Host.dotGeneral (F := Ideal) dot_S8192x4096_S4096x11008_S8192x11008_1_0_0_1_n_n none x (shapeCast S4096x11008 (extractStridedSlice S1x4096x11008 ![1, 0, 0] w slices_S2x4096x11008_S1x4096x11008_1_0_0) shapeCasts_S1x4096x11008_S4096x11008)

/-- The gated unit's lines. -/
def gate (x : FVec Ideal S8192x4096 .f32) (wg wu : FVec Ideal S2x4096x11008 .f32) : FVec Ideal S8192x11008 .f32 :=
  mulf (mulf (prod x wg) (Host.divf (broadcastInDim S8192x11008 ![] bcast_S_S8192x11008 (constant (F := Ideal) S_ .f32 0x3F800000#32)) (addf (broadcastInDim S8192x11008 ![] bcast_S_S8192x11008 (constant (F := Ideal) S_ .f32 0x3F800000#32)) (Host.exp (Host.negf (prod x wg)))))) (prod x wu)

/-- The down-projection's lines. -/
def down (h : FVec Ideal S8192x4096 .f32) (a : FVec Ideal S8192x11008 .f32) (w : FVec Ideal S2x11008x4096 .f32) : FVec Ideal S8192x4096 .f32 :=
  addf h (Host.dotGeneral (F := Ideal) dot_S8192x11008_S11008x4096_S8192x4096_1_0_0_1_n_n none a (shapeCast S11008x4096 (extractStridedSlice S1x11008x4096 ![1, 0, 0] w slices_S2x11008x4096_S1x11008x4096_1_0_0) shapeCasts_S1x11008x4096_S11008x4096))

theorem out_at (h : FVec Ideal S8192x4096 .f32) (x y : FVec Ideal S8192x2048 .bf16) (w : FVec Ideal S1x4096x4096 .f32) (i : Fin 8192) (j : Fin 4096) :
    @Eq EReal (out h x y w (ix2 i j)) (OutProj.proj (fun i j => h (ix2 i j)) (fun i k => x (ix2 i k)) (fun i k => y (ix2 i k)) (fun k j => w (ix3 0 k j)) i j) := by
  pointwise [out]
  rfl

theorem norm_at (h : FVec Ideal S8192x4096 .f32) (g : FVec Ideal S4096 .f32) (i : Fin 8192) (j : Fin 4096) :
    @Eq EReal (norm h g (ix2 i j)) (Norm.normed (fun i k => h (ix2 i k)) (fun j => g (ix1 j)) i j) := by
  pointwise [norm]
  rfl

theorem row_at (g : FVec Ideal S2x4096 .f32) (j : Fin 4096) : @Eq EReal (row g (ix1 j)) (g (ix2 1 j)) := by
  pointwise [row]

theorem prod_at (x : FVec Ideal S8192x4096 .f32) (w : FVec Ideal S2x4096x11008 .f32) (i : Fin 8192) (j : Fin 11008) :
    @Eq EReal (prod x w (ix2 i j)) (∑ k, x (ix2 i k) * w (ix3 1 k j)) := by
  pointwise [prod]

theorem gate_at (x : FVec Ideal S8192x4096 .f32) (wg wu : FVec Ideal S2x4096x11008 .f32) (i : Fin 8192) (j : Fin 11008) :
    @Eq EReal (gate x wg wu (ix2 i j)) (GateUp.glued (fun i k => x (ix2 i k)) (fun k j => wg (ix3 1 k j)) (fun k j => wu (ix3 1 k j)) i j) := by
  have eg := prod_at x wg i j
  have eu := prod_at x wu i j
  unfold gate
  generalize prod x wg = pg at eg ⊢
  generalize prod x wu = pu at eu ⊢
  pointwise
  rw [eg, eu]
  rfl

theorem down_at (h : FVec Ideal S8192x4096 .f32) (a : FVec Ideal S8192x11008 .f32) (w : FVec Ideal S2x11008x4096 .f32) (i : Fin 8192) (j : Fin 4096) :
    @Eq EReal (down h a w (ix2 i j)) (Down.proj (fun i k => a (ix2 i k)) (fun k j => w (ix3 1 k j)) (fun i j => h (ix2 i j)) i j) := by
  pointwise [down]
  rfl

/-- The reference's lines, one after the other. -/
def all (h : FVec Ideal S8192x4096 .f32) (x y : FVec Ideal S8192x2048 .bf16) (wo : FVec Ideal S1x4096x4096 .f32) (g : FVec Ideal S2x4096 .f32)
    (wg wu : FVec Ideal S2x4096x11008 .f32) (wd : FVec Ideal S2x11008x4096 .f32) (gf : FVec Ideal S4096 .f32) : FVec Ideal S8192x4096 .f32 :=
  norm (down (out h x y wo) (gate (norm (out h x y wo) (row g)) wg wu) wd) gf

theorem all_at (h : FVec Ideal S8192x4096 .f32) (x y : FVec Ideal S8192x2048 .bf16) (wo : FVec Ideal S1x4096x4096 .f32) (g : FVec Ideal S2x4096 .f32)
    (wg wu : FVec Ideal S2x4096x11008 .f32) (wd : FVec Ideal S2x11008x4096 .f32) (gf : FVec Ideal S4096 .f32) (i : Fin 8192) (j : Fin 4096) :
    @Eq EReal (all h x y wo g wg wu wd gf (ix2 i j))
      (whole (fun i j => h (ix2 i j)) (fun i k => x (ix2 i k)) (fun i k => y (ix2 i k)) (fun k j => wo (ix3 0 k j)) (fun j => g (ix2 1 j))
        (fun k j => wg (ix3 1 k j)) (fun k j => wu (ix3 1 k j)) (fun k j => wd (ix3 1 k j)) (fun j => gf (ix1 j)) i j) := by
  have e1 : @Eq (Fin 8192 → Fin 4096 → EReal) (fun i j => out h x y wo (ix2 i j)) _ := funext fun i => funext fun j => out_at h x y wo i j
  have e2 : @Eq (Fin 4096 → EReal) (fun j => row g (ix1 j)) _ := funext fun j => row_at g j
  unfold all whole
  generalize out h x y wo = r1 at e1 ⊢
  generalize row g = r2 at e2 ⊢
  have e3 : @Eq (Fin 8192 → Fin 4096 → EReal) (fun i j => norm r1 r2 (ix2 i j)) _ := funext fun i => funext fun j =>
    (norm_at r1 r2 i j).trans (congrFun (congrFun (congr (congrArg Norm.normed e1) e2) i) j)
  generalize norm r1 r2 = r3 at e3 ⊢
  have e4 : @Eq (Fin 8192 → Fin 11008 → EReal) (fun i j => gate r3 wg wu (ix2 i j)) _ := funext fun i => funext fun j =>
    (gate_at r3 wg wu i j).trans (congrFun (congrFun (congrFun (congrFun (congrArg GateUp.glued e3) _) _) i) j)
  generalize gate r3 wg wu = r4 at e4 ⊢
  have e5 : @Eq (Fin 8192 → Fin 4096 → EReal) (fun i j => down r1 r4 wd (ix2 i j)) _ := funext fun i => funext fun j =>
    (down_at r1 r4 wd i j).trans (congrFun (congrFun (congr (congrFun (congrArg Down.proj e4) _) e1) i) j)
  generalize down r1 r4 wd = r5 at e5 ⊢
  exact (norm_at r5 gf i j).trans (congrFun (congrFun (congrFun (congrArg Norm.normed e5) _) i) j)

set_option maxHeartbeats 1000000 in
/-- The reference's result is its lines, one after the other. -/
theorem res_eq (m : (ℓ : Loc nD τ sig) → Buf (Elt Ideal) ℓ) (c : Dev nD) :
    Cert.RefTailIdeal.Value.res_out0 m c
      = all (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Cert.RefTailIdeal.Value.res_out0 Cert.RefTailIdeal.Value.res_main_v45 all norm gate down prod row out
  rfl

end Tail.Ref

namespace Tail

open Cert.TailIdeal Cert.TailIdeal.Gen Idealize.ShloMosaic Idealize.ShloMosaic.TcCoe Idealize.SL.Sem

/-- The reference ends, with its arguments unchanged and its counters at zero. -/
theorem frame_reference : Cert.quiescent_RefTailIdeal := fun m ρ _ =>
  (θ_run Cert.RefTailIdeal.defs _ _).mono (fun r h => ⟨fun c => (h c).2, sem_eq_zero_of_no_sems (by decide) r.2⟩)
    (Cert.RefTailIdeal.Value.run m ρ)

/-- Kernel and reference have the same result: both hold the same function of the arguments at every index. -/
theorem algebraic : Cert.algebraic_TailIdeal_RefTailIdeal := by
  intro m ρ m' ρ' _ hag
  refine ⟨_, run m ρ, ?_⟩
  refine (θ_run _ _ _).mono (fun r h c => ⟨(h c).1.trans ?_, (h c).2⟩) (Cert.RefTailIdeal.Value.run m' ρ')
  refine (Ref.res_eq m' c).trans ?_
  funext x
  obtain ⟨i, j, rfl⟩ : ∃ (i : Fin 8192) (j : Fin 4096), x = ix2 i j := ⟨x 0, x 1, ValueIdx.eq_ix2 x⟩
  refine Eq.trans ?_ (final_at m ρ c i j).symm
  obtain ⟨h0, h1, h2, h3, h4, h5, h6, h7, h8⟩ := hag c
  rw [h0, h1, h2, h3, h4, h5, h6, h7, h8]
  exact Ref.all_at _ _ _ _ _ _ _ _ _ i j

end Tail

end
-- ==== Proof.MidSteps.lean ====
/- The six launches from the first layer's output projection to the second layer's input projection: what each leaves in its result, from
   what it finds. -/
module

public import proofs.«01_k».proof.Defs
public import proofs.«01_k».proof.Proof.Gen.MidIdeal.Frame
public import proofs.«01_k».proof.Proof.OutProj
public import proofs.«01_k».proof.Proof.Norm
public import proofs.«01_k».proof.Proof.GateUp
public import proofs.«01_k».proof.Proof.Down
public import proofs.«01_k».proof.Proof.OddIn
public import Idealize.ShloMosaic.Lib.Pipeline.ValueKit

@[expose] public section

set_option maxRecDepth 16384

noncomputable section

namespace Mid

open Cert.MidIdeal Cert.MidIdeal.Gen Idealize.ShloMosaic Idealize.ShloMosaic.TcCoe Idealize.SL.Sem

variable (V : (c : Dev nD) → (b : Ref sig .tc) → Buf (Elt Ideal) ((c : Thread nD τ).loc b)) (c : Dev nD)

/-- The block of region 0's result that a step writes back. -/
theorem flushed0 (t : Fin cfg0.N) : (dat0 V c).flushed 5 t = (cfg0.win 5).cut (grid0.coords t) (out0_5 (iblk0 V c 0 t) (iblk0 V c 1 t) (iblk0 V c 2 t) (iblk0 V c 3 t) (iblk0 V c 4 t)) := by
  show (cfg0.win 5).cut (grid0.coords t) ((dat0 V c).after 5 t) = _
  rw [after0_5]

/-- Distinct steps of region 0 write distinct blocks. -/
theorem inj0 : ∀ t t' : Fin cfg0.N, win0_5.index t = win0_5.index t' → t = t' :=
  (by decide +kernel : ∀ t t' : Fin grid0.N, win0_5.index t = win0_5.index t' → t = t')

/-- Region 0's result, read at a step's block, is what the step wrote back. -/
theorem blocks0 (t : Fin cfg0.N) :
    ((cfg0.win 5).blk t).view.read (Elt Ideal) ((dat0 V c).arrAt 5 cfg0.N) = (dat0 V c).flushed 5 t :=
  (dat0 V c).read_blk_arrAt_eq_flushed 5 (fun t t' _ _ hne => (cfg0.win 5).disjoint_blk fun h => hne (inj0 t t' h)) cfg0.N t t.isLt (flush0_5 t)

/-- What one step of the output projection stores. -/
theorem pay0_at (v0 v5 : Vec Ideal S1024x2048 .bf16) (v1 v6 : Vec Ideal S1x2048x512 .f32) (v10 : Vec Ideal S1024x512 .f32) (a : Fin 1024) (b : Fin 512) :
    @Eq EReal (k0_pay1 v0 v1 v5 v6 v10 (ix2 a b))
      (v10 (ix2 a b) + ((∑ x, v0 (ix2 a x) * v1 (ix3 0 x b) : EReal) + (∑ x, v5 (ix2 a x) * v6 (ix3 0 x b) : EReal)) : EReal) := by
  pointwise [k0_pay1]

/-- The block that each window of the output projection holds at a step. -/
theorem idx0 : ∀ t : Fin cfg0.N, win0_0.index t = ![t.val / 8, 0] ∧ win0_1.index t = ![t.val / 8, 0]
    ∧ win0_2.index t = ![0, 0, t.val % 8] ∧ win0_3.index t = ![0, 1, t.val % 8]
    ∧ win0_4.index t = ![t.val / 8, t.val % 8] ∧ win0_5.index t = ![t.val / 8, t.val % 8] :=
  (by decide +kernel : ∀ t : Fin grid0.N, _)

/-- The output projection leaves the residual plus the joined halves' product. -/
theorem out_at (i : Fin 8192) (j : Fin 4096) :
    @Eq EReal ((dat0 V c).arrAt 5 cfg0.N (ix2 i j))
      (OutProj.proj (fun i j => V c main_arg0 (ix2 i j)) (fun i k => V c main_arg1 (ix2 i k)) (fun i k => V c main_arg2 (ix2 i k))
        (fun k j => V c main_arg3 (ix3 0 k j)) i j) := by
  have hi := i.isLt
  have hj := j.isLt
  have hN : 8 * (i.val / 1024) + j.val / 512 < cfg0.N := by rw [show cfg0.N = 64 from N_0]; omega
  obtain ⟨t, ht⟩ : ∃ t : Fin cfg0.N, t.val = 8 * (i.val / 1024) + j.val / 512 := ⟨⟨_, hN⟩, rfl⟩
  have h := congrFun (blocks0 V c t) (ix2 (⟨i.val % 1024, by omega⟩ : Fin 1024) (⟨j.val % 512, by omega⟩ : Fin 512))
  rw [flushed0] at h
  refine Eq.trans ?_ (h.trans ?_)
  · blk_ext [idx0 t]
  · have e0 : ∀ k, @Eq EReal (iblk0 V c 0 t (ix2 (⟨i.val % 1024, by omega⟩ : Fin 1024) k)) (V c main_arg1 (ix2 i k)) := by
      intro k
      blk_ext [iblk0, idx0 t]
    have e1 : ∀ k, @Eq EReal (iblk0 V c 1 t (ix2 (⟨i.val % 1024, by omega⟩ : Fin 1024) k)) (V c main_arg2 (ix2 i k)) := by
      intro k
      blk_ext [iblk0, idx0 t]
    have e2 : ∀ k : Fin 2048, @Eq EReal (iblk0 V c 2 t (ix3 0 k (⟨j.val % 512, by omega⟩ : Fin 512))) (V c main_arg3 (ix3 0 (⟨k.val, by omega⟩ : Fin 4096) j)) := by
      intro k
      blk_ext [iblk0, idx0 t]
    have e3 : ∀ k : Fin 2048, @Eq EReal (iblk0 V c 3 t (ix3 0 k (⟨j.val % 512, by omega⟩ : Fin 512))) (V c main_arg3 (ix3 0 (⟨2048 + k.val, by omega⟩ : Fin 4096) j)) := by
      intro k
      blk_ext [iblk0, idx0 t]
    have e4 : @Eq EReal (iblk0 V c 4 t (ix2 (⟨i.val % 1024, by omega⟩ : Fin 1024) (⟨j.val % 512, by omega⟩ : Fin 512))) (V c main_arg0 (ix2 i j)) := by
      blk_ext [iblk0, idx0 t]
    show out0_5 _ _ _ _ _ (ix2 (⟨i.val % 1024, by omega⟩ : Fin 1024) (⟨j.val % 512, by omega⟩ : Fin 512)) = _
    frame_out
    refine (pay0_at _ _ _ _ _ _ _).trans ?_
    simp only [e0, e1, e2, e3, e4]
    rfl

/-- The block of region 1's result that a step writes back. -/
theorem flushed1 (t : Fin cfg1.N) : (dat1 V c).flushed 2 t = (cfg1.win 2).cut (grid1.coords t) (out1_2 (iblk1 V c 0 t) (iblk1 V c 1 t)) := by
  show (cfg1.win 2).cut (grid1.coords t) ((dat1 V c).after 2 t) = _
  rw [after1_2]

/-- Distinct steps of region 1 write distinct blocks. -/
theorem inj1 : ∀ t t' : Fin cfg1.N, win1_2.index t = win1_2.index t' → t = t' :=
  (by decide +kernel : ∀ t t' : Fin grid1.N, win1_2.index t = win1_2.index t' → t = t')

/-- Region 1's result, read at a step's block, is what the step wrote back. -/
theorem blocks1 (t : Fin cfg1.N) :
    ((cfg1.win 2).blk t).view.read (Elt Ideal) ((dat1 V c).arrAt 2 cfg1.N) = (dat1 V c).flushed 2 t :=
  (dat1 V c).read_blk_arrAt_eq_flushed 2 (fun t t' _ _ hne => (cfg1.win 2).disjoint_blk fun h => hne (inj1 t t' h)) cfg1.N t t.isLt (flush1_2 t)

/-- What one step of the norm before the feed-forward part stores. -/
theorem pay1_at (v0 : Vec Ideal S512x4096 .f32) (v12 : Vec Ideal S1x4096 .f32) (a : Fin 512) (b : Fin 4096) :
    @Eq EReal (k1_pay1 v0 v12 (ix2 a b))
      ((v0 (ix2 a b) * Ideal.rsqrt (Ideal.div (∑ k, v0 (ix2 a k) * v0 (ix2 a k) : EReal) (Ideal.ofBits .f32 0x45800000#32) + Ideal.ofBits .f32 0x358637BD#32) : EReal) * v12 (ix2 0 b)) := by
  pointwise [k1_pay1]

/-- The block that each window of the norm before the feed-forward part holds at a step. -/
theorem idx1 : ∀ t : Fin cfg1.N, win1_0.index t = ![t.val, 0] ∧ win1_1.index t = ![0, 0] ∧ win1_2.index t = ![t.val, 0] :=
  (by decide +kernel : ∀ t : Fin grid1.N, _)

/-- The norm before the feed-forward part leaves every row normed. -/
theorem norm_at (i : Fin 8192) (j : Fin 4096) :
    @Eq EReal ((dat1 V c).arrAt 2 cfg1.N (ix2 i j))
      (Norm.normed (fun i k => V c main_v0 (ix2 i k)) (fun j => V c main_v4 (ix2 0 j)) i j) := by
  have hi := i.isLt
  have hj := j.isLt
  have hN : i.val / 512 < cfg1.N := by rw [show cfg1.N = 16 from N_1]; omega
  obtain ⟨t, ht⟩ : ∃ t : Fin cfg1.N, t.val = i.val / 512 := ⟨⟨_, hN⟩, rfl⟩
  have h := congrFun (blocks1 V c t) (ix2 (⟨i.val % 512, by omega⟩ : Fin 512) j)
  rw [flushed1] at h
  refine Eq.trans ?_ (h.trans ?_)
  · blk_ext [idx1 t]
  · have e0 : ∀ k, @Eq EReal (iblk1 V c 0 t (ix2 (⟨i.val % 512, by omega⟩ : Fin 512) k)) (V c main_v0 (ix2 i k)) := by
      intro k
      blk_ext [iblk1, idx1 t]
    have e1 : @Eq EReal (iblk1 V c 1 t (ix2 0 j)) (V c main_v4 (ix2 0 j)) := by
      blk_ext [iblk1, idx1 t]
    show out1_2 _ _ (ix2 (⟨i.val % 512, by omega⟩ : Fin 512) j) = _
    frame_out
    refine (pay1_at _ _ _ _).trans ?_
    simp only [e0, e1]
    rfl

/-- The block of region 2's result that a step writes back. -/
theorem flushed2 (t : Fin cfg2.N) : (dat2 V c).flushed 3 t = (cfg2.win 3).cut (grid2.coords t) (out2_3 (iblk2 V c 0 t) (iblk2 V c 1 t) (iblk2 V c 2 t)) := by
  show (cfg2.win 3).cut (grid2.coords t) ((dat2 V c).after 3 t) = _
  rw [after2_3]

/-- Distinct steps of region 2 write distinct blocks. -/
theorem inj2 : ∀ t t' : Fin cfg2.N, win2_3.index t = win2_3.index t' → t = t' :=
  (by decide +kernel : ∀ t t' : Fin grid2.N, win2_3.index t = win2_3.index t' → t = t')

/-- Region 2's result, read at a step's block, is what the step wrote back. -/
theorem blocks2 (t : Fin cfg2.N) :
    ((cfg2.win 3).blk t).view.read (Elt Ideal) ((dat2 V c).arrAt 3 cfg2.N) = (dat2 V c).flushed 3 t :=
  (dat2 V c).read_blk_arrAt_eq_flushed 3 (fun t t' _ _ hne => (cfg2.win 3).disjoint_blk fun h => hne (inj2 t t' h)) cfg2.N t t.isLt (flush2_3 t)

/-- What one step of the gated up-projection stores. -/
theorem pay2_at (v0 v6 : Vec Ideal S2048x4096 .bf16) (v2 v8 : Vec Ideal S1x4096x256 .f32) (a : Fin 2048) (b : Fin 256) :
    @Eq EReal (k2_pay1 v0 v2 v6 v8 (ix2 a b))
      (((∑ x, v0 (ix2 a x) * v2 (ix3 0 x b) : EReal) * Ideal.div 1 (1 + Ideal.exp (-∑ x, v0 (ix2 a x) * v2 (ix3 0 x b) : EReal))) *
      (∑ x, v6 (ix2 a x) * v8 (ix3 0 x b) : EReal)) := by
  pointwise [k2_pay1]
  rw [zero_sub]

/-- The block that each window of the gated up-projection holds at a step. -/
theorem idx2 : ∀ t : Fin cfg2.N, win2_0.index t = ![t.val / 43, 0] ∧ win2_1.index t = ![0, 0, t.val % 43]
    ∧ win2_2.index t = ![0, 0, t.val % 43] ∧ win2_3.index t = ![t.val / 43, t.val % 43] :=
  (by decide +kernel : ∀ t : Fin grid2.N, _)

/-- The gated up-projection leaves the gated unit of every row and column. -/
theorem gate_at (i : Fin 8192) (j : Fin 11008) :
    @Eq EReal ((dat2 V c).arrAt 3 cfg2.N (ix2 i j))
      (GateUp.glued (fun i k => V c main_v5 (ix2 i k)) (fun k j => V c main_arg5 (ix3 0 k j)) (fun k j => V c main_arg6 (ix3 0 k j)) i j) := by
  have hi := i.isLt
  have hj := j.isLt
  have hN : 43 * (i.val / 2048) + j.val / 256 < cfg2.N := by rw [show cfg2.N = 172 from N_2]; omega
  obtain ⟨t, ht⟩ : ∃ t : Fin cfg2.N, t.val = 43 * (i.val / 2048) + j.val / 256 := ⟨⟨_, hN⟩, rfl⟩
  have h := congrFun (blocks2 V c t) (ix2 (⟨i.val % 2048, by omega⟩ : Fin 2048) (⟨j.val % 256, by omega⟩ : Fin 256))
  rw [flushed2] at h
  refine Eq.trans ?_ (h.trans ?_)
  · blk_ext [idx2 t]
  · have e0 : ∀ k, @Eq EReal (iblk2 V c 0 t (ix2 (⟨i.val % 2048, by omega⟩ : Fin 2048) k)) (V c main_v5 (ix2 i k)) := by
      intro k
      blk_ext [iblk2, idx2 t]
    have e1 : ∀ k, @Eq EReal (iblk2 V c 1 t (ix3 0 k (⟨j.val % 256, by omega⟩ : Fin 256))) (V c main_arg5 (ix3 0 k j)) := by
      intro k
      blk_ext [iblk2, idx2 t]
    have e2 : ∀ k, @Eq EReal (iblk2 V c 2 t (ix3 0 k (⟨j.val % 256, by omega⟩ : Fin 256))) (V c main_arg6 (ix3 0 k j)) := by
      intro k
      blk_ext [iblk2, idx2 t]
    show out2_3 _ _ _ (ix2 (⟨i.val % 2048, by omega⟩ : Fin 2048) (⟨j.val % 256, by omega⟩ : Fin 256)) = _
    frame_out
    refine (pay2_at _ _ _ _ _ _).trans ?_
    simp only [e0, e1, e2]
    rfl

/-- The block of region 3's result that a step writes back. -/
theorem flushed3 (t : Fin cfg3.N) : (dat3 V c).flushed 3 t = (cfg3.win 3).cut (grid3.coords t) (out3_3 (iblk3 V c 0 t) (iblk3 V c 1 t) (iblk3 V c 2 t)) := by
  show (cfg3.win 3).cut (grid3.coords t) ((dat3 V c).after 3 t) = _
  rw [after3_3]

/-- Distinct steps of region 3 write distinct blocks. -/
theorem inj3 : ∀ t t' : Fin cfg3.N, win3_3.index t = win3_3.index t' → t = t' :=
  (by decide +kernel : ∀ t t' : Fin grid3.N, win3_3.index t = win3_3.index t' → t = t')

/-- Region 3's result, read at a step's block, is what the step wrote back. -/
theorem blocks3 (t : Fin cfg3.N) :
    ((cfg3.win 3).blk t).view.read (Elt Ideal) ((dat3 V c).arrAt 3 cfg3.N) = (dat3 V c).flushed 3 t :=
  (dat3 V c).read_blk_arrAt_eq_flushed 3 (fun t t' _ _ hne => (cfg3.win 3).disjoint_blk fun h => hne (inj3 t t' h)) cfg3.N t t.isLt (flush3_3 t)

/-- What one step of the down-projection stores. -/
theorem pay3_at (v0 : Vec Ideal S512x11008 .bf16) (v2 : Vec Ideal S1x11008x512 .bf16) (v5 : Vec Ideal S512x512 .f32) (a b : Fin 512) :
    @Eq EReal (k3_pay1 v0 v2 v5 (ix2 a b)) (v5 (ix2 a b) + ∑ x, v0 (ix2 a x) * v2 (ix3 0 x b) : EReal) := by
  pointwise [k3_pay1]

/-- The block that each window of the down-projection holds at a step. -/
theorem idx3 : ∀ t : Fin cfg3.N, win3_0.index t = ![t.val / 8, 0] ∧ win3_1.index t = ![0, 0, t.val % 8]
    ∧ win3_2.index t = ![t.val / 8, t.val % 8] ∧ win3_3.index t = ![t.val / 8, t.val % 8] :=
  (by decide +kernel : ∀ t : Fin grid3.N, _)

/-- The down-projection leaves the residual plus the product. -/
theorem down_at (i : Fin 8192) (j : Fin 4096) :
    @Eq EReal ((dat3 V c).arrAt 3 cfg3.N (ix2 i j))
      (Down.proj (fun i k => V c main_v6 (ix2 i k)) (fun k j => V c main_v3 (ix3 0 k j)) (fun i j => V c main_v0 (ix2 i j)) i j) := by
  have hi := i.isLt
  have hj := j.isLt
  have hN : 8 * (i.val / 512) + j.val / 512 < cfg3.N := by rw [show cfg3.N = 128 from N_3]; omega
  obtain ⟨t, ht⟩ : ∃ t : Fin cfg3.N, t.val = 8 * (i.val / 512) + j.val / 512 := ⟨⟨_, hN⟩, rfl⟩
  have h := congrFun (blocks3 V c t) (ix2 (⟨i.val % 512, by omega⟩ : Fin 512) (⟨j.val % 512, by omega⟩ : Fin 512))
  rw [flushed3] at h
  refine Eq.trans ?_ (h.trans ?_)
  · blk_ext [idx3 t]
  · have e0 : ∀ k, @Eq EReal (iblk3 V c 0 t (ix2 (⟨i.val % 512, by omega⟩ : Fin 512) k)) (V c main_v6 (ix2 i k)) := by
      intro k
      blk_ext [iblk3, idx3 t]
    have e1 : ∀ k, @Eq EReal (iblk3 V c 1 t (ix3 0 k (⟨j.val % 512, by omega⟩ : Fin 512))) (V c main_v3 (ix3 0 k j)) := by
      intro k
      blk_ext [iblk3, idx3 t]
    have e2 : @Eq EReal (iblk3 V c 2 t (ix2 (⟨i.val % 512, by omega⟩ : Fin 512) (⟨j.val % 512, by omega⟩ : Fin 512))) (V c main_v0 (ix2 i j)) := by
      blk_ext [iblk3, idx3 t]
    show out3_3 _ _ _ (ix2 (⟨i.val % 512, by omega⟩ : Fin 512) (⟨j.val % 512, by omega⟩ : Fin 512)) = _
    frame_out
    refine (pay3_at _ _ _ _ _).trans ?_
    simp only [e0, e1, e2]
    rfl

/-- The block of region 4's result that a step writes back. -/
theorem flushed4 (t : Fin cfg4.N) : (dat4 V c).flushed 2 t = (cfg4.win 2).cut (grid4.coords t) (out4_2 (iblk4 V c 0 t) (iblk4 V c 1 t)) := by
  show (cfg4.win 2).cut (grid4.coords t) ((dat4 V c).after 2 t) = _
  rw [after4_2]

/-- Distinct steps of region 4 write distinct blocks. -/
theorem inj4 : ∀ t t' : Fin cfg4.N, win4_2.index t = win4_2.index t' → t = t' :=
  (by decide +kernel : ∀ t t' : Fin grid4.N, win4_2.index t = win4_2.index t' → t = t')

/-- Region 4's result, read at a step's block, is what the step wrote back. -/
theorem blocks4 (t : Fin cfg4.N) :
    ((cfg4.win 2).blk t).view.read (Elt Ideal) ((dat4 V c).arrAt 2 cfg4.N) = (dat4 V c).flushed 2 t :=
  (dat4 V c).read_blk_arrAt_eq_flushed 2 (fun t t' _ _ hne => (cfg4.win 2).disjoint_blk fun h => hne (inj4 t t' h)) cfg4.N t t.isLt (flush4_2 t)

/-- What one step of the norm before the second layer stores. -/
theorem pay4_at (v0 : Vec Ideal S512x4096 .f32) (v12 : Vec Ideal S1x4096 .f32) (a : Fin 512) (b : Fin 4096) :
    @Eq EReal (k4_pay1 v0 v12 (ix2 a b))
      ((v0 (ix2 a b) * Ideal.rsqrt (Ideal.div (∑ k, v0 (ix2 a k) * v0 (ix2 a k) : EReal) (Ideal.ofBits .f32 0x45800000#32) + Ideal.ofBits .f32 0x358637BD#32) : EReal) * v12 (ix2 0 b)) := by
  pointwise [k4_pay1]

/-- The block that each window of the norm before the second layer holds at a step. -/
theorem idx4 : ∀ t : Fin cfg4.N, win4_0.index t = ![t.val, 0] ∧ win4_1.index t = ![0, 0] ∧ win4_2.index t = ![t.val, 0] :=
  (by decide +kernel : ∀ t : Fin grid4.N, _)

/-- The norm before the second layer leaves every row normed. -/
theorem next_at (i : Fin 8192) (j : Fin 4096) :
    @Eq EReal ((dat4 V c).arrAt 2 cfg4.N (ix2 i j))
      (Norm.normed (fun i k => V c main_v7 (ix2 i k)) (fun j => V c main_v10 (ix2 0 j)) i j) := by
  have hi := i.isLt
  have hj := j.isLt
  have hN : i.val / 512 < cfg4.N := by rw [show cfg4.N = 16 from N_4]; omega
  obtain ⟨t, ht⟩ : ∃ t : Fin cfg4.N, t.val = i.val / 512 := ⟨⟨_, hN⟩, rfl⟩
  have h := congrFun (blocks4 V c t) (ix2 (⟨i.val % 512, by omega⟩ : Fin 512) j)
  rw [flushed4] at h
  refine Eq.trans ?_ (h.trans ?_)
  · blk_ext [idx4 t]
  · have e0 : ∀ k, @Eq EReal (iblk4 V c 0 t (ix2 (⟨i.val % 512, by omega⟩ : Fin 512) k)) (V c main_v7 (ix2 i k)) := by
      intro k
      blk_ext [iblk4, idx4 t]
    have e1 : @Eq EReal (iblk4 V c 1 t (ix2 0 j)) (V c main_v10 (ix2 0 j)) := by
      blk_ext [iblk4, idx4 t]
    show out4_2 _ _ (ix2 (⟨i.val % 512, by omega⟩ : Fin 512) j) = _
    frame_out
    refine (pay4_at _ _ _ _).trans ?_
    simp only [e0, e1]
    rfl

/-- The block of region 5's result that a step writes back. -/
theorem flushed5 (t : Fin cfg5.N) : (dat5 V c).flushed 2 t = (cfg5.win 2).cut (grid5.coords t) (out5_2 (iblk5 V c 0 t) (iblk5 V c 1 t)) := by
  show (cfg5.win 2).cut (grid5.coords t) ((dat5 V c).after 2 t) = _
  rw [after5_2]

/-- Distinct steps of region 5 write distinct blocks. -/
theorem inj5 : ∀ t t' : Fin cfg5.N, win5_2.index t = win5_2.index t' → t = t' :=
  (by decide +kernel : ∀ t t' : Fin grid5.N, win5_2.index t = win5_2.index t' → t = t')

/-- Region 5's result, read at a step's block, is what the step wrote back. -/
theorem blocks5 (t : Fin cfg5.N) :
    ((cfg5.win 2).blk t).view.read (Elt Ideal) ((dat5 V c).arrAt 2 cfg5.N) = (dat5 V c).flushed 2 t :=
  (dat5 V c).read_blk_arrAt_eq_flushed 2 (fun t t' _ _ hne => (cfg5.win 2).disjoint_blk fun h => hne (inj5 t t' h)) cfg5.N t t.isLt (flush5_2 t)

/-- What one step of the input projection stores. -/
theorem pay5_at (v0 : Vec Ideal S1024x4096 .bf16) (v1 : Vec Ideal S1x4096x512 .f32) (a : Fin 1024) (b : Fin 512) :
    @Eq EReal (k5_pay1 v0 v1 (ix2 a b)) (∑ x, v0 (ix2 a x) * v1 (ix3 0 x b) : EReal) := by
  pointwise [k5_pay1]

/-- The block that each window of the input projection holds at a step. -/
theorem idx5 : ∀ t : Fin cfg5.N, win5_0.index t = ![t.val / 20, 0] ∧ win5_1.index t = ![0, 0, t.val % 20]
    ∧ win5_2.index t = ![t.val / 20, t.val % 20] :=
  (by decide +kernel : ∀ t : Fin grid5.N, _)

/-- The input projection leaves the product of every row and column. -/
theorem in_at (i : Fin 8192) (j : Fin 10240) :
    @Eq EReal ((dat5 V c).arrAt 2 cfg5.N (ix2 i j))
      (OddIn.proj (fun i k => V c main_v11 (ix2 i k)) (fun k j => V c main_arg9 (ix3 0 k j)) i j) := by
  have hi := i.isLt
  have hj := j.isLt
  have hN : 20 * (i.val / 1024) + j.val / 512 < cfg5.N := by rw [show cfg5.N = 160 from N_5]; omega
  obtain ⟨t, ht⟩ : ∃ t : Fin cfg5.N, t.val = 20 * (i.val / 1024) + j.val / 512 := ⟨⟨_, hN⟩, rfl⟩
  have h := congrFun (blocks5 V c t) (ix2 (⟨i.val % 1024, by omega⟩ : Fin 1024) (⟨j.val % 512, by omega⟩ : Fin 512))
  rw [flushed5] at h
  refine Eq.trans ?_ (h.trans ?_)
  · blk_ext [idx5 t]
  · have e0 : ∀ k, @Eq EReal (iblk5 V c 0 t (ix2 (⟨i.val % 1024, by omega⟩ : Fin 1024) k)) (V c main_v11 (ix2 i k)) := by
      intro k
      blk_ext [iblk5, idx5 t]
    have e1 : ∀ k, @Eq EReal (iblk5 V c 1 t (ix3 0 k (⟨j.val % 512, by omega⟩ : Fin 512))) (V c main_arg9 (ix3 0 k j)) := by
      intro k
      blk_ext [iblk5, idx5 t]
    show out5_2 _ _ (ix2 (⟨i.val % 1024, by omega⟩ : Fin 1024) (⟨j.val % 512, by omega⟩ : Fin 512)) = _
    frame_out
    refine (pay5_at _ _ _ _).trans ?_
    simp only [e0, e1]
    rfl

end Mid

end
-- ==== Proof.MidRun.lean ====
/- The six launches in a row: the run names the two results. -/
module

public import proofs.«01_k».proof.Proof.MidSteps
public import Idealize.ShloMosaic.Lib.StableHlo.ReadAt

@[expose] public section

set_option maxRecDepth 16384

noncomputable section

namespace Mid

open Cert.MidIdeal Cert.MidIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The program ends with its results at what the launches leave and its arguments unchanged. -/
theorem run : θ_run defs (onTc (τ := τ) (main (F := Ideal))) ⟨m, fun _ => 0, ρ⟩ (fun r => ∀ c : Dev nD,
      r.2.mem ((c.tc : Thread nD τ).loc main_v7) = W8 m ρ c (Proc.devRef .tc main_v7)
      ∧ r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v7 (by decide)),
       h c _ (mem_uc main_v12 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Mid

end
-- ==== Proof.MidValue.lean ====
/- The six launches in a row: what they leave, read back launch by launch to the arguments. -/
module

public import proofs.«01_k».proof.Proof.MidSteps
public import Idealize.ShloMosaic.Lib.StableHlo.ReadAt

@[expose] public section

set_option maxRecDepth 16384

noncomputable section

namespace Mid

open Cert.MidIdeal Cert.MidIdeal.Gen Idealize.ShloMosaic Idealize.ShloMosaic.TcCoe Idealize.SL.Sem

/-- The residual stream after the layer, as a function of the arguments: projection, norm, gated unit, projection back. -/
def stream (h : Fin 8192 → Fin 4096 → EReal) (x y : Fin 8192 → Fin 2048 → EReal) (wo : Fin 4096 → Fin 4096 → EReal)
    (g : Fin 4096 → EReal) (wg wu : Fin 4096 → Fin 11008 → EReal) (wd : Fin 11008 → Fin 4096 → EReal) : Fin 8192 → Fin 4096 → EReal :=
  Down.proj (GateUp.glued (Norm.normed (OutProj.proj h x y wo) g) wg wu) wd (OutProj.proj h x y wo)

/-- The next layer's projected activation: the stream's norm and its product with the weight. -/
def next (h : Fin 8192 → Fin 4096 → EReal) (g : Fin 4096 → EReal) (w : Fin 4096 → Fin 10240 → EReal) : Fin 8192 → Fin 10240 → EReal :=
  OddIn.proj (Norm.normed h g) w

variable (m : (ℓ : Loc nD τ sig) → Buf (Elt Ideal) ℓ) (ρ : Dev nD → PrngReg) (c : Dev nD)

abbrev hOf (i : Fin 8192) (j : Fin 4096) : EReal := m ((c : Thread nD τ).loc main_arg0) (ix2 i j)
abbrev xOf (i : Fin 8192) (k : Fin 2048) : EReal := m ((c : Thread nD τ).loc main_arg1) (ix2 i k)
abbrev yOf (i : Fin 8192) (k : Fin 2048) : EReal := m ((c : Thread nD τ).loc main_arg2) (ix2 i k)
abbrev woOf (k : Fin 4096) (j : Fin 4096) : EReal := m ((c : Thread nD τ).loc main_arg3) (ix3 0 k j)
abbrev gOf (j : Fin 4096) : EReal := m ((c : Thread nD τ).loc main_arg4) (ix2 0 j)
abbrev gateOf (k : Fin 4096) (j : Fin 11008) : EReal := m ((c : Thread nD τ).loc main_arg5) (ix3 0 k j)
abbrev upOf (k : Fin 4096) (j : Fin 11008) : EReal := m ((c : Thread nD τ).loc main_arg6) (ix3 0 k j)
abbrev downOf (k : Fin 11008) (j : Fin 4096) : EReal := m ((c : Thread nD τ).loc main_arg7) (ix3 0 k j)
abbrev g'Of (j : Fin 4096) : EReal := m ((c : Thread nD τ).loc main_arg8) (ix2 1 j)
abbrev wiOf (k : Fin 4096) (j : Fin 10240) : EReal := m ((c : Thread nD τ).loc main_arg9) (ix3 0 k j)

abbrev h1 : Fin 8192 → Fin 4096 → EReal := OutProj.proj (hOf m c) (xOf m c) (yOf m c) (woOf m c)
abbrev n1 : Fin 8192 → Fin 4096 → EReal := Norm.normed (h1 m c) (gOf m c)
abbrev a1 : Fin 8192 → Fin 11008 → EReal := GateUp.glued (n1 m c) (gateOf m c) (upOf m c)
abbrev h2 : Fin 8192 → Fin 4096 → EReal := Down.proj (a1 m c) (downOf m c) (h1 m c)

/-- After the output projection. -/
theorem v1_v0 (i : Fin 8192) (j : Fin 4096) : @Eq EReal (V1 m ρ c main_v0 (ix2 i j)) (h1 m c i j) :=
  (congrFun (W1_arr m ρ c 5) (ix2 i j)).trans (out_at (V0 m ρ) c i j)

/-- The host leaves the residual stream as it is. -/
theorem v2_v0 (i : Fin 8192) (j : Fin 4096) : @Eq EReal (V2 m ρ c main_v0 (ix2 i j)) (h1 m c i j) :=
  (congrFun (W2_of m ρ c main_v0 (by decide)) (ix2 i j)).trans (v1_v0 m ρ c i j)

/-- The gain that the second launch finds is the first row of the gains. -/
theorem v2_v4 (j : Fin 4096) : @Eq EReal (V2 m ρ c main_v4 (ix2 0 j)) (gOf m c j) := by
  refine Eq.trans ?_ (congrFun (W1_args m ρ c main_arg4 (by decide)) (ix2 0 j))
  show @Eq EReal (StableHlo.after hostOps1 (W1 m ρ c) (Proc.devRef .tc main_v4) (ix2 0 j)) _
  simp only [List.flatten_cons, List.flatten_nil, List.append_nil, List.cons_append, List.nil_append, hostOps1]
  repeat after_reads_at

/-- The weight of the way back is the argument: the host only changes its format. -/
theorem v2_v3 (k : Fin 11008) (j : Fin 4096) : @Eq EReal (V2 m ρ c main_v3 (ix3 0 k j)) (downOf m c k j) := by
  refine Eq.trans ?_ (congrFun (W1_args m ρ c main_arg7 (by decide)) (ix3 0 k j))
  show @Eq EReal (StableHlo.after hostOps1 (W1 m ρ c) (Proc.devRef .tc main_v3) (ix3 0 k j)) _
  simp only [List.flatten_cons, List.flatten_nil, List.append_nil, List.cons_append, List.nil_append, hostOps1]
  repeat after_reads_at

/-- After the norm. -/
theorem v3_v5 (i : Fin 8192) (j : Fin 4096) : @Eq EReal (V3 m ρ c main_v5 (ix2 i j)) (n1 m c i j) := by
  refine (congrFun (W3_arr m ρ c 2) (ix2 i j)).trans ((norm_at (V2 m ρ) c i j).trans ?_)
  have e0 : @Eq (Fin 8192 → Fin 4096 → EReal) (fun i k => V2 m ρ c main_v0 (ix2 i k)) (h1 m c) := funext fun i => funext fun k => v2_v0 m ρ c i k
  have e1 : @Eq (Fin 4096 → EReal) (fun j => V2 m ρ c main_v4 (ix2 0 j)) (gOf m c) := funext fun j => v2_v4 m ρ c j
  exact congrFun (congrFun (congr (congrArg Norm.normed e0) e1) i) j

theorem v3_v0 (i : Fin 8192) (j : Fin 4096) : @Eq EReal (V3 m ρ c main_v0 (ix2 i j)) (h1 m c i j) :=
  (congrFun (W3_of m ρ c main_v0 (by decide)) (ix2 i j)).trans (v2_v0 m ρ c i j)

theorem v3_v3 (k : Fin 11008) (j : Fin 4096) : @Eq EReal (V3 m ρ c main_v3 (ix3 0 k j)) (downOf m c k j) :=
  (congrFun (W3_of m ρ c main_v3 (by decide)) (ix3 0 k j)).trans (v2_v3 m ρ c k j)

/-- After the gated up-projection. -/
theorem v4_v6 (i : Fin 8192) (j : Fin 11008) : @Eq EReal (V4 m ρ c main_v6 (ix2 i j)) (a1 m c i j) := by
  refine (congrFun (W4_arr m ρ c 3) (ix2 i j)).trans ((gate_at (V3 m ρ) c i j).trans ?_)
  have e0 : @Eq (Fin 8192 → Fin 4096 → EReal) (fun i k => V3 m ρ c main_v5 (ix2 i k)) (n1 m c) := funext fun i => funext fun k => v3_v5 m ρ c i k
  have e1 : @Eq (Fin 4096 → Fin 11008 → EReal) (fun k j => V3 m ρ c main_arg5 (ix3 0 k j)) (gateOf m c) :=
    funext fun k => funext fun j => congrFun (W3_args m ρ c main_arg5 (by decide)) (ix3 0 k j)
  have e2 : @Eq (Fin 4096 → Fin 11008 → EReal) (fun k j => V3 m ρ c main_arg6 (ix3 0 k j)) (upOf m c) :=
    funext fun k => funext fun j => congrFun (W3_args m ρ c main_arg6 (by decide)) (ix3 0 k j)
  exact congrFun (congrFun (congr (congr (congrArg GateUp.glued e0) e1) e2) i) j

theorem v4_v0 (i : Fin 8192) (j : Fin 4096) : @Eq EReal (V4 m ρ c main_v0 (ix2 i j)) (h1 m c i j) :=
  (congrFun (W4_of m ρ c main_v0 (by decide)) (ix2 i j)).trans (v3_v0 m ρ c i j)

theorem v4_v3 (k : Fin 11008) (j : Fin 4096) : @Eq EReal (V4 m ρ c main_v3 (ix3 0 k j)) (downOf m c k j) :=
  (congrFun (W4_of m ρ c main_v3 (by decide)) (ix3 0 k j)).trans (v3_v3 m ρ c k j)

/-- After the down-projection. -/
theorem v5_v7 (i : Fin 8192) (j : Fin 4096) : @Eq EReal (V5 m ρ c main_v7 (ix2 i j)) (h2 m c i j) := by
  refine (congrFun (W5_arr m ρ c 3) (ix2 i j)).trans ((down_at (V4 m ρ) c i j).trans ?_)
  have e0 : @Eq (Fin 8192 → Fin 11008 → EReal) (fun i k => V4 m ρ c main_v6 (ix2 i k)) (a1 m c) := funext fun i => funext fun k => v4_v6 m ρ c i k
  have e1 : @Eq (Fin 11008 → Fin 4096 → EReal) (fun k j => V4 m ρ c main_v3 (ix3 0 k j)) (downOf m c) := funext fun k => funext fun j => v4_v3 m ρ c k j
  have e2 : @Eq (Fin 8192 → Fin 4096 → EReal) (fun i j => V4 m ρ c main_v0 (ix2 i j)) (h1 m c) := funext fun i => funext fun j => v4_v0 m ρ c i j
  exact congrFun (congrFun (congr (congr (congrArg Down.proj e0) e1) e2) i) j

theorem v6_v7 (i : Fin 8192) (j : Fin 4096) : @Eq EReal (V6 m ρ c main_v7 (ix2 i j)) (h2 m c i j) :=
  (congrFun (W6_of m ρ c main_v7 (by decide)) (ix2 i j)).trans (v5_v7 m ρ c i j)

/-- The gain that the fifth launch finds is the second row of the mixers' gains. -/
theorem v6_v10 (j : Fin 4096) : @Eq EReal (V6 m ρ c main_v10 (ix2 0 j)) (g'Of m c j) := by
  refine Eq.trans ?_ (congrFun (W5_args m ρ c main_arg8 (by decide)) (ix2 1 j))
  show @Eq EReal (StableHlo.after hostOps4 (W5 m ρ c) (Proc.devRef .tc main_v10) (ix2 0 j)) _
  simp only [List.flatten_cons, List.flatten_nil, List.append_nil, List.cons_append, List.nil_append, hostOps4]
  repeat after_reads_at

/-- After the norm before the second layer. -/
theorem v7_v11 (i : Fin 8192) (j : Fin 4096) : @Eq EReal (V7 m ρ c main_v11 (ix2 i j)) (Norm.normed (h2 m c) (g'Of m c) i j) := by
  refine (congrFun (W7_arr m ρ c 2) (ix2 i j)).trans ((next_at (V6 m ρ) c i j).trans ?_)
  have e0 : @Eq (Fin 8192 → Fin 4096 → EReal) (fun i k => V6 m ρ c main_v7 (ix2 i k)) (h2 m c) := funext fun i => funext fun k => v6_v7 m ρ c i k
  have e1 : @Eq (Fin 4096 → EReal) (fun j => V6 m ρ c main_v10 (ix2 0 j)) (g'Of m c) := funext fun j => v6_v10 m ρ c j
  exact congrFun (congrFun (congr (congrArg Norm.normed e0) e1) i) j

theorem v7_v7 (i : Fin 8192) (j : Fin 4096) : @Eq EReal (V7 m ρ c main_v7 (ix2 i j)) (h2 m c i j) :=
  (congrFun (W7_of m ρ c main_v7 (by decide)) (ix2 i j)).trans (v6_v7 m ρ c i j)

/-- Every element of the first result, in terms of the arguments. -/
theorem stream_at (i : Fin 8192) (j : Fin 4096) :
    @Eq EReal (W8 m ρ c (Proc.devRef .tc main_v7) (ix2 i j))
      (stream (hOf m c) (xOf m c) (yOf m c) (woOf m c) (gOf m c) (gateOf m c) (upOf m c) (downOf m c) i j) :=
  (congrFun (W8_of m ρ c main_v7 (by decide)) (ix2 i j)).trans (v7_v7 m ρ c i j)

/-- Every element of the second result, in terms of the arguments. -/
theorem final_at (i : Fin 8192) (j : Fin 10240) :
    @Eq EReal (W8 m ρ c (Proc.devRef .tc main_v12) (ix2 i j))
      (next (stream (hOf m c) (xOf m c) (yOf m c) (woOf m c) (gOf m c) (gateOf m c) (upOf m c) (downOf m c)) (g'Of m c) (wiOf m c) i j) := by
  refine (congrFun (W8_arr m ρ c 2) (ix2 i j)).trans ((in_at (V7 m ρ) c i j).trans ?_)
  have e0 : @Eq (Fin 8192 → Fin 4096 → EReal) (fun i k => V7 m ρ c main_v11 (ix2 i k)) (Norm.normed (h2 m c) (g'Of m c)) :=
    funext fun i => funext fun k => v7_v11 m ρ c i k
  have e1 : @Eq (Fin 4096 → Fin 10240 → EReal) (fun k j => V7 m ρ c main_arg9 (ix3 0 k j)) (wiOf m c) :=
    funext fun k => funext fun j => congrFun (W7_args m ρ c main_arg9 (by decide)) (ix3 0 k j)
  exact congrFun (congrFun (congr (congrArg OddIn.proj e0) e1) i) j

end Mid

end
-- ==== Proof.Mid.lean ====
/- The six launches in a row against the reference's lines: both hold the same function of the arguments. -/
module

public import proofs.«01_k».proof.Proof.MidRun
public import proofs.«01_k».proof.Proof.MidValue
public import proofs.«01_k».proof.Proof.Gen.RefMidIdeal.Run
public import Idealize.ShloMosaic.Lib.Quiescent

@[expose] public section

set_option maxRecDepth 16384

noncomputable section

/-! ## The reference's steps, each at any operands -/

namespace Mid.Ref

open Cert.RefMidIdeal Cert.RefMidIdeal.Gen Idealize.ShloMosaic Idealize.ShloMosaic.TcCoe Idealize.SL.Sem

/-- The output projection's lines. -/
def out (h : FVec Ideal S8192x4096 .f32) (x y : FVec Ideal S8192x2048 .bf16) (w : FVec Ideal S1x4096x4096 .f32) : FVec Ideal S8192x4096 .f32 :=
  addf h (Host.dotGeneral (F := Ideal) dot_S8192x4096_S4096x4096_S8192x4096_1_0_0_1_n_n none (concatenate S8192x4096 1 [⟨S8192x2048, (extf .f32 x bitsLt_bf16_f32)⟩, ⟨S8192x2048, (extf .f32 y bitsLt_bf16_f32)⟩] concatenates_S8192x2048_S8192x2048_S8192x4096_d1) (shapeCast S4096x4096 w shapeCasts_S1x4096x4096_S4096x4096))

/-- The norm's lines. -/
def norm (h : FVec Ideal S8192x4096 .f32) (g : FVec Ideal S4096 .f32) : FVec Ideal S8192x4096 .f32 :=
  mulf (mulf h (broadcastInDim S8192x4096 ![0, 1] bcast_S8192x1_S8192x4096_0_1 (Host.rsqrt (addf (Host.divf (broadcastInDim S8192x1 ![0] bcast_S8192_S8192x1_0 (Host.reduceAdd (mulf h h) (constant (F := Ideal) S_ .f32 0x00000000#32) reducesTo_S8192x4096_S8192_d1 h_S_)) (broadcastInDim S8192x1 ![] bcast_S_S8192x1 (constant (F := Ideal) S_ .f32 0x45800000#32))) (broadcastInDim S8192x1 ![] bcast_S_S8192x1 (constant (F := Ideal) S_ .f32 0x358637BD#32)))))) (broadcastInDim S8192x4096 ![0, 1] bcast_S1x4096_S8192x4096_0_1 (broadcastInDim S1x4096 ![1] bcast_S4096_S1x4096_1 g))

/-- The first row of the gains. -/
def row (g : FVec Ideal S2x4096 .f32) : FVec Ideal S4096 .f32 :=
  shapeCast S4096 (extractStridedSlice S1x4096 ![0, 0] g slices_S2x4096_S1x4096_0_0) shapeCasts_S1x4096_S4096

/-- The second row of the gains. -/
def row' (g : FVec Ideal S2x4096 .f32) : FVec Ideal S4096 .f32 :=
  shapeCast S4096 (extractStridedSlice S1x4096 ![1, 0] g slices_S2x4096_S1x4096_1_0) shapeCasts_S1x4096_S4096

/-- The input projection's line. -/
def proj (x : FVec Ideal S8192x4096 .f32) (w : FVec Ideal S1x4096x10240 .f32) : FVec Ideal S8192x10240 .f32 :=
  Host.dotGeneral (F := Ideal) dot_S8192x4096_S4096x10240_S8192x10240_1_0_0_1_n_n none x (shapeCast S4096x10240 w shapeCasts_S1x4096x10240_S4096x10240)

/-- The product with the first layer's weight. -/
def prod (x : FVec Ideal S8192x4096 .f32) (w : FVec Ideal S2x4096x11008 .f32) : FVec Ideal S8192x11008 .f32 :=
  Host.dotGeneral (F := Ideal) dot_S8192x4096_S4096x11008_S8192x11008_1_0_0_1_n_n none x (shapeCast S4096x11008 (extractStridedSlice S1x4096x11008 ![0, 0, 0] w slices_S2x4096x11008_S1x4096x11008_0_0_0) shapeCasts_S1x4096x11008_S4096x11008)

/-- The gated unit's lines. -/
def gate (x : FVec Ideal S8192x4096 .f32) (wg wu : FVec Ideal S2x4096x11008 .f32) : FVec Ideal S8192x11008 .f32 :=
  mulf (mulf (prod x wg) (Host.divf (broadcastInDim S8192x11008 ![] bcast_S_S8192x11008 (constant (F := Ideal) S_ .f32 0x3F800000#32)) (addf (broadcastInDim S8192x11008 ![] bcast_S_S8192x11008 (constant (F := Ideal) S_ .f32 0x3F800000#32)) (Host.exp (Host.negf (prod x wg)))))) (prod x wu)

/-- The down-projection's lines. -/
def down (h : FVec Ideal S8192x4096 .f32) (a : FVec Ideal S8192x11008 .f32) (w : FVec Ideal S2x11008x4096 .f32) : FVec Ideal S8192x4096 .f32 :=
  addf h (Host.dotGeneral (F := Ideal) dot_S8192x11008_S11008x4096_S8192x4096_1_0_0_1_n_n none a (shapeCast S11008x4096 (extractStridedSlice S1x11008x4096 ![0, 0, 0] w slices_S2x11008x4096_S1x11008x4096_0_0_0) shapeCasts_S1x11008x4096_S11008x4096))

theorem out_at (h : FVec Ideal S8192x4096 .f32) (x y : FVec Ideal S8192x2048 .bf16) (w : FVec Ideal S1x4096x4096 .f32) (i : Fin 8192) (j : Fin 4096) :
    @Eq EReal (out h x y w (ix2 i j)) (OutProj.proj (fun i j => h (ix2 i j)) (fun i k => x (ix2 i k)) (fun i k => y (ix2 i k)) (fun k j => w (ix3 0 k j)) i j) := by
  pointwise [out]
  rfl

theorem norm_at (h : FVec Ideal S8192x4096 .f32) (g : FVec Ideal S4096 .f32) (i : Fin 8192) (j : Fin 4096) :
    @Eq EReal (norm h g (ix2 i j)) (Norm.normed (fun i k => h (ix2 i k)) (fun j => g (ix1 j)) i j) := by
  pointwise [norm]
  rfl

theorem row_at (g : FVec Ideal S2x4096 .f32) (j : Fin 4096) : @Eq EReal (row g (ix1 j)) (g (ix2 0 j)) := by
  pointwise [row]

theorem row'_at (g : FVec Ideal S2x4096 .f32) (j : Fin 4096) : @Eq EReal (row' g (ix1 j)) (g (ix2 1 j)) := by
  pointwise [row']

theorem proj_at (x : FVec Ideal S8192x4096 .f32) (w : FVec Ideal S1x4096x10240 .f32) (i : Fin 8192) (j : Fin 10240) :
    @Eq EReal (proj x w (ix2 i j)) (OddIn.proj (fun i k => x (ix2 i k)) (fun k j => w (ix3 0 k j)) i j) := by
  pointwise [proj]
  rfl

theorem prod_at (x : FVec Ideal S8192x4096 .f32) (w : FVec Ideal S2x4096x11008 .f32) (i : Fin 8192) (j : Fin 11008) :
    @Eq EReal (prod x w (ix2 i j)) (∑ k, x (ix2 i k) * w (ix3 0 k j)) := by
  pointwise [prod]

theorem gate_at (x : FVec Ideal S8192x4096 .f32) (wg wu : FVec Ideal S2x4096x11008 .f32) (i : Fin 8192) (j : Fin 11008) :
    @Eq EReal (gate x wg wu (ix2 i j)) (GateUp.glued (fun i k => x (ix2 i k)) (fun k j => wg (ix3 0 k j)) (fun k j => wu (ix3 0 k j)) i j) := by
  have eg := prod_at x wg i j
  have eu := prod_at x wu i j
  unfold gate
  generalize prod x wg = pg at eg ⊢
  generalize prod x wu = pu at eu ⊢
  pointwise
  rw [eg, eu]
  rfl

theorem down_at (h : FVec Ideal S8192x4096 .f32) (a : FVec Ideal S8192x11008 .f32) (w : FVec Ideal S2x11008x4096 .f32) (i : Fin 8192) (j : Fin 4096) :
    @Eq EReal (down h a w (ix2 i j)) (Down.proj (fun i k => a (ix2 i k)) (fun k j => w (ix3 0 k j)) (fun i j => h (ix2 i j)) i j) := by
  pointwise [down]
  rfl

/-- The reference's lines of the residual stream, one after the other. -/
def stream (h : FVec Ideal S8192x4096 .f32) (x y : FVec Ideal S8192x2048 .bf16) (wo : FVec Ideal S1x4096x4096 .f32) (g : FVec Ideal S2x4096 .f32)
    (wg wu : FVec Ideal S2x4096x11008 .f32) (wd : FVec Ideal S2x11008x4096 .f32) : FVec Ideal S8192x4096 .f32 :=
  down (out h x y wo) (gate (norm (out h x y wo) (row g)) wg wu) wd

theorem stream_at (h : FVec Ideal S8192x4096 .f32) (x y : FVec Ideal S8192x2048 .bf16) (wo : FVec Ideal S1x4096x4096 .f32) (g : FVec Ideal S2x4096 .f32)
    (wg wu : FVec Ideal S2x4096x11008 .f32) (wd : FVec Ideal S2x11008x4096 .f32) (i : Fin 8192) (j : Fin 4096) :
    @Eq EReal (stream h x y wo g wg wu wd (ix2 i j))
      (Mid.stream (fun i j => h (ix2 i j)) (fun i k => x (ix2 i k)) (fun i k => y (ix2 i k)) (fun k j => wo (ix3 0 k j)) (fun j => g (ix2 0 j))
        (fun k j => wg (ix3 0 k j)) (fun k j => wu (ix3 0 k j)) (fun k j => wd (ix3 0 k j)) i j) := by
  have e1 : @Eq (Fin 8192 → Fin 4096 → EReal) (fun i j => out h x y wo (ix2 i j)) _ := funext fun i => funext fun j => out_at h x y wo i j
  have e2 : @Eq (Fin 4096 → EReal) (fun j => row g (ix1 j)) _ := funext fun j => row_at g j
  unfold stream Mid.stream
  generalize out h x y wo = r1 at e1 ⊢
  generalize row g = r2 at e2 ⊢
  have e3 : @Eq (Fin 8192 → Fin 4096 → EReal) (fun i j => norm r1 r2 (ix2 i j)) _ := funext fun i => funext fun j =>
    (norm_at r1 r2 i j).trans (congrFun (congrFun (congr (congrArg Norm.normed e1) e2) i) j)
  generalize norm r1 r2 = r3 at e3 ⊢
  have e4 : @Eq (Fin 8192 → Fin 11008 → EReal) (fun i j => gate r3 wg wu (ix2 i j)) _ := funext fun i => funext fun j =>
    (gate_at r3 wg wu i j).trans (congrFun (congrFun (congrFun (congrFun (congrArg GateUp.glued e3) _) _) i) j)
  generalize gate r3 wg wu = r4 at e4 ⊢
  exact (down_at r1 r4 wd i j).trans (congrFun (congrFun (congr (congrFun (congrArg Down.proj e4) _) e1) i) j)

/-- The next layer's projected activation, at any residual stream. -/
theorem next_at (h : FVec Ideal S8192x4096 .f32) (f : Fin 8192 → Fin 4096 → EReal) (hf : ∀ i j, @Eq EReal (h (ix2 i j)) (f i j))
    (g : FVec Ideal S2x4096 .f32) (w : FVec Ideal S1x4096x10240 .f32) (i : Fin 8192) (j : Fin 10240) :
    @Eq EReal (proj (norm h (row' g)) w (ix2 i j)) (Mid.next f (fun j => g (ix2 1 j)) (fun k j => w (ix3 0 k j)) i j) := by
  have e1 : @Eq (Fin 8192 → Fin 4096 → EReal) (fun i j => h (ix2 i j)) f := funext fun i => funext fun j => hf i j
  have e2 : @Eq (Fin 4096 → EReal) (fun j => row' g (ix1 j)) _ := funext fun j => row'_at g j
  unfold Mid.next
  generalize row' g = r2 at e2 ⊢
  have e3 : @Eq (Fin 8192 → Fin 4096 → EReal) (fun i j => norm h r2 (ix2 i j)) _ := funext fun i => funext fun j =>
    (norm_at h r2 i j).trans (congrFun (congrFun (congr (congrArg Norm.normed e1) e2) i) j)
  generalize norm h r2 = r3 at e3 ⊢
  exact (proj_at r3 w i j).trans (congrFun (congrFun (congrFun (congrArg OddIn.proj e3) _) i) j)

/-- The reference's first result at the arguments. -/
abbrev streamOf (m : (ℓ : Loc nD τ sig) → Buf (Elt Ideal) ℓ) (c : Dev nD) : FVec Ideal S8192x4096 .f32 :=
  stream (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

set_option maxHeartbeats 1000000 in
/-- The reference's first result is its lines, one after the other. -/
theorem res0_eq (m : (ℓ : Loc nD τ sig) → Buf (Elt Ideal) ℓ) (c : Dev nD) : Cert.RefMidIdeal.Value.res_out0 m c = streamOf m c := by
  unfold Cert.RefMidIdeal.Value.res_out0 Cert.RefMidIdeal.Value.res_main_v32 streamOf stream norm gate down prod row out
  rfl

set_option maxHeartbeats 1000000 in
/-- The reference's second result is its lines, one after the other. -/
theorem res1_eq (m : (ℓ : Loc nD τ sig) → Buf (Elt Ideal) ℓ) (c : Dev nD) : Cert.RefMidIdeal.Value.res_out1 m c
    = proj (norm (streamOf m c) (row' (m ((c.tc : Thread nD τ).loc main_arg8)))) (m ((c.tc : Thread nD τ).loc main_arg9)) := by
  unfold Cert.RefMidIdeal.Value.res_out1 Cert.RefMidIdeal.Value.res_main_v49 proj streamOf stream norm gate down prod row row' out
  rfl

end Mid.Ref

namespace Mid

open Cert.MidIdeal Cert.MidIdeal.Gen Idealize.ShloMosaic Idealize.ShloMosaic.TcCoe Idealize.SL.Sem

/-- The reference ends, with its arguments unchanged and its counters at zero. -/
theorem frame_reference : Cert.quiescent_RefMidIdeal := fun m ρ _ =>
  (θ_run Cert.RefMidIdeal.defs _ _).mono (fun r h => ⟨fun c => (h c).2.2, sem_eq_zero_of_no_sems (by decide) r.2⟩)
    (Cert.RefMidIdeal.Value.run m ρ)

/-- Kernel and reference have the same results: both hold the same functions of the arguments at every index. -/
theorem algebraic : Cert.algebraic_MidIdeal_RefMidIdeal := by
  intro m ρ m' ρ' _ hag
  refine ⟨_, _, run m ρ, ?_⟩
  refine (θ_run _ _ _).mono (fun r h c => ⟨(h c).1.trans ?_, (h c).2.1.trans ?_, (h c).2.2⟩) (Cert.RefMidIdeal.Value.run m' ρ')
  · refine (Ref.res0_eq m' c).trans ?_
    funext x
    obtain ⟨i, j, rfl⟩ : ∃ (i : Fin 8192) (j : Fin 4096), x = ix2 i j := ⟨x 0, x 1, ValueIdx.eq_ix2 x⟩
    refine Eq.trans ?_ (stream_at m ρ c i j).symm
    obtain ⟨h0, h1, h2, h3, h4, h5, h6, h7, h8, h9⟩ := hag c
    unfold Ref.streamOf
    rw [h0, h1, h2, h3, h4, h5, h6, h7]
    exact Ref.stream_at _ _ _ _ _ _ _ _ i j
  · refine (Ref.res1_eq m' c).trans ?_
    funext x
    obtain ⟨i, j, rfl⟩ : ∃ (i : Fin 8192) (j : Fin 10240), x = ix2 i j := ⟨x 0, x 1, ValueIdx.eq_ix2 x⟩
    refine Eq.trans ?_ (final_at m ρ c i j).symm
    obtain ⟨h0, h1, h2, h3, h4, h5, h6, h7, h8, h9⟩ := hag c
    unfold Ref.streamOf
    rw [h0, h1, h2, h3, h4, h5, h6, h7, h8, h9]
    exact Ref.next_at _ _ (fun i j => Ref.stream_at _ _ _ _ _ _ _ _ i j) _ _ i j

end Mid

end
-- ==== Proof.PrepTab.lean ====
/- The rotation tables the preparation's host code makes, at an index. -/
module

public import proofs.«01_k».proof.Defs
public import proofs.«01_k».proof.Proof.Gen.PrepIdeal.Frame.Runs
public import Idealize.ShloMosaic.Lib.Pipeline.ValueKit
public import Idealize.ShloMosaic.Lib.StableHlo.ReadAt

@[expose] public section

set_option maxRecDepth 16384

noncomputable section

namespace Prep

open Cert.PrepIdeal Cert.PrepIdeal.Gen Idealize.ShloMosaic Idealize.ShloMosaic.TcCoe Idealize.SL.Sem

/-- The angle of a position and a pair of dimensions; `r` is the number of rotated dimensions. -/
def ang (r : EReal) (i j : ℕ) : EReal :=
  FloatOps.sitofp (F := Ideal) FTy.f32 (BitVec.ofNat 32 i) * Ideal.pow (Ideal.ofBits FTy.f32 1223959552#32)
    (Ideal.div (-(Ideal.ofBits FTy.f32 1073741824#32 * FloatOps.sitofp (F := Ideal) FTy.f32 (BitVec.ofNat 32 j))) r)

/-- The three tables at dimension `e` of a head: the cosines, then the sines of the first half with the sign changed, then
    those of the second half. -/
def tab (n : ℕ) (r : EReal) (k : Fin 3) (i e : ℕ) : EReal :=
  if k.val = 0 then (if e < n then Ideal.cos (ang r i e) else if e < 2 * n then Ideal.cos (ang r i (e - n)) else 1)
  else if k.val = 1 then (if e < n then -Ideal.sin (ang r i e) else 0)
  else if e < n then 0 else if e < 2 * n then Ideal.sin (ang r i (e - n)) else 0

/-- The number of dimensions of an attention head that turn. -/
abbrev rA : EReal := Ideal.ofBits FTy.f32 1107296256#32

/-- The number of dimensions of an indexer head that turn. -/
abbrev rI : EReal := Ideal.ofBits FTy.f32 1098907648#32

/-- One dimension of a head whose first `2 * n` dimensions turn in pairs. -/
def turn (n : ℕ) (r : EReal) (x : ℕ → EReal) (i e : ℕ) : EReal :=
  if e < n then x e * Ideal.cos (ang r i e) - x (e + n) * Ideal.sin (ang r i e)
  else if e < 2 * n then x (e - n) * Ideal.sin (ang r i (e - n)) + x e * Ideal.cos (ang r i (e - n))
  else x e

/-- A rotation of one tile of lanes, written with two rolls and three tables. -/
def roll (n : Nat) (x : Fin 128 → EReal) (tab : Fin 3 → Fin 128 → EReal) (d : Fin 128) : EReal :=
  x d * tab 0 d + x ⟨(d.val + 128 - n) % 128, by omega⟩ * tab 2 d + x ⟨(d.val + n) % 128, by omega⟩ * tab 1 d

/-- With the three tables, the two rolls turn every head of the tile: where a roll would bring in a neighbour, its table
    holds a zero. -/
theorem roll_turn (n w : ℕ) (hn : 0 < n) (hw : 2 * n ≤ w) (hw' : w = 64 ∨ w = 128) (r : EReal) (i : ℕ) (x : ℕ → EReal) (d : Fin 128) :
    roll n (fun e => x e.val) (fun k e => tab n r k i (e.val % w)) d = turn n r (fun e => x (d.val / w * w + e)) i (d.val % w) := by
  have hd := d.isLt
  have h2 : (2 : Fin 3).val = 2 := rfl
  have h1 : (1 : Fin 3).val = 1 := rfl
  have h0 : (0 : Fin 3).val = 0 := rfl
  have e1 : d.val / w * w + d.val % w = d.val := by rcases hw' with rfl | rfl <;> omega
  unfold roll turn tab
  dsimp only
  simp only [h0, h1, h2, if_true, OfNat.ofNat_ne_zero, one_ne_zero, if_false, OfNat.ofNat_ne_one]
  by_cases ha : d.val % w < n
  · have e2 : (d.val + n) % 128 = d.val / w * w + (d.val % w + n) := by rcases hw' with rfl | rfl <;> omega
    rw [if_pos ha, if_pos ha, if_pos ha, if_pos ha, e1, e2, mul_zero, add_zero, mul_neg, sub_eq_add_neg]
  · rw [if_neg ha, if_neg ha, if_neg ha, if_neg ha, mul_zero, add_zero]
    by_cases hb : d.val % w < 2 * n
    · have e2 : (d.val + 128 - n) % 128 = d.val / w * w + (d.val % w - n) := by rcases hw' with rfl | rfl <;> omega
      rw [if_pos hb, if_pos hb, if_pos hb, e1, e2, add_comm]
    · rw [if_neg hb, if_neg hb, if_neg hb, mul_zero, add_zero, mul_one, e1]

variable (m : (ℓ : Loc nD τ sig) → Buf (Elt Ideal) ℓ) (c : Dev nD)

theorem V_a (k : Fin 3) (i : Fin 8192) (d : Fin 128) :
    @Eq EReal (V m c main_v38 (ix3 k i d)) (tab 16 rA k i.val d.val) := by
  unfold V
  simp only [List.flatten_cons, List.flatten_nil, List.append_nil, List.cons_append, List.nil_append, hostOps0]
  repeat after_reads_at
  unfold tab
  by_cases hk : k.val = 0
  · rw [dif_pos (by omega), if_pos hk]
    by_cases hd : d.val < 16
    · rw [dif_pos hd, if_pos hd]; rfl
    · rw [dif_neg hd, if_neg hd]
      by_cases hd' : d.val < 2 * 16
      · rw [dif_pos (by omega), if_pos hd']; rfl
      · rw [dif_neg (by omega), if_neg hd']
  · rw [dif_neg (by omega), if_neg hk]
    by_cases hk' : k.val = 1
    · rw [dif_pos (by omega), if_pos hk']
      by_cases hd : d.val < 16
      · rw [dif_pos hd, if_pos hd]; rfl
      · rw [dif_neg hd, if_neg hd]
    · rw [dif_neg (by omega), if_neg hk']
      by_cases hd : d.val < 16
      · rw [dif_pos hd, if_pos hd]
      · rw [dif_neg hd, if_neg hd]
        by_cases hd' : d.val < 2 * 16
        · rw [dif_pos (by omega), if_pos hd']; rfl
        · rw [dif_neg (by omega), if_neg hd']

theorem V_i (k : Fin 3) (i : Fin 8192) (d : Fin 128) :
    @Eq EReal (V m c main_v77 (ix3 k i d)) (tab 8 rI k i.val (d.val % 64)) := by
  unfold V
  simp only [List.flatten_cons, List.flatten_nil, List.append_nil, List.cons_append, List.nil_append, hostOps0]
  repeat after_reads_at
  unfold tab
  by_cases hk : k.val = 0
  · rw [dif_pos (by omega), if_pos hk]
    by_cases hd : d.val % 64 < 8
    · rw [dif_pos hd, if_pos hd]; rfl
    · rw [dif_neg hd, if_neg hd]
      by_cases hd' : d.val % 64 < 2 * 8
      · rw [dif_pos (by omega), if_pos hd']; rfl
      · rw [dif_neg (by omega), if_neg hd']
  · rw [dif_neg (by omega), if_neg hk]
    by_cases hk' : k.val = 1
    · rw [dif_pos (by omega), if_pos hk']
      by_cases hd : d.val % 64 < 8
      · rw [dif_pos hd, if_pos hd]; rfl
      · rw [dif_neg hd, if_neg hd]
    · rw [dif_neg (by omega), if_neg hk']
      by_cases hd : d.val % 64 < 8
      · rw [dif_pos hd, if_pos hd]
      · rw [dif_neg hd, if_neg hd]
        by_cases hd' : d.val % 64 < 2 * 8
        · rw [dif_pos (by omega), if_pos hd']; rfl
        · rw [dif_neg (by omega), if_neg hd']

end Prep

end
-- ==== Proof.PrepValue.lean ====
/- The sparse attention's preparation: what one step stores. -/
module

public import proofs.«01_k».proof.Defs
public import proofs.«01_k».proof.Proof.Gen.PrepIdeal.Value
public import proofs.«01_k».proof.Proof.PrepTab
public import Idealize.ShloMosaic.Lib.Pipeline.ValueKit

@[expose] public section

set_option maxRecDepth 16384

noncomputable section

namespace Prep

open Cert.PrepIdeal Cert.PrepIdeal.Gen Idealize.ShloMosaic Idealize.ShloMosaic.TcCoe Idealize.SL.Sem

theorem ix2_ext {n k : ℕ} {a a' : Fin n} {b b' : Fin k} (ha : a.val = a'.val) (hb : b.val = b'.val) : ix2 a b = ix2 a' b' := by
  rw [Fin.ext ha, Fin.ext hb]

theorem ix3_ext {l n k : ℕ} {e : Fin l} {a a' : Fin n} {b b' : Fin k} (ha : a.val = a'.val) (hb : b.val = b'.val) : ix3 e a b = ix3 e a' b' := by
  rw [Fin.ext ha, Fin.ext hb]

theorem three {a b c d e f a' b' c' d' e' f' : EReal} (ha : a = a') (hb : b = b') (hc : c = c') (hd : d = d') (he : e = e') (hf : f = f') :
    a * b + c * d + e * f = a' * b' + c' * d' + e' * f' := by
  rw [ha, hb, hc, hd, he, hf]

variable (m : (ℓ : Loc nD τ sig) → Buf (Elt Ideal) ℓ) (c : Dev nD)

theorem out5_at (t : Fin cfg0.N) (a : Fin 512) (b : Fin 512) :
    @Eq EReal ((outsAt0 m c t).2.1 (ix2 a b)) (roll 16 (fun e => X0_0 m c t (ix2 a (⟨2048 + b.val / 128 * 128 + e.val, by omega⟩ : Fin 5120))) (fun k e => iblk m c 2 t (ix3 k a e)) (⟨b.val % 128, by omega⟩ : Fin 128)) := by
  unfold outsAt0
  dsimp only
  generalize X0_0 m c t = x0
  generalize iblk m c 1 t = x1
  generalize iblk m c 2 t = x2
  generalize iblk m c 3 t = x3
  have hc := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix2 a b)
  unfold out0_A_5
  rw [View.read_writes_junk_eq_canon]
  unfold kernelRun0_A at hc ⊢
  canon_tiles x h using hc
  all_goals clear hc
  all_goals
    obtain ⟨p, q, rfl⟩ : ∃ p q, x = ix2 p q := ⟨x 0, x 1, ValueIdx.eq_ix2 x⟩
    change a.val = p.val at h0
    first | change b.val = _ + q.val at h1 | change b.val = q.val at h1
    have hp := p.isLt
    have hq := q.isLt
    clear x0_lt x1_lt
    sl_unfold_words
    try simp only [View.readAt_eq_ld, Memref.IsWhole.read_unread]
    open_payloads
    pointwise
    unfold roll
    dsimp only
    refine three (congrArg x0 (ix2_ext ?_ ?_)) (congrArg x2 (ix3_ext ?_ ?_)) (congrArg x0 (ix2_ext ?_ ?_)) (congrArg x2 (ix3_ext ?_ ?_)) (congrArg x0 (ix2_ext ?_ ?_)) (congrArg x2 (ix3_ext ?_ ?_)) <;> (try dsimp only) <;> omega

set_option maxHeartbeats 1000000 in
theorem out4_at (t : Fin cfg0.N) (a : Fin 512) (b : Fin 2048) :
    @Eq EReal ((outsAt0 m c t).1 (ix2 b a)) (roll 16 (fun e => X0_0 m c t (ix2 a (⟨b.val / 128 * 128 + e.val, by omega⟩ : Fin 5120))) (fun k e => iblk m c 2 t (ix3 k a e)) (⟨b.val % 128, by omega⟩ : Fin 128) * Ideal.ofBits .f32 0x3E0293EE#32) := by
  unfold outsAt0
  dsimp only
  generalize X0_0 m c t = x0
  generalize iblk m c 1 t = x1
  generalize iblk m c 2 t = x2
  generalize iblk m c 3 t = x3
  have hc := cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix2 b a)
  unfold out0_A_4
  rw [View.read_writes_junk_eq_canon]
  unfold kernelRun0_A at hc ⊢
  canon_tiles x h using hc
  all_goals clear hc
  all_goals
    obtain ⟨p, q, rfl⟩ : ∃ p q, x = ix2 p q := ⟨x 0, x 1, ValueIdx.eq_ix2 x⟩
    first | change b.val = _ + p.val at h0 | change b.val = p.val at h0
    change a.val = q.val at h1
    have hp := p.isLt
    have hq := q.isLt
    clear x0_lt x1_lt
    sl_unfold_words
    try simp only [View.readAt_eq_ld, Memref.IsWhole.read_unread]
    open_payloads
    pointwise
    unfold roll
    dsimp only
    refine congrArg (· * _) ?_
    refine three (congrArg x0 (ix2_ext ?_ ?_)) (congrArg x2 (ix3_ext ?_ ?_)) (congrArg x0 (ix2_ext ?_ ?_)) (congrArg x2 (ix3_ext ?_ ?_)) (congrArg x0 (ix2_ext ?_ ?_)) (congrArg x2 (ix3_ext ?_ ?_)) <;> (try dsimp only) <;> omega

theorem out6_at (t : Fin cfg0.N) (a : Fin 512) (b : Fin 576) :
    @Eq EReal ((outsAt0 m c t).2.2.1 (ix2 b a)) (if b.val % 144 < 128 then X0_0 m c t (ix2 a (⟨2560 + b.val / 144 * 128 + b.val % 144 % 128, by omega⟩ : Fin 5120)) else 1) := by
  unfold outsAt0
  dsimp only
  generalize X0_0 m c t = x0
  generalize iblk m c 1 t = x1
  generalize iblk m c 2 t = x2
  generalize iblk m c 3 t = x3
  have hc := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix2 b a)
  unfold out0_A_6
  rw [View.read_writes_junk_eq_canon]
  unfold kernelRun0_A at hc ⊢
  canon_tiles x h using hc
  all_goals clear hc
  all_goals
    obtain ⟨p, q, rfl⟩ : ∃ p q, x = ix2 p q := ⟨x 0, x 1, ValueIdx.eq_ix2 x⟩
    first | change b.val = _ + p.val at h0 | change b.val = p.val at h0
    change a.val = q.val at h1
    have hp := p.isLt
    have hq := q.isLt
    clear x0_lt x1_lt
    sl_unfold_words
    try simp only [View.readAt_eq_ld, Memref.IsWhole.read_unread]
    open_payloads
    pointwise
    first
      | rw [if_pos (by omega)]
        refine congrArg x0 (ix2_ext ?_ ?_) <;> (try dsimp only) <;> omega
      | rw [if_neg (by omega)]

set_option maxHeartbeats 1000000 in
theorem out7_at (t : Fin cfg0.N) (a : Fin 512) (b : Fin 2048) :
    @Eq EReal ((outsAt0 m c t).2.2.2.1 (ix2 b a)) (roll 8 (fun e => X0_0 m c t (ix2 a (⟨3072 + b.val / 128 * 128 + e.val, by omega⟩ : Fin 5120))) (fun k e => iblk m c 3 t (ix3 k a e)) (⟨b.val % 128, by omega⟩ : Fin 128)) := by
  unfold outsAt0
  dsimp only
  generalize X0_0 m c t = x0
  generalize iblk m c 1 t = x1
  generalize iblk m c 2 t = x2
  generalize iblk m c 3 t = x3
  have hc := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix2 b a)
  unfold out0_A_7
  rw [View.read_writes_junk_eq_canon]
  unfold kernelRun0_A at hc ⊢
  canon_tiles x h using hc
  all_goals clear hc
  all_goals
    obtain ⟨p, q, rfl⟩ : ∃ p q, x = ix2 p q := ⟨x 0, x 1, ValueIdx.eq_ix2 x⟩
    first | change b.val = _ + p.val at h0 | change b.val = p.val at h0
    change a.val = q.val at h1
    have hp := p.isLt
    have hq := q.isLt
    clear x0_lt x1_lt
    sl_unfold_words
    try simp only [View.readAt_eq_ld, Memref.IsWhole.read_unread]
    open_payloads
    pointwise
    unfold roll
    dsimp only
    refine three (congrArg x0 (ix2_ext ?_ ?_)) (congrArg x3 (ix3_ext ?_ ?_)) (congrArg x0 (ix2_ext ?_ ?_)) (congrArg x3 (ix3_ext ?_ ?_)) (congrArg x0 (ix2_ext ?_ ?_)) (congrArg x3 (ix3_ext ?_ ?_)) <;> (try dsimp only) <;> omega

theorem out8_at (t : Fin cfg0.N) (a : Fin 512) (b : Fin 128) :
    @Eq EReal ((outsAt0 m c t).2.2.2.2.1 (ix2 a b)) (roll 8 (fun e => iblk m c 1 t (ix2 a e)) (fun k e => iblk m c 3 t (ix3 k a e)) b) := by
  unfold outsAt0
  dsimp only
  generalize X0_0 m c t = x0
  generalize iblk m c 1 t = x1
  generalize iblk m c 2 t = x2
  generalize iblk m c 3 t = x3
  have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix2 a b)
  unfold out0_A_8
  rw [View.read_writes_junk_eq_canon]
  unfold kernelRun0_A at hc ⊢
  canon_tiles x h using hc
  all_goals clear hc
  all_goals
    obtain ⟨p, q, rfl⟩ : ∃ p q, x = ix2 p q := ⟨x 0, x 1, ValueIdx.eq_ix2 x⟩
    change a.val = p.val at h0
    first | change b.val = _ + q.val at h1 | change b.val = q.val at h1
    have hp := p.isLt
    have hq := q.isLt
    clear x0_lt x1_lt
    sl_unfold_words
    try simp only [View.readAt_eq_ld, Memref.IsWhole.read_unread]
    open_payloads
    pointwise
    unfold roll
    dsimp only
    refine three (congrArg x1 (ix2_ext ?_ ?_)) (congrArg x3 (ix3_ext ?_ ?_)) (congrArg x1 (ix2_ext ?_ ?_)) (congrArg x3 (ix3_ext ?_ ?_)) (congrArg x1 (ix2_ext ?_ ?_)) (congrArg x3 (ix3_ext ?_ ?_)) <;> (try dsimp only) <;> omega

theorem out9_at (t : Fin cfg0.N) (a : Fin 512) (b : Fin 128) :
    @Eq EReal ((outsAt0 m c t).2.2.2.2.2 (ix2 b a)) (@HMul.hMul EReal EReal EReal _ (iblk m c 1 t (ix2 a b)) (Ideal.ofBits .f32 0x3CB504F3#32)) := by
  unfold outsAt0
  dsimp only
  generalize X0_0 m c t = x0
  generalize iblk m c 1 t = x1
  generalize iblk m c 2 t = x2
  generalize iblk m c 3 t = x3
  have hc := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix2 b a)
  unfold out0_A_9
  rw [View.read_writes_junk_eq_canon]
  unfold kernelRun0_A at hc ⊢
  canon_tiles x h using hc
  all_goals clear hc
  all_goals
    obtain ⟨p, q, rfl⟩ : ∃ p q, x = ix2 p q := ⟨x 0, x 1, ValueIdx.eq_ix2 x⟩
    first | change b.val = _ + p.val at h0 | change b.val = p.val at h0
    change a.val = q.val at h1
    have hp := p.isLt
    have hq := q.isLt
    clear x0_lt x1_lt
    sl_unfold_words
    try simp only [View.readAt_eq_ld, Memref.IsWhole.read_unread]
    open_payloads
    pointwise
    refine congrArg (· * _) (congrArg x1 (ix2_ext ?_ ?_)) <;> omega

end Prep

end
-- ==== Proof.PrepRef.lean ====
/- What the reference's preparation computes, at an index. -/
module

public import proofs.«01_k».proof.Defs
public import proofs.«01_k».proof.Proof.PrepTab
public import proofs.«01_k».proof.Proof.Gen.RefPrepIdeal.Run
public import Idealize.ShloMosaic.Lib.Pipeline.ValueKit

@[expose] public section

set_option maxRecDepth 16384

noncomputable section

namespace Prep

open Cert.RefPrepIdeal Idealize.ShloMosaic Idealize.ShloMosaic.TcCoe Idealize.SL.Sem

variable (m : (ℓ : Loc nD τ sig) → Buf (Elt Ideal) ℓ) (c : Dev nD)

/-- The reference's argument at a row and a column. -/
def rz (i : Fin 8192) (j : ℕ) : EReal :=
  if h : j < 11776 then m ((c : Thread nD τ).loc main_arg0) (ix2 i (⟨j, h⟩ : Fin 11776)) else 0

theorem rz_eq (i : Fin 8192) (j : ℕ) (h : j < 11776) : @Eq EReal (m ((c : Thread nD τ).loc main_arg0) (ix2 i (⟨j, h⟩ : Fin 11776))) (rz m c i j) := by
  unfold rz
  rw [dif_pos h]

theorem ref0 (b : Fin 2048) (i : Fin 8192) : @Eq EReal (Value.res_out0 m c (ix2 b i)) (turn 16 rA (fun e => rz m c i (0 + (b.val / 128 * 128 + e))) i.val (b.val % 128) * Ideal.ofBits .f32 0x3E0293EE#32) := by
  unfold Value.res_out0 Value.res_main_v144
  pointwise
  refine congrArg (· * _) ?_
  unfold turn
  dsimp only
  by_cases ha : b.val % 128 < 16
  · refine (dif_pos ha).trans (Eq.trans ?_ (if_pos ha).symm)
    refine congrArg₂ (· - ·) (congrArg₂ (· * ·) ((rz_eq m c i _ _).trans (congrArg (rz m c i) ?_)) rfl) (congrArg₂ (· * ·) ((rz_eq m c i _ _).trans (congrArg (rz m c i) ?_)) rfl) <;> omega
  · refine (dif_neg ha).trans (Eq.trans ?_ (if_neg ha).symm)
    by_cases hb : b.val % 128 < 2 * 16
    · refine (dif_pos (by omega)).trans (Eq.trans ?_ (if_pos hb).symm)
      refine congrArg₂ (· + ·) (congrArg₂ (· * ·) ((rz_eq m c i _ _).trans (congrArg (rz m c i) ?_)) rfl) (congrArg₂ (· * ·) ((rz_eq m c i _ _).trans (congrArg (rz m c i) ?_)) rfl) <;> omega
    · refine (dif_neg (by omega)).trans (Eq.trans ?_ (if_neg hb).symm)
      exact (rz_eq m c i _ _).trans (congrArg (rz m c i) (by omega))

theorem ref1 (b : Fin 512) (i : Fin 8192) : @Eq EReal (Value.res_out1 m c (ix2 i b)) (turn 16 rA (fun e => rz m c i (2048 + (b.val / 128 * 128 + e))) i.val (b.val % 128)) := by
  unfold Value.res_out1 Value.res_main_v137
  pointwise
  unfold turn
  dsimp only
  by_cases ha : b.val % 128 < 16
  · refine (dif_pos ha).trans (Eq.trans ?_ (if_pos ha).symm)
    refine congrArg₂ (· - ·) (congrArg₂ (· * ·) ((rz_eq m c i _ _).trans (congrArg (rz m c i) ?_)) rfl) (congrArg₂ (· * ·) ((rz_eq m c i _ _).trans (congrArg (rz m c i) ?_)) rfl) <;> omega
  · refine (dif_neg ha).trans (Eq.trans ?_ (if_neg ha).symm)
    by_cases hb : b.val % 128 < 2 * 16
    · refine (dif_pos (by omega)).trans (Eq.trans ?_ (if_pos hb).symm)
      refine congrArg₂ (· + ·) (congrArg₂ (· * ·) ((rz_eq m c i _ _).trans (congrArg (rz m c i) ?_)) rfl) (congrArg₂ (· * ·) ((rz_eq m c i _ _).trans (congrArg (rz m c i) ?_)) rfl) <;> omega
    · refine (dif_neg (by omega)).trans (Eq.trans ?_ (if_neg hb).symm)
      exact (rz_eq m c i _ _).trans (congrArg (rz m c i) (by omega))

theorem ref3 (b : Fin 2048) (i : Fin 8192) : @Eq EReal (Value.res_out3 m c (ix2 b i)) (turn 8 rI (fun e => rz m c i (3072 + (b.val / 64 * 64 + e))) i.val (b.val % 64)) := by
  unfold Value.res_out3 Value.res_main_v146
  pointwise
  unfold turn
  dsimp only
  by_cases ha : b.val % 64 < 8
  · refine (dif_pos ha).trans (Eq.trans ?_ (if_pos ha).symm)
    refine congrArg₂ (· - ·) (congrArg₂ (· * ·) ((rz_eq m c i _ _).trans (congrArg (rz m c i) ?_)) rfl) (congrArg₂ (· * ·) ((rz_eq m c i _ _).trans (congrArg (rz m c i) ?_)) rfl) <;> omega
  · refine (dif_neg ha).trans (Eq.trans ?_ (if_neg ha).symm)
    by_cases hb : b.val % 64 < 2 * 8
    · refine (dif_pos (by omega)).trans (Eq.trans ?_ (if_pos hb).symm)
      refine congrArg₂ (· + ·) (congrArg₂ (· * ·) ((rz_eq m c i _ _).trans (congrArg (rz m c i) ?_)) rfl) (congrArg₂ (· * ·) ((rz_eq m c i _ _).trans (congrArg (rz m c i) ?_)) rfl) <;> omega
    · refine (dif_neg (by omega)).trans (Eq.trans ?_ (if_neg hb).symm)
      exact (rz_eq m c i _ _).trans (congrArg (rz m c i) (by omega))

theorem ref4 (b : Fin 128) (i : Fin 8192) : @Eq EReal (Value.res_out4 m c (ix2 i b)) (turn 8 rI (fun e => rz m c i (5120 + (b.val / 64 * 64 + e))) i.val (b.val % 64)) := by
  unfold Value.res_out4 Value.res_main_v143
  pointwise
  unfold turn
  dsimp only
  by_cases ha : b.val % 64 < 8
  · refine (dif_pos ha).trans (Eq.trans ?_ (if_pos ha).symm)
    refine congrArg₂ (· - ·) (congrArg₂ (· * ·) ((rz_eq m c i _ _).trans (congrArg (rz m c i) ?_)) rfl) (congrArg₂ (· * ·) ((rz_eq m c i _ _).trans (congrArg (rz m c i) ?_)) rfl) <;> omega
  · refine (dif_neg ha).trans (Eq.trans ?_ (if_neg ha).symm)
    by_cases hb : b.val % 64 < 2 * 8
    · refine (dif_pos (by omega)).trans (Eq.trans ?_ (if_pos hb).symm)
      refine congrArg₂ (· + ·) (congrArg₂ (· * ·) ((rz_eq m c i _ _).trans (congrArg (rz m c i) ?_)) rfl) (congrArg₂ (· * ·) ((rz_eq m c i _ _).trans (congrArg (rz m c i) ?_)) rfl) <;> omega
    · refine (dif_neg (by omega)).trans (Eq.trans ?_ (if_neg hb).symm)
      exact (rz_eq m c i _ _).trans (congrArg (rz m c i) (by omega))

open Cert.RefPrepIdeal.Gen in
theorem ref2 (b : Fin 576) (i : Fin 8192) : @Eq EReal ((transpose S576x8192 [1, 0] (truncf (F := Ideal) .bf16 (shapeCast _ (concatenate S1x8192x4x144 3 [⟨S1x8192x4x128, (shapeCast _ (extractStridedSlice S1x8192x512 ![0, 0, 2560] (broadcastInDim S1x8192x11776 ![1, 2] bcast_S8192x11776_S1x8192x11776_1_2 (m ((c.tc : Thread nD τ).loc main_arg0) : FVec Ideal S8192x11776 .f32)) slices_S1x8192x11776_S1x8192x512_0_0_2560) shapeCasts_S1x8192x512_S1x8192x4x128)⟩, ⟨S1x8192x4x16, (broadcastInDim S1x8192x4x16 ![] bcast_S_S1x8192x4x16 (constant S_ .f32 0x3F800000#32))⟩] concatenates_S1x8192x4x128_S1x8192x4x16_S1x8192x4x144_d3) shapeCasts_S1x8192x4x144_S8192x576) bitsLt_bf16_f32) transposes_S8192x576_S576x8192_1_0) (ix2 b i)) (if b.val % 144 < 128 then rz m c i (2560 + (b.val / 144 * 128 + b.val % 144)) else 1) := by
  pointwise
  by_cases h : b.val % 144 < 128
  · rw [dif_pos h, if_pos h]
    exact (rz_eq m c i _ _).trans (congrArg (rz m c i) (by omega))
  · rw [dif_neg h, if_neg h]

open Cert.RefPrepIdeal.Gen in
theorem ref5 (b : Fin 128) (i : Fin 8192) : @Eq EReal ((transpose S128x8192 [1, 0] (shapeCast _ (mulf (F := Ideal) (extractStridedSlice S1x8192x128 ![0, 0, 5120] (broadcastInDim S1x8192x11776 ![1, 2] bcast_S8192x11776_S1x8192x11776_1_2 (m ((c.tc : Thread nD τ).loc main_arg0) : FVec Ideal S8192x11776 .f32)) slices_S1x8192x11776_S1x8192x128_0_0_5120) (broadcastInDim S1x8192x128 ![] bcast_S_S1x8192x128 (constant S_ .f32 0x3CB504F3#32))) shapeCasts_S1x8192x128_S8192x128) transposes_S8192x128_S128x8192_1_0) (ix2 b i)) (rz m c i (5120 + b.val) * Ideal.ofBits .f32 0x3CB504F3#32) := by
  pointwise
  exact congrArg (· * _) ((rz_eq m c i _ _).trans (congrArg (rz m c i) (by omega)))

end Prep

end
-- ==== Proof.Prep.lean ====
/- The sparse attention's preparation: the rotated queries and keys, the values, and the indexer's queries, keys and weights are the reference's. -/
module

public import proofs.«01_k».proof.Proof.PrepValue
public import proofs.«01_k».proof.Proof.PrepRef
public import Idealize.ShloMosaic.Lib.Quiescent

@[expose] public section

set_option maxRecDepth 16384

noncomputable section

namespace Prep

open Cert.PrepIdeal Cert.PrepIdeal.Gen Idealize.ShloMosaic Idealize.ShloMosaic.TcCoe Idealize.SL.Sem

theorem roll_congr (n : ℕ) {x x' : Fin 128 → EReal} {T T' : Fin 3 → Fin 128 → EReal} (hx : ∀ e, x e = x' e) (hT : ∀ k e, T k e = T' k e)
    (d : Fin 128) : roll n x T d = roll n x' T' d := by
  rw [funext hx, funext fun k => funext (hT k)]

theorem turn_congr (n : ℕ) (r : EReal) {x x' : ℕ → EReal} (hx : ∀ e, x e = x' e) (i : ℕ) {e e' : ℕ} (he : e = e') :
    turn n r x i e = turn n r x' i e' := by
  rw [funext hx, he]

variable (m : (ℓ : Loc nD τ sig) → Buf (Elt Ideal) ℓ) (c : Dev nD)

/-- The kernel's argument at a row and a column. -/
def kz (i : Fin 8192) (j : ℕ) : EReal :=
  if h : j < 11776 then m ((c : Thread nD τ).loc main_arg0) (ix2 i (⟨j, h⟩ : Fin 11776)) else 0

/-- The block that each window holds at a step. -/
theorem idx : ∀ t : Fin cfg0.N, win0_0.index t = ![t.val, 0] ∧ win0_1.index t = ![t.val, 40] ∧ win0_2.index t = ![0, t.val, 0]
    ∧ win0_3.index t = ![0, t.val, 0] ∧ win0_4.index t = ![0, t.val] ∧ win0_5.index t = ![t.val, 0] ∧ win0_6.index t = ![0, t.val]
    ∧ win0_7.index t = ![0, t.val] ∧ win0_8.index t = ![t.val, 0] ∧ win0_9.index t = ![0, t.val] :=
  (by decide +kernel : ∀ t : Fin grid0.N, _)

/-- The step that computes a row, and the row of its block. -/
theorem step (i : Fin 8192) : ∃ t : Fin cfg0.N, t.val = i.val / 512 :=
  ⟨⟨i.val / 512, by rw [show cfg0.N = 16 from N_0]; have := i.isLt; omega⟩, rfl⟩

abbrev rowIn (i : Fin 8192) : Fin 512 := ⟨i.val % 512, by omega⟩

variable (t : Fin cfg0.N) (i : Fin 8192) (ht : t.val = i.val / 512)

include ht

theorem in0 (j : Fin 5120) : @Eq EReal (X0_0 m c t (ix2 (rowIn i) j)) (kz m c i j.val) := by
  have hj := j.isLt
  have hi := i.isLt
  unfold kz
  rw [dif_pos (by omega), ← V_main_arg0 m c]
  unfold X0_0 Pipeline.Window.fill
  rw [dif_pos (moved0_0 t _)]
  blk_ext [iblk, idx t]

theorem in1 (j : Fin 128) : @Eq EReal (iblk m c 1 t (ix2 (rowIn i) j)) (kz m c i (5120 + j.val)) := by
  have hj := j.isLt
  have hi := i.isLt
  unfold kz
  rw [dif_pos (by omega), ← V_main_arg0 m c]
  blk_ext [iblk, idx t]

theorem in2 (k : Fin 3) (j : Fin 128) : @Eq EReal (iblk m c 2 t (ix3 k (rowIn i) j)) (tab 16 rA k i.val (j.val % 128)) := by
  have hj := j.isLt
  have hi := i.isLt
  rw [Nat.mod_eq_of_lt hj]
  refine Eq.trans ?_ (V_a m c k i j)
  blk_ext [iblk, idx t]

theorem in3 (k : Fin 3) (j : Fin 128) : @Eq EReal (iblk m c 3 t (ix3 k (rowIn i) j)) (tab 8 rI k i.val (j.val % 64)) := by
  have hj := j.isLt
  have hi := i.isLt
  refine Eq.trans ?_ (V_i m c k i j)
  blk_ext [iblk, idx t]

omit ht

theorem final0 (b : Fin 2048) (i : Fin 8192) :
    @Eq EReal ((Gen.dats m 0 c).arrAt 4 cfg0.N (ix2 b i)) (turn 16 rA (fun e => kz m c i (0 + (b.val / 128 * 128 + e))) i.val (b.val % 128) * Ideal.ofBits .f32 0x3E0293EE#32) := by
  obtain ⟨t, ht⟩ := step i
  have hi := i.isLt
  have hb := b.isLt
  have h := congrFun (Value.blocks4 m c t (flush0_4 t)) (ix2 b (rowIn i))
  rw [Value.flushed4] at h
  refine Eq.trans ?_ (h.trans ?_)
  · blk_ext [idx t]
  · show (outsAt0 m c t).1 (ix2 b (rowIn i)) = _
    refine (out4_at m c t (rowIn i) b).trans ?_
    refine congrArg (· * _) ?_
    refine (roll_congr 16 (x' := fun e => kz m c i (b.val / 128 * 128 + e.val)) (fun e => in0 m c t i ht _) (fun k e => in2 m c t i ht k e) _).trans ?_
    refine (roll_turn 16 128 (by omega) (by omega) (by omega) rA i.val (fun e => kz m c i (b.val / 128 * 128 + e)) _).trans ?_
    refine turn_congr _ _ (fun e => congrArg (kz m c i) ?_) _ ?_ <;> dsimp only <;> omega

theorem final1 (b : Fin 512) (i : Fin 8192) :
    @Eq EReal ((Gen.dats m 0 c).arrAt 5 cfg0.N (ix2 i b)) (turn 16 rA (fun e => kz m c i (2048 + (b.val / 128 * 128 + e))) i.val (b.val % 128)) := by
  obtain ⟨t, ht⟩ := step i
  have hi := i.isLt
  have hb := b.isLt
  have h := congrFun (Value.blocks5 m c t (flush0_5 t)) (ix2 (rowIn i) b)
  rw [Value.flushed5] at h
  refine Eq.trans ?_ (h.trans ?_)
  · blk_ext [idx t]
  · show (outsAt0 m c t).2.1 (ix2 (rowIn i) b) = _
    refine (out5_at m c t (rowIn i) b).trans ?_
    refine (roll_congr 16 (x' := fun e => kz m c i (2048 + b.val / 128 * 128 + e.val)) (fun e => in0 m c t i ht _) (fun k e => in2 m c t i ht k e) _).trans ?_
    refine (roll_turn 16 128 (by omega) (by omega) (by omega) rA i.val (fun e => kz m c i (2048 + b.val / 128 * 128 + e)) _).trans ?_
    refine turn_congr _ _ (fun e => congrArg (kz m c i) ?_) _ ?_ <;> dsimp only <;> omega

theorem final2 (b : Fin 576) (i : Fin 8192) :
    @Eq EReal ((Gen.dats m 0 c).arrAt 6 cfg0.N (ix2 b i)) (if b.val % 144 < 128 then kz m c i (2560 + (b.val / 144 * 128 + b.val % 144)) else 1) := by
  obtain ⟨t, ht⟩ := step i
  have hi := i.isLt
  have hb := b.isLt
  have h := congrFun (Value.blocks6 m c t (flush0_6 t)) (ix2 b (rowIn i))
  rw [Value.flushed6] at h
  refine Eq.trans ?_ (h.trans ?_)
  · blk_ext [idx t]
  · show (outsAt0 m c t).2.2.1 (ix2 b (rowIn i)) = _
    refine (out6_at m c t (rowIn i) b).trans ?_
    by_cases h : b.val % 144 < 128
    · rw [if_pos h, if_pos h]
      refine (in0 m c t i ht _).trans (congrArg (kz m c i) ?_)
      dsimp only
      omega
    · rw [if_neg h, if_neg h]

theorem final3 (b : Fin 2048) (i : Fin 8192) :
    @Eq EReal ((Gen.dats m 0 c).arrAt 7 cfg0.N (ix2 b i)) (turn 8 rI (fun e => kz m c i (3072 + (b.val / 64 * 64 + e))) i.val (b.val % 64)) := by
  obtain ⟨t, ht⟩ := step i
  have hi := i.isLt
  have hb := b.isLt
  have h := congrFun (Value.blocks7 m c t (flush0_7 t)) (ix2 b (rowIn i))
  rw [Value.flushed7] at h
  refine Eq.trans ?_ (h.trans ?_)
  · blk_ext [idx t]
  · show (outsAt0 m c t).2.2.2.1 (ix2 b (rowIn i)) = _
    refine (out7_at m c t (rowIn i) b).trans ?_
    refine (roll_congr 8 (x' := fun e => kz m c i (3072 + b.val / 128 * 128 + e.val)) (fun e => in0 m c t i ht _) (fun k e => in3 m c t i ht k e) _).trans ?_
    refine (roll_turn 8 64 (by omega) (by omega) (by omega) rI i.val (fun e => kz m c i (3072 + b.val / 128 * 128 + e)) _).trans ?_
    refine turn_congr _ _ (fun e => congrArg (kz m c i) ?_) _ ?_ <;> dsimp only <;> omega

theorem final4 (b : Fin 128) (i : Fin 8192) :
    @Eq EReal ((Gen.dats m 0 c).arrAt 8 cfg0.N (ix2 i b)) (turn 8 rI (fun e => kz m c i (5120 + (b.val / 64 * 64 + e))) i.val (b.val % 64)) := by
  obtain ⟨t, ht⟩ := step i
  have hi := i.isLt
  have hb := b.isLt
  have h := congrFun (Value.blocks8 m c t (flush0_8 t)) (ix2 (rowIn i) b)
  rw [Value.flushed8] at h
  refine Eq.trans ?_ (h.trans ?_)
  · blk_ext [idx t]
  · show (outsAt0 m c t).2.2.2.2.1 (ix2 (rowIn i) b) = _
    refine (out8_at m c t (rowIn i) b).trans ?_
    refine (roll_congr 8 (x' := fun e => kz m c i (5120 + e.val)) (fun e => in1 m c t i ht _) (fun k e => in3 m c t i ht k e) _).trans ?_
    exact roll_turn 8 64 (by omega) (by omega) (by omega) rI i.val (fun e => kz m c i (5120 + e)) b

theorem final5 (b : Fin 128) (i : Fin 8192) :
    @Eq EReal ((Gen.dats m 0 c).arrAt 9 cfg0.N (ix2 b i)) (kz m c i (5120 + b.val) * Ideal.ofBits .f32 0x3CB504F3#32) := by
  obtain ⟨t, ht⟩ := step i
  have hi := i.isLt
  have hb := b.isLt
  have h := congrFun (Value.blocks9 m c t (flush0_9 t)) (ix2 b (rowIn i))
  rw [Value.flushed9] at h
  refine Eq.trans ?_ (h.trans ?_)
  · blk_ext [idx t]
  · show (outsAt0 m c t).2.2.2.2.2 (ix2 b (rowIn i)) = _
    refine (out9_at m c t (rowIn i) b).trans ?_
    exact congrArg (· * _) (in1 m c t i ht b)

/-- The reference ends, with its argument unchanged and its counters at zero. -/
theorem frame_reference : Cert.quiescent_RefPrepIdeal := fun m ρ _ =>
  (θ_run Cert.RefPrepIdeal.defs _ _).mono (fun r h => ⟨fun c => (h c).2.2.2.2.2.2, sem_eq_zero_of_no_sems (by decide) r.2⟩)
    (Cert.RefPrepIdeal.Value.run m ρ)

/-- Kernel and reference have the same six results: both hold the same functions of the argument at every index. -/
theorem algebraic : Cert.algebraic_PrepIdeal_RefPrepIdeal := by
  intro m ρ m' ρ' _ hag
  refine ⟨_, _, _, _, _, _, Value.run_blocks m ρ, ?_⟩
  refine (θ_run _ _ _).mono (fun r h c => ?_) (Cert.RefPrepIdeal.Value.run m' ρ')
  have hz : ∀ i j, rz m' c i j = kz m c i j := by
    intro i j
    unfold rz kz
    rw [hag c]
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩
  · funext x
    obtain ⟨b, i, rfl⟩ : ∃ (b : Fin 2048) (i : Fin 8192), x = ix2 b i := ⟨x 0, x 1, ValueIdx.eq_ix2 x⟩
    refine (ref0 m' c b i).trans (Eq.trans ?_ (final0 m c b i).symm)
    simp only [hz]
  · funext x
    obtain ⟨i, b, rfl⟩ : ∃ (i : Fin 8192) (b : Fin 512), x = ix2 i b := ⟨x 0, x 1, ValueIdx.eq_ix2 x⟩
    refine (ref1 m' c b i).trans (Eq.trans ?_ (final1 m c b i).symm)
    simp only [hz]
  · funext x
    obtain ⟨b, i, rfl⟩ : ∃ (b : Fin 576) (i : Fin 8192), x = ix2 b i := ⟨x 0, x 1, ValueIdx.eq_ix2 x⟩
    refine (ref2 m' c b i).trans (Eq.trans ?_ (final2 m c b i).symm)
    simp only [hz]
  · funext x
    obtain ⟨b, i, rfl⟩ : ∃ (b : Fin 2048) (i : Fin 8192), x = ix2 b i := ⟨x 0, x 1, ValueIdx.eq_ix2 x⟩
    refine (ref3 m' c b i).trans (Eq.trans ?_ (final3 m c b i).symm)
    simp only [hz]
  · funext x
    obtain ⟨i, b, rfl⟩ : ∃ (i : Fin 8192) (b : Fin 128), x = ix2 i b := ⟨x 0, x 1, ValueIdx.eq_ix2 x⟩
    refine (ref4 m' c b i).trans (Eq.trans ?_ (final4 m c b i).symm)
    simp only [hz]
  · funext x
    obtain ⟨b, i, rfl⟩ : ∃ (b : Fin 128) (i : Fin 8192), x = ix2 b i := ⟨x 0, x 1, ValueIdx.eq_ix2 x⟩
    refine (ref5 m' c b i).trans (Eq.trans ?_ (final5 m c b i).symm)
    simp only [hz]

end Prep

end
-- ==== Proof.lean ====
module

public import proofs.«01_k».proof.Defs
public import proofs.«01_k».proof.Proof.Claims
public import proofs.«01_k».proof.Proof.GateUp
public import proofs.«01_k».proof.Proof.Down
public import proofs.«01_k».proof.Proof.OutProj
public import proofs.«01_k».proof.Proof.EvenIn
public import proofs.«01_k».proof.Proof.OddIn
public import proofs.«01_k».proof.Proof.Glu
public import proofs.«01_k».proof.Proof.Norm
public import proofs.«01_k».proof.Proof.LoraIn
public import proofs.«01_k».proof.Proof.Tail
public import proofs.«01_k».proof.Proof.Mid
public import proofs.«01_k».proof.Proof.Prep
public import proofs.«01_k».proof.Proof.Gen.Kernel
public import proofs.«01_k».proof.Proof.Gen.KernelIdeal
public import proofs.«01_k».proof.Proof.Gen.ReferenceIdeal
public import proofs.«01_k».proof.Proof.Gen.Pre_finite_qkv
public import proofs.«01_k».proof.Proof.Gen.GateUp
public import proofs.«01_k».proof.Proof.Gen.GateUp.Frame
public import proofs.«01_k».proof.Proof.Gen.GateUpIdeal
public import proofs.«01_k».proof.Proof.Gen.RefGateUpIdeal
public import proofs.«01_k».proof.Proof.Gen.Down
public import proofs.«01_k».proof.Proof.Gen.Down.Frame
public import proofs.«01_k».proof.Proof.Gen.DownIdeal
public import proofs.«01_k».proof.Proof.Gen.RefDownIdeal
public import proofs.«01_k».proof.Proof.Gen.OutProj
public import proofs.«01_k».proof.Proof.Gen.OutProj.Frame
public import proofs.«01_k».proof.Proof.Gen.OutProjIdeal
public import proofs.«01_k».proof.Proof.Gen.RefOutProjIdeal
public import proofs.«01_k».proof.Proof.Gen.EvenIn
public import proofs.«01_k».proof.Proof.Gen.EvenIn.Frame
public import proofs.«01_k».proof.Proof.Gen.EvenInIdeal
public import proofs.«01_k».proof.Proof.Gen.RefEvenInIdeal
public import proofs.«01_k».proof.Proof.Gen.OddIn
public import proofs.«01_k».proof.Proof.Gen.OddIn.Frame
public import proofs.«01_k».proof.Proof.Gen.OddInIdeal
public import proofs.«01_k».proof.Proof.Gen.RefOddInIdeal
public import proofs.«01_k».proof.Proof.Gen.Glu
public import proofs.«01_k».proof.Proof.Gen.Glu.Frame
public import proofs.«01_k».proof.Proof.Gen.GluIdeal
public import proofs.«01_k».proof.Proof.Gen.RefGluIdeal
public import proofs.«01_k».proof.Proof.Gen.Norm
public import proofs.«01_k».proof.Proof.Gen.Norm.Frame
public import proofs.«01_k».proof.Proof.Gen.NormIdeal
public import proofs.«01_k».proof.Proof.Gen.RefNormIdeal
public import proofs.«01_k».proof.Proof.Gen.LoraIn
public import proofs.«01_k».proof.Proof.Gen.LoraIn.Frame
public import proofs.«01_k».proof.Proof.Gen.LoraInIdeal
public import proofs.«01_k».proof.Proof.Gen.LoraInIdeal.Value
public import proofs.«01_k».proof.Proof.Gen.RefLoraInIdeal
public import proofs.«01_k».proof.Proof.Gen.RefLoraInIdeal.Run
public import proofs.«01_k».proof.Proof.Gen.Tail
public import proofs.«01_k».proof.Proof.Gen.Tail.Frame
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.RefPrepIdeal
public import proofs.«01_k».proof.Proof.Gen.RefPrepIdeal.Run
public import proofs.«01_k».proof.Proof.Gen.Mid
public import proofs.«01_k».proof.Proof.Gen.Mid.Frame
public import proofs.«01_k».proof.Proof.Gen.MidIdeal
public import proofs.«01_k».proof.Proof.Gen.MidIdeal.Frame
public import proofs.«01_k».proof.Proof.Gen.RefMidIdeal
public import proofs.«01_k».proof.Proof.Gen.RefMidIdeal.Run
public import proofs.«01_k».proof.Proof.Gen.TailIdeal
public import proofs.«01_k».proof.Proof.Gen.TailIdeal.Frame
public import proofs.«01_k».proof.Proof.Gen.RefTailIdeal
public import proofs.«01_k».proof.Proof.Gen.RefTailIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.GateUp.Gen.facts, Cert.GateUpIdeal.Gen.facts, Cert.RefGateUpIdeal.Gen.facts,
    Cert.Down.Gen.facts, Cert.DownIdeal.Gen.facts, Cert.RefDownIdeal.Gen.facts,
    Cert.OutProj.Gen.facts, Cert.OutProjIdeal.Gen.facts, Cert.RefOutProjIdeal.Gen.facts,
    Cert.EvenIn.Gen.facts, Cert.EvenInIdeal.Gen.facts, Cert.RefEvenInIdeal.Gen.facts,
    Cert.OddIn.Gen.facts, Cert.OddInIdeal.Gen.facts, Cert.RefOddInIdeal.Gen.facts,
    Cert.Glu.Gen.facts, Cert.GluIdeal.Gen.facts, Cert.RefGluIdeal.Gen.facts,
    Cert.Norm.Gen.facts, Cert.NormIdeal.Gen.facts, Cert.RefNormIdeal.Gen.facts,
    Cert.LoraIn.Gen.facts, Cert.LoraInIdeal.Gen.facts, Cert.RefLoraInIdeal.Gen.facts,
    Cert.Tail.Gen.facts, Cert.TailIdeal.Gen.facts, Cert.RefTailIdeal.Gen.facts,
    Cert.Mid.Gen.facts, Cert.MidIdeal.Gen.facts, Cert.RefMidIdeal.Gen.facts,
    Cert.Prep.Gen.facts, Cert.PrepIdeal.Gen.facts, Cert.RefPrepIdeal.Gen.facts,
    Cert.Pre_finite_qkv.Gen.facts,
    fun m ρ _ => Cert.Kernel.Gen.frame m ρ, fun m ρ _ => Cert.KernelIdeal.Gen.frame m ρ, fun m ρ _ => Cert.KernelIdeal.Gen.frame m ρ,
    Retention.frame_reference, fun m ρ _ => Retention.frame_reference m ρ trivial,
    fun m ρ _ => Cert.GateUp.Gen.frame m ρ, fun m ρ _ => Cert.GateUpIdeal.Gen.frame m ρ, _root_.GateUp.frame_reference,
    fun m ρ _ => Cert.Down.Gen.frame m ρ, fun m ρ _ => Cert.DownIdeal.Gen.frame m ρ, _root_.Down.frame_reference,
    fun m ρ _ => Cert.OutProj.Gen.frame m ρ, fun m ρ _ => Cert.OutProjIdeal.Gen.frame m ρ, _root_.OutProj.frame_reference,
    fun m ρ _ => Cert.EvenIn.Gen.frame m ρ, fun m ρ _ => Cert.EvenInIdeal.Gen.frame m ρ, _root_.EvenIn.frame_reference,
    fun m ρ _ => Cert.OddIn.Gen.frame m ρ, fun m ρ _ => Cert.OddInIdeal.Gen.frame m ρ, _root_.OddIn.frame_reference,
    fun m ρ _ => Cert.Glu.Gen.frame m ρ, fun m ρ _ => Cert.GluIdeal.Gen.frame m ρ, _root_.Glu.frame_reference,
    fun m ρ _ => Cert.Norm.Gen.frame m ρ, fun m ρ _ => Cert.NormIdeal.Gen.frame m ρ, _root_.Norm.frame_reference,
    fun m ρ _ => Cert.LoraIn.Gen.frame m ρ, fun m ρ _ => Cert.LoraInIdeal.Gen.frame m ρ, _root_.LoraIn.frame_reference,
    fun m ρ _ => Cert.Tail.Gen.frame m ρ, fun m ρ _ => Cert.TailIdeal.Gen.frame m ρ, _root_.Tail.frame_reference,
    fun m ρ _ => Cert.Mid.Gen.frame m ρ, fun m ρ _ => Cert.MidIdeal.Gen.frame m ρ, _root_.Mid.frame_reference,
    fun m ρ _ => Cert.Prep.Gen.frame m ρ, fun m ρ _ => Cert.PrepIdeal.Gen.frame m ρ, _root_.Prep.frame_reference,
    trivial, Retention.algebraic,
    trivial, _root_.GateUp.algebraic,
    trivial, _root_.Down.algebraic,
    trivial, _root_.OutProj.algebraic,
    trivial, _root_.EvenIn.algebraic,
    trivial, _root_.OddIn.algebraic,
    trivial, _root_.Glu.algebraic,
    trivial, _root_.Norm.algebraic,
    trivial, _root_.LoraIn.algebraic,
    trivial, _root_.Tail.algebraic,
    trivial, _root_.Mid.algebraic,
    trivial, _root_.Prep.algebraic⟩

end Cert.Proof

end
